-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_inputs [hPre_finite_inputs : Cert.Pre_finite_inputs.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_inputs.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_inputs [hPre_finite_inputs : Cert.Pre_finite_inputs.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_inputs.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite_inputs [hKernel5Ideal : Cert.Kernel5Ideal.Facts] [hPre_finite_inputs : Cert.Pre_finite_inputs.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_inputs m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite_inputs [hReference5Ideal : Cert.Reference5Ideal.Facts] [hPre_finite_inputs : Cert.Pre_finite_inputs.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_inputs m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v42)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v42) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v76) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v42)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v42) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v76) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v24)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v24) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite_inputs [hKernel5Ideal : Cert.Kernel5Ideal.Facts] [hReference5Ideal : Cert.Reference5Ideal.Facts] [hPre_finite_inputs : Cert.Pre_finite_inputs.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_inputs m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v96) = v0 c
          ∧ r.2.mem ((c.tc : Thread Cert.Reference5Ideal.nD Cert.Reference5Ideal.τ).loc Cert.Reference5Ideal.main_v99) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_inputs : Cert.Pre_finite_inputs.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_inputs (hKernel5Ideal := hKernel5Ideal) (hPre_finite_inputs := hPre_finite_inputs)
    ∧ quiescent_Reference5Ideal (hReference5Ideal := hReference5Ideal)
    ∧ quiescent_Reference5Ideal_pre_finite_inputs (hReference5Ideal := hReference5Ideal) (hPre_finite_inputs := hPre_finite_inputs)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_inputs (hKernel5Ideal := hKernel5Ideal) (hReference5Ideal := hReference5Ideal) (hPre_finite_inputs := hPre_finite_inputs)
-- ==== Pre_finite_inputs.lean ====
abbrev S4x4096x12288 : Shape := ⟨3, ![4, 4096, 12288]⟩
abbrev S4x4096x128 : Shape := ⟨3, ![4, 4096, 128]⟩
abbrev S4x256x3072 : Shape := ⟨3, ![4, 256, 3072]⟩
abbrev S4x256x128 : Shape := ⟨3, ![4, 256, 128]⟩
abbrev S1x16 : Shape := ⟨2, ![1, 16]⟩
abbrev S_ : Shape := ⟨0, ![]⟩

class Facts : Prop where
  bcast_S_S4x4096x12288 : S_.BroadcastsInDim S4x4096x12288 (![] : Fin 0 → Fin S4x4096x12288.rank)
  reducesTo_S4x4096x12288_S_d0_1_2 : S4x4096x12288.ReducesTo [0, 1, 2] S_
  h_S_ : 0 < S_.numel
  bcast_S_S4x4096x128 : S_.BroadcastsInDim S4x4096x128 (![] : Fin 0 → Fin S4x4096x128.rank)
  reducesTo_S4x4096x128_S_d0_1_2 : S4x4096x128.ReducesTo [0, 1, 2] S_
  bcast_S_S4x256x3072 : S_.BroadcastsInDim S4x256x3072 (![] : Fin 0 → Fin S4x256x3072.rank)
  reducesTo_S4x256x3072_S_d0_1_2 : S4x256x3072.ReducesTo [0, 1, 2] S_
  bcast_S_S4x256x128 : S_.BroadcastsInDim S4x256x128 (![] : Fin 0 → Fin S4x256x128.rank)
  reducesTo_S4x256x128_S_d0_1_2 : S4x256x128.ReducesTo [0, 1, 2] S_
  bcast_S_S1x16 : S_.BroadcastsInDim S1x16 (![] : Fin 0 → Fin S1x16.rank)
  reducesTo_S1x16_S_d0_1 : S1x16.ReducesTo [0, 1] S_

variable [Facts]

def fn_part1 {F : FTy → Type} [FloatOps F] (main_arg4 : FVec F S1x16 .f32) (main_v13 : IVec S_ 1) (main_v16 : IVec S4x256x128 1) : IVec S_ 1 :=
  let main_c_5 : IVec S_ 1 := constantI S_ 1 1#1
  let main_v17 : IVec S_ 1 := (fun x v => Host.reduce IntOp.andi x v reducesTo_S4x256x128_S_d0_1_2 h_S_) main_v16 main_c_5
  let main_v18 : IVec S_ 1 := andi main_v13 main_v17
  let main_v19 : FVec F S1x16 .f32 := Host.absf main_arg4
  let main_cst_6 : FVec F S_ .f32 := constant S_ .f32 0x7F800000#32
  let main_v20 : FVec F S1x16 .f32 := broadcastInDim S1x16 ![] bcast_S_S1x16 main_cst_6
  let main_v21 : IVec S1x16 1 := cmpf .olt main_v19 main_v20
  let main_c_7 : IVec S_ 1 := constantI S_ 1 1#1
  let main_v22 : IVec S_ 1 := (fun x v => Host.reduce IntOp.andi x v reducesTo_S1x16_S_d0_1 h_S_) main_v21 main_c_7
  let main_v23 : IVec S_ 1 := andi main_v18 main_v22
  main_v23

def fn {F : FTy → Type} [FloatOps F] (main_arg0 : FVec F S4x4096x12288 .f32) (main_arg1 : FVec F S4x4096x128 .f32) (main_arg2 : FVec F S4x256x3072 .f32) (main_arg3 : FVec F S4x256x128 .f32) (main_arg4 : FVec F S1x16 .f32) : IVec S_ 1 :=
  let main_v0 : FVec F S4x4096x12288 .f32 := Host.absf main_arg0
  let main_cst : FVec F S_ .f32 := constant S_ .f32 0x7F800000#32
  let main_v1 : FVec F S4x4096x12288 .f32 := broadcastInDim S4x4096x12288 ![] bcast_S_S4x4096x12288 main_cst
  let main_v2 : IVec S4x4096x12288 1 := cmpf .olt main_v0 main_v1
  let main_c : IVec S_ 1 := constantI S_ 1 1#1
  let main_v3 : IVec S_ 1 := (fun x v => Host.reduce IntOp.andi x v reducesTo_S4x4096x12288_S_d0_1_2 h_S_) main_v2 main_c
  let main_v4 : FVec F S4x4096x128 .f32 := Host.absf main_arg1
  let main_cst_0 : FVec F S_ .f32 := constant S_ .f32 0x7F800000#32
  let main_v5 : FVec F S4x4096x128 .f32 := broadcastInDim S4x4096x128 ![] bcast_S_S4x4096x128 main_cst_0
  let main_v6 : IVec S4x4096x128 1 := cmpf .olt main_v4 main_v5
  let main_c_1 : IVec S_ 1 := constantI S_ 1 1#1
  let main_v7 : IVec S_ 1 := (fun x v => Host.reduce IntOp.andi x v reducesTo_S4x4096x128_S_d0_1_2 h_S_) main_v6 main_c_1
  let main_v8 : IVec S_ 1 := andi main_v3 main_v7
  let main_v9 : FVec F S4x256x3072 .f32 := Host.absf main_arg2
  let main_cst_2 : FVec F S_ .f32 := constant S_ .f32 0x7F800000#32
  let main_v10 : FVec F S4x256x3072 .f32 := broadcastInDim S4x256x3072 ![] bcast_S_S4x256x3072 main_cst_2
  let main_v11 : IVec S4x256x3072 1 := cmpf .olt main_v9 main_v10
  let main_c_3 : IVec S_ 1 := constantI S_ 1 1#1
  let main_v12 : IVec S_ 1 := (fun x v => Host.reduce IntOp.andi x v reducesTo_S4x256x3072_S_d0_1_2 h_S_) main_v11 main_c_3
  let main_v13 : IVec S_ 1 := andi main_v8 main_v12
  let main_v14 : FVec F S4x256x128 .f32 := Host.absf main_arg3
  let main_cst_4 : FVec F S_ .f32 := constant S_ .f32 0x7F800000#32
  let main_v15 : FVec F S4x256x128 .f32 := broadcastInDim S4x256x128 ![] bcast_S_S4x256x128 main_cst_4
  let main_v16 : IVec S4x256x128 1 := cmpf .olt main_v14 main_v15
  fn_part1 (F := F) main_arg4 main_v13 main_v16
-- ==== Kernel.lean ====
abbrev S4x4096x4096 : Shape := ⟨3, ![4, 4096, 4096]⟩
abbrev S1x3x4096 : Shape := ⟨3, ![1, 3, 4096]⟩
abbrev S4x9x4096 : Shape := ⟨3, ![4, 9, 4096]⟩
abbrev S1x4096x22016 : Shape := ⟨3, ![1, 4096, 22016]⟩
abbrev S1x11008x4096 : Shape := ⟨3, ![1, 11008, 4096]⟩
abbrev S4x9x1x4096 : Shape := ⟨4, ![4, 9, 1, 4096]⟩
abbrev S4x1x1x4096 : Shape := ⟨4, ![4, 1, 1, 4096]⟩
abbrev S4x1x4096 : Shape := ⟨3, ![4, 1, 4096]⟩
abbrev S1x1x4096 : Shape := ⟨3, ![1, 1, 4096]⟩
abbrev S4096 : Shape := ⟨1, ![4096]⟩
abbrev S1x4096 : Shape := ⟨2, ![1, 4096]⟩
abbrev S16384x4096 : Shape := ⟨2, ![16384, 4096]⟩
abbrev S4096x22016 : Shape := ⟨2, ![4096, 22016]⟩
abbrev S11008x4096 : Shape := ⟨2, ![11008, 4096]⟩
abbrev S1024x4096 : Shape := ⟨2, ![1024, 4096]⟩
abbrev S4096x256 : Shape := ⟨2, ![4096, 256]⟩
abbrev S256x4096 : Shape := ⟨2, ![256, 4096]⟩
abbrev S64x4096 : Shape := ⟨2, ![64, 4096]⟩
abbrev S64 : Shape := ⟨1, ![64]⟩
abbrev S64x1 : Shape := ⟨2, ![64, 1]⟩
abbrev S1024x256 : Shape := ⟨2, ![1024, 256]⟩

abbrev nBuf : Space → Nat
  | .hbm => 49
  | .vmem => 19
  | .smem => 0
  | _ => 0

abbrev bufTy : (tb : Table) → Fin (tcTables nBuf tb) → BufTy
  | .hbm, ⟨0, _⟩ => ⟨S4x4096x4096, .f32⟩
  | .hbm, ⟨1, _⟩ => ⟨S1x3x4096, .f32⟩
  | .hbm, ⟨2, _⟩ => ⟨S1x3x4096, .f32⟩
  | .hbm, ⟨3, _⟩ => ⟨S4x9x4096, .f32⟩
  | .hbm, ⟨4, _⟩ => ⟨S1x4096x22016, .f32⟩
  | .hbm, ⟨5, _⟩ => ⟨S1x11008x4096, .f32⟩
  | .hbm, ⟨6, _⟩ => ⟨S4x9x1x4096, .f32⟩
  | .hbm, ⟨7, _⟩ => ⟨S4x1x1x4096, .f32⟩
  | .hbm, ⟨8, _⟩ => ⟨S4x1x4096, .f32⟩
  | .hbm, ⟨9, _⟩ => ⟨S4x1x1x4096, .f32⟩
  | .hbm, ⟨10, _⟩ => ⟨S4x1x4096, .f32⟩
  | .hbm, ⟨11, _⟩ => ⟨S4x1x1x4096, .f32⟩
  | .hbm, ⟨12, _⟩ => ⟨S4x1x4096, .f32⟩
  | .hbm, ⟨13, _⟩ => ⟨S4x1x1x4096, .f32⟩
  | .hbm, ⟨14, _⟩ => ⟨S4x1x4096, .f32⟩
  | .hbm, ⟨15, _⟩ => ⟨S4x1x1x4096, .f32⟩
  | .hbm, ⟨16, _⟩ => ⟨S4x1x4096, .f32⟩
  | .hbm, ⟨17, _⟩ => ⟨S4x1x1x4096, .f32⟩
  | .hbm, ⟨18, _⟩ => ⟨S4x1x4096, .f32⟩
  | .hbm, ⟨19, _⟩ => ⟨S4x1x1x4096, .f32⟩
  | .hbm, ⟨20, _⟩ => ⟨S4x1x4096, .f32⟩
  | .hbm, ⟨21, _⟩ => ⟨S4x1x1x4096, .f32⟩
  | .hbm, ⟨22, _⟩ => ⟨S4x1x4096, .f32⟩
  | .hbm, ⟨23, _⟩ => ⟨S4x1x1x4096, .f32⟩
  | .hbm, ⟨24, _⟩ => ⟨S4x1x4096, .f32⟩
  | .hbm, ⟨25, _⟩ => ⟨S1x1x4096, .f32⟩
  | .hbm, ⟨26, _⟩ => ⟨S4096, .f32⟩
  | .hbm, ⟨27, _⟩ => ⟨S1x4096, .f32⟩
  | .hbm, ⟨28, _⟩ => ⟨S1x1x4096, .f32⟩
  | .hbm, ⟨29, _⟩ => ⟨S4096, .f32⟩
  | .hbm, ⟨30, _⟩ => ⟨S1x4096, .f32⟩
  | .hbm, ⟨31, _⟩ => ⟨S1x1x4096, .f32⟩
  | .hbm, ⟨32, _⟩ => ⟨S4096, .f32⟩
  | .hbm, ⟨33, _⟩ => ⟨S1x4096, .f32⟩
  | .hbm, ⟨34, _⟩ => ⟨S1x1x4096, .f32⟩
  | .hbm, ⟨35, _⟩ => ⟨S4096, .f32⟩
  | .hbm, ⟨36, _⟩ => ⟨S1x4096, .f32⟩
  | .hbm, ⟨37, _⟩ => ⟨S1x1x4096, .f32⟩
  | .hbm, ⟨38, _⟩ => ⟨S4096, .f32⟩
  | .hbm, ⟨39, _⟩ => ⟨S1x4096, .f32⟩
  | .hbm, ⟨40, _⟩ => ⟨S1x1x4096, .f32⟩
  | .hbm, ⟨41, _⟩ => ⟨S4096, .f32⟩
  | .hbm, ⟨42, _⟩ => ⟨S1x4096, .f32⟩
  | .hbm, ⟨43, _⟩ => ⟨S16384x4096, .f32⟩
  | .hbm, ⟨44, _⟩ => ⟨S4096x22016, .f32⟩
  | .hbm, ⟨45, _⟩ => ⟨S4096x22016, .bf16⟩
  | .hbm, ⟨46, _⟩ => ⟨S11008x4096, .f32⟩
  | .hbm, ⟨47, _⟩ => ⟨S11008x4096, .bf16⟩
  | .hbm, ⟨48, _⟩ => ⟨S16384x4096, .f32⟩
  | .local _ .vmem, ⟨0, _⟩ => ⟨S1024x4096, .f32⟩
  | .local _ .vmem, ⟨1, _⟩ => ⟨S1x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x1x4096, .f32⟩
  | .local _ .vmem, ⟨9, _⟩ => ⟨S4096x256, .bf16⟩
  | .local _ .vmem, ⟨10, _⟩ => ⟨S4096x256, .bf16⟩
  | .local _ .vmem, ⟨11, _⟩ => ⟨S4096x256, .bf16⟩
  | .local _ .vmem, ⟨12, _⟩ => ⟨S4096x256, .bf16⟩
  | .local _ .vmem, ⟨13, _⟩ => ⟨S256x4096, .bf16⟩
  | .local _ .vmem, ⟨14, _⟩ => ⟨S256x4096, .bf16⟩
  | .local _ .vmem, ⟨15, _⟩ => ⟨S1x4096, .f32⟩
  | .local _ .vmem, ⟨16, _⟩ => ⟨S1x4096, .f32⟩
  | .local _ .vmem, ⟨17, _⟩ => ⟨S1024x4096, .f32⟩
  | .local _ .vmem, ⟨18, _⟩ => ⟨S1024x4096, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨2, ![16, 43], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_15 : BitVec 32 := 0#32
  let c16_i32 : BitVec 32 := 16#32
  let v24 : BitVec 32 := Scalar.addi c0_i32_15 c16_i32
  let c1_i32 : BitVec 32 := 1#32
  ⟨c0_i32_15, v24, c1_i32⟩
def k0_mult1 (k0_t1 : Fin k0_t1_loop.trips) : BitVec 32 :=
  let c0_i32_15 : BitVec 32 := 0#32
  let c1_i32 : BitVec 32 := 1#32
  let arg15 : BitVec 32 := Scf.iv c0_i32_15 c1_i32 k0_t1
  let c64_i32 : BitVec 32 := 64#32
  let v25 : BitVec 32 := Scalar.muli arg15 c64_i32
  v25
def k0_off1 (k0_t1 : Fin k0_t1_loop.trips) : Fin 2 → Nat :=
  let c0_i32_15 : BitVec 32 := 0#32
  let c1_i32 : BitVec 32 := 1#32
  let arg15 : BitVec 32 := Scf.iv c0_i32_15 c1_i32 k0_t1
  let c64_i32 : BitVec 32 := 64#32
  let v25 : BitVec 32 := Scalar.muli arg15 c64_i32
  let v26 : BitVec 32 := v25
  let v27 : Index := Scalar.indexCast v26
  let c0_17 : Index := 0#32
  ![v27.toNat, 0]
def k0_cond2 (i : grid0.Coords) : BitVec 1 :=
  let arg1 : BitVec 32 := BitVec.ofNat 32 (i 1).val
  let c42_i32 : BitVec 32 := 42#32
  let v21 : BitVec 1 := Scalar.cmpi .eq arg1 c42_i32
  let v22 : BitVec 32 := Scalar.extui v21
  let c0_i32_14 : BitVec 32 := 0#32
  let v23 : BitVec 1 := Scalar.cmpi .ne v22 c0_i32_14
  v23

@[reducible] def k0_t2_loop : Scf.Loop 32 :=
  let c0_i32_15 : BitVec 32 := 0#32
  let c16_i32 : BitVec 32 := 16#32
  let v24 : BitVec 32 := Scalar.addi c0_i32_15 c16_i32
  let c1_i32 : BitVec 32 := 1#32
  ⟨c0_i32_15, v24, c1_i32⟩
def k0_mult2 (k0_t2 : Fin k0_t2_loop.trips) : BitVec 32 :=
  let c0_i32_15 : BitVec 32 := 0#32
  let c1_i32 : BitVec 32 := 1#32
  let arg15 : BitVec 32 := Scf.iv c0_i32_15 c1_i32 k0_t2
  let c64_i32 : BitVec 32 := 64#32
  let v25 : BitVec 32 := Scalar.muli arg15 c64_i32
  v25
def k0_off2 (k0_t2 : Fin k0_t2_loop.trips) : Fin 2 → Nat :=
  let c0_i32_15 : BitVec 32 := 0#32
  let c1_i32 : BitVec 32 := 1#32
  let arg15 : BitVec 32 := Scf.iv c0_i32_15 c1_i32 k0_t2
  let c64_i32 : BitVec 32 := 64#32
  let v25 : BitVec 32 := Scalar.muli arg15 c64_i32
  let v26 : BitVec 32 := v25
  let v27 : Index := Scalar.indexCast v26
  let c0_17 : Index := 0#32
  ![v27.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]
-- ==== ReferenceIdeal.lean ====
abbrev S4x4096x4096 : Shape := ⟨3, ![4, 4096, 4096]⟩
abbrev S1x3x4096 : Shape := ⟨3, ![1, 3, 4096]⟩
abbrev S4x9x4096 : Shape := ⟨3, ![4, 9, 4096]⟩
abbrev S1x4096x22016 : Shape := ⟨3, ![1, 4096, 22016]⟩
abbrev S1x11008x4096 : Shape := ⟨3, ![1, 11008, 4096]⟩
abbrev S1x1x4096 : Shape := ⟨3, ![1, 1, 4096]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4096x22016 : Shape := ⟨2, ![4096, 22016]⟩
abbrev S11008x4096 : Shape := ⟨2, ![11008, 4096]⟩
abbrev S4x4096x22016 : Shape := ⟨3, ![4, 4096, 22016]⟩
abbrev S4x4096x11008 : Shape := ⟨3, ![4, 4096, 11008]⟩
abbrev S16384x4096 : Shape := ⟨2, ![16384, 4096]⟩

abbrev nBuf : Space → Nat
  | .hbm => 114
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1x3x4096, .f32⟩
  | .hbm, ⟨2, _⟩ => ⟨S1x3x4096, .f32⟩
  | .hbm, ⟨3, _⟩ => ⟨S4x9x4096, .f32⟩
  | .hbm, ⟨4, _⟩ => ⟨S1x4096x22016, .f32⟩
  | .hbm, ⟨5, _⟩ => ⟨S1x11008x4096, .f32⟩
  | .hbm, ⟨6, _⟩ => ⟨S1x1x4096, .f32⟩
  | .hbm, ⟨7, _⟩ => ⟨S4096, .f32⟩
  | .hbm, ⟨8, _⟩ => ⟨S1x1x4096, .f32⟩
  | .hbm, ⟨9, _⟩ => ⟨S4096, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x4096, .f32⟩
  | .hbm, ⟨17, _⟩ => ⟨S4x4096x4096, .f32⟩
  | .hbm, ⟨18, _⟩ => ⟨S4x4096x4096, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x4096, .f32⟩
  | .hbm, ⟨26, _⟩ => ⟨S4x4096x4096, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S4x4096x1, .f32⟩
  | .hbm, ⟨31, _⟩ => ⟨S4x4096x4096, .f32⟩
  | .hbm, ⟨32, _⟩ => ⟨S4x4096x4096, .f32⟩
  | .hbm, ⟨33, _⟩ => ⟨S1x1x4096, .f32⟩
  | .hbm, ⟨34, _⟩ => ⟨S4x4096x4096, .f32⟩
  | .hbm, ⟨35, _⟩ => ⟨S4x4096x4096, .f32⟩
  | .hbm, ⟨36, _⟩ => ⟨S1x1x4096, .f32⟩
  | .hbm, ⟨37, _⟩ => ⟨S4x4096x4096, .f32⟩
  | .hbm, ⟨38, _⟩ => ⟨S4x4096x4096, .f32⟩
  | .hbm, ⟨39, _⟩ => ⟨S_, .f32⟩
  | .hbm, ⟨40, _⟩ => ⟨S4x4096x4096, .f32⟩
  | .hbm, ⟨41, _⟩ => ⟨S4x4096x4096, .f32⟩
  | .hbm, ⟨42, _⟩ => ⟨S4x1x4096, .f32⟩
  | .hbm, ⟨43, _⟩ => ⟨S4x4096, .f32⟩
  | .hbm, ⟨44, _⟩ => ⟨S4x1x4096, .f32⟩
  | .hbm, ⟨45, _⟩ => ⟨S_, .f32⟩
  | .hbm, ⟨46, _⟩ => ⟨S4x1x4096, .f32⟩
  | .hbm, ⟨47, _⟩ => ⟨S4x1x4096, .f32⟩
  | .hbm, ⟨48, _⟩ => ⟨S4x1x4096, .f32⟩
  | .hbm, ⟨49, _⟩ => ⟨S4x4096, .f32⟩
  | .hbm, ⟨50, _⟩ => ⟨S4x1x4096, .f32⟩
  | .hbm, ⟨51, _⟩ => ⟨S_, .f32⟩
  | .hbm, ⟨52, _⟩ => ⟨S4x1x4096, .f32⟩
  | .hbm, ⟨53, _⟩ => ⟨S4x1x4096, .f32⟩
  | .hbm, ⟨54, _⟩ => ⟨S4x4096x4096, .f32⟩
  | .hbm, ⟨55, _⟩ => ⟨S4x4096x4096, .f32⟩
  | .hbm, ⟨56, _⟩ => ⟨S4x1x4096, .f32⟩
  | .hbm, ⟨57, _⟩ => ⟨S4x4096, .f32⟩
  | .hbm, ⟨58, _⟩ => ⟨S4x1x4096, .f32⟩
  | .hbm, ⟨59, _⟩ => ⟨S4x4096x4096, .f32⟩
  | .hbm, ⟨60, _⟩ => ⟨S4x4096x4096, .f32⟩
  | .hbm, ⟨61, _⟩ => ⟨S4096x22016, .f32⟩
  | .hbm, ⟨62, _⟩ => ⟨S11008x4096, .f32⟩
  | .hbm, ⟨63, _⟩ => ⟨S4x4096x22016, .f32⟩
  | .hbm, ⟨64, _⟩ => ⟨S4x4096x11008, .f32⟩
  | .hbm, ⟨65, _⟩ => ⟨S4x4096x11008, .f32⟩
  | .hbm, ⟨66, _⟩ => ⟨S4x4096x11008, .f32⟩
  | .hbm, ⟨67, _⟩ => ⟨S4x4096x11008, .f32⟩
  | .hbm, ⟨68, _⟩ => ⟨S_, .f32⟩
  | .hbm, ⟨69, _⟩ => ⟨S4x4096x11008, .f32⟩
  | .hbm, ⟨70, _⟩ => ⟨S4x4096x11008, .f32⟩
  | .hbm, ⟨71, _⟩ => ⟨S_, .f32⟩
  | .hbm, ⟨72, _⟩ => ⟨S4x4096x11008, .f32⟩
  | .hbm, ⟨73, _⟩ => ⟨S4x4096x11008, .f32⟩
  | .hbm, ⟨74, _⟩ => ⟨S4x4096x11008, .f32⟩
  | .hbm, ⟨75, _⟩ => ⟨S4x4096x11008, .f32⟩
  | .hbm, ⟨76, _⟩ => ⟨S4x4096x4096, .f32⟩
  | .hbm, ⟨77, _⟩ => ⟨S4x4096x4096, .f32⟩
  | .hbm, ⟨78, _⟩ => ⟨S4x4096x4096, .f32⟩
  | .hbm, ⟨79, _⟩ => ⟨S4x4096x4096, .f32⟩
  | .hbm, ⟨80, _⟩ => ⟨S1x1x4096, .f32⟩
  | .hbm, ⟨81, _⟩ => ⟨S4096, .f32⟩
  | .hbm, ⟨82, _⟩ => ⟨S1x1x4096, .f32⟩
  | .hbm, ⟨83, _⟩ => ⟨S4096, .f32⟩
  | .hbm, ⟨84, _⟩ => ⟨S_, .f32⟩
  | .hbm, ⟨85, _⟩ => ⟨S4x4096, .f32⟩
  | .hbm, ⟨86, _⟩ => ⟨S4x4096x1, .f32⟩
  | .hbm, ⟨87, _⟩ => ⟨S_, .f32⟩
  | .hbm, ⟨88, _⟩ => ⟨S4x4096x1, .f32⟩
  | .hbm, ⟨89, _⟩ => ⟨S4x4096x1, .f32⟩
  | .hbm, ⟨90, _⟩ => ⟨S4x4096x4096, .f32⟩
  | .hbm, ⟨91, _⟩ => ⟨S4x4096x4096, .f32⟩
  | .hbm, ⟨92, _⟩ => ⟨S4x4096x4096, .f32⟩
  | .hbm, ⟨93, _⟩ => ⟨S_, .f32⟩
  | .hbm, ⟨94, _⟩ => ⟨S4x4096, .f32⟩
  | .hbm, ⟨95, _⟩ => ⟨S4x4096x1, .f32⟩
  | .hbm, ⟨96, _⟩ => ⟨S_, .f32⟩
  | .hbm, ⟨97, _⟩ => ⟨S4x4096x1, .f32⟩
  | .hbm, ⟨98, _⟩ => ⟨S4x4096x1, .f32⟩
  | .hbm, ⟨99, _⟩ => ⟨S4x4096x4096, .f32⟩
  | .hbm, ⟨100, _⟩ => ⟨S4x4096x4096, .f32⟩
  | .hbm, ⟨101, _⟩ => ⟨S_, .f32⟩
  | .hbm, ⟨102, _⟩ => ⟨S4x4096x1, .f32⟩
  | .hbm, ⟨103, _⟩ => ⟨S4x4096x1, .f32⟩
  | .hbm, ⟨104, _⟩ => ⟨S4x4096x1, .f32⟩
  | .hbm, ⟨105, _⟩ => ⟨S4x4096x4096, .f32⟩
  | .hbm, ⟨106, _⟩ => ⟨S4x4096x4096, .f32⟩
  | .hbm, ⟨107, _⟩ => ⟨S1x1x4096, .f32⟩
  | .hbm, ⟨108, _⟩ => ⟨S4x4096x4096, .f32⟩
  | .hbm, ⟨109, _⟩ => ⟨S4x4096x4096, .f32⟩
  | .hbm, ⟨110, _⟩ => ⟨S1x1x4096, .f32⟩
  | .hbm, ⟨111, _⟩ => ⟨S4x4096x4096, .f32⟩
  | .hbm, ⟨112, _⟩ => ⟨S4x4096x4096, .f32⟩
  | .hbm, ⟨113, _⟩ => ⟨S16384x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_call0_v0 : Ref sig .tc := ⟨.hbm, 66, rfl⟩
abbrev main_call0_v1 : Ref sig .tc := ⟨.hbm, 67, rfl⟩
abbrev main_call0_cst : Ref sig .tc := ⟨.hbm, 68, rfl⟩
abbrev main_call0_v2 : Ref sig .tc := ⟨.hbm, 69, rfl⟩
abbrev main_call0_v3 : Ref sig .tc := ⟨.hbm, 70, rfl⟩
abbrev main_call0_cst_0 : Ref sig .tc := ⟨.hbm, 71, rfl⟩
abbrev main_call0_v4 : Ref sig .tc := ⟨.hbm, 72, rfl⟩
abbrev main_call0_v5 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_7 : Ref sig .tc := ⟨.hbm, 84, rfl⟩
abbrev main_v62 : Ref sig .tc := ⟨.hbm, 85, rfl⟩
abbrev main_v63 : Ref sig .tc := ⟨.hbm, 86, rfl⟩
abbrev main_cst_8 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_9 : Ref sig .tc := ⟨.hbm, 93, rfl⟩
abbrev main_v69 : Ref sig .tc := ⟨.hbm, 94, rfl⟩
abbrev main_v70 : Ref sig .tc := ⟨.hbm, 95, rfl⟩
abbrev main_cst_10 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_11 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩

abbrev nD : Nat := 1
abbrev τ : Topo := Topo.v7x

variable {F : FTy → Type} [FloatOps F]
-- ==== Kernel2.lean ====
abbrev S4x4096x4096 : Shape := ⟨3, ![4, 4096, 4096]⟩
abbrev S1x3x4096 : Shape := ⟨3, ![1, 3, 4096]⟩
abbrev S4x9x4096 : Shape := ⟨3, ![4, 9, 4096]⟩
abbrev S1x4096x22016 : Shape := ⟨3, ![1, 4096, 22016]⟩
abbrev S1x11008x4096 : Shape := ⟨3, ![1, 11008, 4096]⟩
abbrev S4x9x1x4096 : Shape := ⟨4, ![4, 9, 1, 4096]⟩
abbrev S4x1x1x4096 : Shape := ⟨4, ![4, 1, 1, 4096]⟩
abbrev S4x1x4096 : Shape := ⟨3, ![4, 1, 4096]⟩
abbrev S1x1x4096 : Shape := ⟨3, ![1, 1, 4096]⟩
abbrev S4096 : Shape := ⟨1, ![4096]⟩
abbrev S1x4096 : Shape := ⟨2, ![1, 4096]⟩
abbrev S16384x4096 : Shape := ⟨2, ![16384, 4096]⟩
abbrev S4096x22016 : Shape := ⟨2, ![4096, 22016]⟩
abbrev S11008x4096 : Shape := ⟨2, ![11008, 4096]⟩
abbrev S1024x4096 : Shape := ⟨2, ![1024, 4096]⟩
abbrev S4096x256 : Shape := ⟨2, ![4096, 256]⟩
abbrev S256x4096 : Shape := ⟨2, ![256, 4096]⟩
abbrev S64x4096 : Shape := ⟨2, ![64, 4096]⟩
abbrev S64 : Shape := ⟨1, ![64]⟩
abbrev S64x1 : Shape := ⟨2, ![64, 1]⟩
abbrev S1024x256 : Shape := ⟨2, ![1024, 256]⟩

abbrev nBuf : Space → Nat
  | .hbm => 49
  | .vmem => 19
  | .smem => 0
  | _ => 0

abbrev bufTy : (tb : Table) → Fin (tcTables nBuf tb) → BufTy
  | .hbm, ⟨0, _⟩ => ⟨S4x4096x4096, .f32⟩
  | .hbm, ⟨1, _⟩ => ⟨S1x3x4096, .f32⟩
  | .hbm, ⟨2, _⟩ => ⟨S1x3x4096, .f32⟩
  | .hbm, ⟨3, _⟩ => ⟨S4x9x4096, .f32⟩
  | .hbm, ⟨4, _⟩ => ⟨S1x4096x22016, .f32⟩
  | .hbm, ⟨5, _⟩ => ⟨S1x11008x4096, .f32⟩
  | .hbm, ⟨6, _⟩ => ⟨S4x9x1x4096, .f32⟩
  | .hbm, ⟨7, _⟩ => ⟨S4x1x1x4096, .f32⟩
  | .hbm, ⟨8, _⟩ => ⟨S4x1x4096, .f32⟩
  | .hbm, ⟨9, _⟩ => ⟨S4x1x1x4096, .f32⟩
  | .hbm, ⟨10, _⟩ => ⟨S4x1x4096, .f32⟩
  | .hbm, ⟨11, _⟩ => ⟨S4x1x1x4096, .f32⟩
  | .hbm, ⟨12, _⟩ => ⟨S4x1x4096, .f32⟩
  | .hbm, ⟨13, _⟩ => ⟨S4x1x1x4096, .f32⟩
  | .hbm, ⟨14, _⟩ => ⟨S4x1x4096, .f32⟩
  | .hbm, ⟨15, _⟩ => ⟨S4x1x1x4096, .f32⟩
  | .hbm, ⟨16, _⟩ => ⟨S4x1x4096, .f32⟩
  | .hbm, ⟨17, _⟩ => ⟨S4x1x1x4096, .f32⟩
  | .hbm, ⟨18, _⟩ => ⟨S4x1x4096, .f32⟩
  | .hbm, ⟨19, _⟩ => ⟨S4x1x1x4096, .f32⟩
  | .hbm, ⟨20, _⟩ => ⟨S4x1x4096, .f32⟩
  | .hbm, ⟨21, _⟩ => ⟨S4x1x1x4096, .f32⟩
  | .hbm, ⟨22, _⟩ => ⟨S4x1x4096, .f32⟩
  | .hbm, ⟨23, _⟩ => ⟨S4x1x1x4096, .f32⟩
  | .hbm, ⟨24, _⟩ => ⟨S4x1x4096, .f32⟩
  | .hbm, ⟨25, _⟩ => ⟨S1x1x4096, .f32⟩
  | .hbm, ⟨26, _⟩ => ⟨S4096, .f32⟩
  | .hbm, ⟨27, _⟩ => ⟨S1x4096, .f32⟩
  | .hbm, ⟨28, _⟩ => ⟨S1x1x4096, .f32⟩
  | .hbm, ⟨29, _⟩ => ⟨S4096, .f32⟩
  | .hbm, ⟨30, _⟩ => ⟨S1x4096, .f32⟩
  | .hbm, ⟨31, _⟩ => ⟨S1x1x4096, .f32⟩
  | .hbm, ⟨32, _⟩ => ⟨S4096, .f32⟩
  | .hbm, ⟨33, _⟩ => ⟨S1x4096, .f32⟩
  | .hbm, ⟨34, _⟩ => ⟨S1x1x4096, .f32⟩
  | .hbm, ⟨35, _⟩ => ⟨S4096, .f32⟩
  | .hbm, ⟨36, _⟩ => ⟨S1x4096, .f32⟩
  | .hbm, ⟨37, _⟩ => ⟨S1x1x4096, .f32⟩
  | .hbm, ⟨38, _⟩ => ⟨S4096, .f32⟩
  | .hbm, ⟨39, _⟩ => ⟨S1x4096, .f32⟩
  | .hbm, ⟨40, _⟩ => ⟨S1x1x4096, .f32⟩
  | .hbm, ⟨41, _⟩ => ⟨S4096, .f32⟩
  | .hbm, ⟨42, _⟩ => ⟨S1x4096, .f32⟩
  | .hbm, ⟨43, _⟩ => ⟨S16384x4096, .f32⟩
  | .hbm, ⟨44, _⟩ => ⟨S4096x22016, .f32⟩
  | .hbm, ⟨45, _⟩ => ⟨S4096x22016, .bf16⟩
  | .hbm, ⟨46, _⟩ => ⟨S11008x4096, .f32⟩
  | .hbm, ⟨47, _⟩ => ⟨S11008x4096, .bf16⟩
  | .hbm, ⟨48, _⟩ => ⟨S16384x4096, .f32⟩
  | .local _ .vmem, ⟨0, _⟩ => ⟨S1024x4096, .f32⟩
  | .local _ .vmem, ⟨1, _⟩ => ⟨S1x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x1x4096, .f32⟩
  | .local _ .vmem, ⟨9, _⟩ => ⟨S4096x256, .bf16⟩
  | .local _ .vmem, ⟨10, _⟩ => ⟨S4096x256, .bf16⟩
  | .local _ .vmem, ⟨11, _⟩ => ⟨S4096x256, .bf16⟩
  | .local _ .vmem, ⟨12, _⟩ => ⟨S4096x256, .bf16⟩
  | .local _ .vmem, ⟨13, _⟩ => ⟨S256x4096, .bf16⟩
  | .local _ .vmem, ⟨14, _⟩ => ⟨S256x4096, .bf16⟩
  | .local _ .vmem, ⟨15, _⟩ => ⟨S1x4096, .f32⟩
  | .local _ .vmem, ⟨16, _⟩ => ⟨S1x4096, .f32⟩
  | .local _ .vmem, ⟨17, _⟩ => ⟨S1024x4096, .f32⟩
  | .local _ .vmem, ⟨18, _⟩ => ⟨S1024x4096, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨2, ![16, 43], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_15 : BitVec 32 := 0#32
  let c16_i32 : BitVec 32 := 16#32
  let v24 : BitVec 32 := Scalar.addi c0_i32_15 c16_i32
  let c1_i32 : BitVec 32 := 1#32
  ⟨c0_i32_15, v24, c1_i32⟩
def k0_mult1 (k0_t1 : Fin k0_t1_loop.trips) : BitVec 32 :=
  let c0_i32_15 : BitVec 32 := 0#32
  let c1_i32 : BitVec 32 := 1#32
  let arg15 : BitVec 32 := Scf.iv c0_i32_15 c1_i32 k0_t1
  let c64_i32 : BitVec 32 := 64#32
  let v25 : BitVec 32 := Scalar.muli arg15 c64_i32
  v25
def k0_off1 (k0_t1 : Fin k0_t1_loop.trips) : Fin 2 → Nat :=
  let c0_i32_15 : BitVec 32 := 0#32
  let c1_i32 : BitVec 32 := 1#32
  let arg15 : BitVec 32 := Scf.iv c0_i32_15 c1_i32 k0_t1
  let c64_i32 : BitVec 32 := 64#32
  let v25 : BitVec 32 := Scalar.muli arg15 c64_i32
  let v26 : BitVec 32 := v25
  let v27 : Index := Scalar.indexCast v26
  let c0_17 : Index := 0#32
  ![v27.toNat, 0]
def k0_cond2 (i : grid0.Coords) : BitVec 1 :=
  let arg1 : BitVec 32 := BitVec.ofNat 32 (i 1).val
  let c42_i32 : BitVec 32 := 42#32
  let v21 : BitVec 1 := Scalar.cmpi .eq arg1 c42_i32
  let v22 : BitVec 32 := Scalar.extui v21
  let c0_i32_14 : BitVec 32 := 0#32
  let v23 : BitVec 1 := Scalar.cmpi .ne v22 c0_i32_14
  v23

@[reducible] def k0_t2_loop : Scf.Loop 32 :=
  let c0_i32_15 : BitVec 32 := 0#32
  let c16_i32 : BitVec 32 := 16#32
  let v24 : BitVec 32 := Scalar.addi c0_i32_15 c16_i32
  let c1_i32 : BitVec 32 := 1#32
  ⟨c0_i32_15, v24, c1_i32⟩
def k0_mult2 (k0_t2 : Fin k0_t2_loop.trips) : BitVec 32 :=
  let c0_i32_15 : BitVec 32 := 0#32
  let c1_i32 : BitVec 32 := 1#32
  let arg15 : BitVec 32 := Scf.iv c0_i32_15 c1_i32 k0_t2
  let c64_i32 : BitVec 32 := 64#32
  let v25 : BitVec 32 := Scalar.muli arg15 c64_i32
  v25
def k0_off2 (k0_t2 : Fin k0_t2_loop.trips) : Fin 2 → Nat :=
  let c0_i32_15 : BitVec 32 := 0#32
  let c1_i32 : BitVec 32 := 1#32
  let arg15 : BitVec 32 := Scf.iv c0_i32_15 c1_i32 k0_t2
  let c64_i32 : BitVec 32 := 64#32
  let v25 : BitVec 32 := Scalar.muli arg15 c64_i32
  let v26 : BitVec 32 := v25
  let v27 : Index := Scalar.indexCast v26
  let c0_17 : Index := 0#32
  ![v27.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]
-- ==== Reference2Ideal.lean ====
abbrev S4x4096x4096 : Shape := ⟨3, ![4, 4096, 4096]⟩
abbrev S1x3x4096 : Shape := ⟨3, ![1, 3, 4096]⟩
abbrev S4x9x4096 : Shape := ⟨3, ![4, 9, 4096]⟩
abbrev S1x4096x22016 : Shape := ⟨3, ![1, 4096, 22016]⟩
abbrev S1x11008x4096 : Shape := ⟨3, ![1, 11008, 4096]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4096x22016 : Shape := ⟨2, ![4096, 22016]⟩
abbrev S11008x4096 : Shape := ⟨2, ![11008, 4096]⟩
abbrev S4x4096x22016 : Shape := ⟨3, ![4, 4096, 22016]⟩
abbrev S4x4096x11008 : Shape := ⟨3, ![4, 4096, 11008]⟩
abbrev S1x1x4096 : Shape := ⟨3, ![1, 1, 4096]⟩
abbrev S4096 : Shape := ⟨1, ![4096]⟩
abbrev S16384x4096 : Shape := ⟨2, ![16384, 4096]⟩

abbrev nBuf : Space → Nat
  | .hbm => 104
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1x3x4096, .f32⟩
  | .hbm, ⟨2, _⟩ => ⟨S1x3x4096, .f32⟩
  | .hbm, ⟨3, _⟩ => ⟨S4x9x4096, .f32⟩
  | .hbm, ⟨4, _⟩ => ⟨S1x4096x22016, .f32⟩
  | .hbm, ⟨5, _⟩ => ⟨S1x11008x4096, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x4096, .f32⟩
  | .hbm, ⟨22, _⟩ => ⟨S4x4096x4096, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S4x4096x1, .f32⟩
  | .hbm, ⟨27, _⟩ => ⟨S4x4096x4096, .f32⟩
  | .hbm, ⟨28, _⟩ => ⟨S4x4096x4096, .f32⟩
  | .hbm, ⟨29, _⟩ => ⟨S_, .f32⟩
  | .hbm, ⟨30, _⟩ => ⟨S4x4096x4096, .f32⟩
  | .hbm, ⟨31, _⟩ => ⟨S4x4096x4096, .f32⟩
  | .hbm, ⟨32, _⟩ => ⟨S4x1x4096, .f32⟩
  | .hbm, ⟨33, _⟩ => ⟨S4x4096, .f32⟩
  | .hbm, ⟨34, _⟩ => ⟨S4x1x4096, .f32⟩
  | .hbm, ⟨35, _⟩ => ⟨S_, .f32⟩
  | .hbm, ⟨36, _⟩ => ⟨S4x1x4096, .f32⟩
  | .hbm, ⟨37, _⟩ => ⟨S4x1x4096, .f32⟩
  | .hbm, ⟨38, _⟩ => ⟨S4x1x4096, .f32⟩
  | .hbm, ⟨39, _⟩ => ⟨S4x4096, .f32⟩
  | .hbm, ⟨40, _⟩ => ⟨S4x1x4096, .f32⟩
  | .hbm, ⟨41, _⟩ => ⟨S_, .f32⟩
  | .hbm, ⟨42, _⟩ => ⟨S4x1x4096, .f32⟩
  | .hbm, ⟨43, _⟩ => ⟨S4x1x4096, .f32⟩
  | .hbm, ⟨44, _⟩ => ⟨S4x4096x4096, .f32⟩
  | .hbm, ⟨45, _⟩ => ⟨S4x4096x4096, .f32⟩
  | .hbm, ⟨46, _⟩ => ⟨S4x1x4096, .f32⟩
  | .hbm, ⟨47, _⟩ => ⟨S4x4096, .f32⟩
  | .hbm, ⟨48, _⟩ => ⟨S4x1x4096, .f32⟩
  | .hbm, ⟨49, _⟩ => ⟨S4x4096x4096, .f32⟩
  | .hbm, ⟨50, _⟩ => ⟨S4x4096x4096, .f32⟩
  | .hbm, ⟨51, _⟩ => ⟨S4096x22016, .f32⟩
  | .hbm, ⟨52, _⟩ => ⟨S11008x4096, .f32⟩
  | .hbm, ⟨53, _⟩ => ⟨S4x4096x22016, .f32⟩
  | .hbm, ⟨54, _⟩ => ⟨S4x4096x11008, .f32⟩
  | .hbm, ⟨55, _⟩ => ⟨S4x4096x11008, .f32⟩
  | .hbm, ⟨56, _⟩ => ⟨S4x4096x11008, .f32⟩
  | .hbm, ⟨57, _⟩ => ⟨S4x4096x11008, .f32⟩
  | .hbm, ⟨58, _⟩ => ⟨S_, .f32⟩
  | .hbm, ⟨59, _⟩ => ⟨S4x4096x11008, .f32⟩
  | .hbm, ⟨60, _⟩ => ⟨S4x4096x11008, .f32⟩
  | .hbm, ⟨61, _⟩ => ⟨S_, .f32⟩
  | .hbm, ⟨62, _⟩ => ⟨S4x4096x11008, .f32⟩
  | .hbm, ⟨63, _⟩ => ⟨S4x4096x11008, .f32⟩
  | .hbm, ⟨64, _⟩ => ⟨S4x4096x11008, .f32⟩
  | .hbm, ⟨65, _⟩ => ⟨S4x4096x11008, .f32⟩
  | .hbm, ⟨66, _⟩ => ⟨S4x4096x4096, .f32⟩
  | .hbm, ⟨67, _⟩ => ⟨S4x4096x4096, .f32⟩
  | .hbm, ⟨68, _⟩ => ⟨S4x4096x4096, .f32⟩
  | .hbm, ⟨69, _⟩ => ⟨S4x4096x4096, .f32⟩
  | .hbm, ⟨70, _⟩ => ⟨S1x1x4096, .f32⟩
  | .hbm, ⟨71, _⟩ => ⟨S4096, .f32⟩
  | .hbm, ⟨72, _⟩ => ⟨S1x1x4096, .f32⟩
  | .hbm, ⟨73, _⟩ => ⟨S4096, .f32⟩
  | .hbm, ⟨74, _⟩ => ⟨S_, .f32⟩
  | .hbm, ⟨75, _⟩ => ⟨S4x4096, .f32⟩
  | .hbm, ⟨76, _⟩ => ⟨S4x4096x1, .f32⟩
  | .hbm, ⟨77, _⟩ => ⟨S_, .f32⟩
  | .hbm, ⟨78, _⟩ => ⟨S4x4096x1, .f32⟩
  | .hbm, ⟨79, _⟩ => ⟨S4x4096x1, .f32⟩
  | .hbm, ⟨80, _⟩ => ⟨S4x4096x4096, .f32⟩
  | .hbm, ⟨81, _⟩ => ⟨S4x4096x4096, .f32⟩
  | .hbm, ⟨82, _⟩ => ⟨S4x4096x4096, .f32⟩
  | .hbm, ⟨83, _⟩ => ⟨S_, .f32⟩
  | .hbm, ⟨84, _⟩ => ⟨S4x4096, .f32⟩
  | .hbm, ⟨85, _⟩ => ⟨S4x4096x1, .f32⟩
  | .hbm, ⟨86, _⟩ => ⟨S_, .f32⟩
  | .hbm, ⟨87, _⟩ => ⟨S4x4096x1, .f32⟩
  | .hbm, ⟨88, _⟩ => ⟨S4x4096x1, .f32⟩
  | .hbm, ⟨89, _⟩ => ⟨S4x4096x4096, .f32⟩
  | .hbm, ⟨90, _⟩ => ⟨S4x4096x4096, .f32⟩
  | .hbm, ⟨91, _⟩ => ⟨S_, .f32⟩
  | .hbm, ⟨92, _⟩ => ⟨S4x4096x1, .f32⟩
  | .hbm, ⟨93, _⟩ => ⟨S4x4096x1, .f32⟩
  | .hbm, ⟨94, _⟩ => ⟨S4x4096x1, .f32⟩
  | .hbm, ⟨95, _⟩ => ⟨S4x4096x4096, .f32⟩
  | .hbm, ⟨96, _⟩ => ⟨S4x4096x4096, .f32⟩
  | .hbm, ⟨97, _⟩ => ⟨S1x1x4096, .f32⟩
  | .hbm, ⟨98, _⟩ => ⟨S4x4096x4096, .f32⟩
  | .hbm, ⟨99, _⟩ => ⟨S4x4096x4096, .f32⟩
  | .hbm, ⟨100, _⟩ => ⟨S1x1x4096, .f32⟩
  | .hbm, ⟨101, _⟩ => ⟨S4x4096x4096, .f32⟩
  | .hbm, ⟨102, _⟩ => ⟨S4x4096x4096, .f32⟩
  | .hbm, ⟨103, _⟩ => ⟨S16384x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_7 : Ref sig .tc := ⟨.hbm, 74, rfl⟩
abbrev main_v52 : Ref sig .tc := ⟨.hbm, 75, rfl⟩
abbrev main_v53 : Ref sig .tc := ⟨.hbm, 76, rfl⟩
abbrev main_cst_8 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_9 : Ref sig .tc := ⟨.hbm, 83, rfl⟩
abbrev main_v59 : Ref sig .tc := ⟨.hbm, 84, rfl⟩
abbrev main_v60 : Ref sig .tc := ⟨.hbm, 85, rfl⟩
abbrev main_cst_10 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩

abbrev nD : Nat := 1
abbrev τ : Topo := Topo.v7x

variable {F : FTy → Type} [FloatOps F]
-- ==== Kernel3.lean ====
abbrev S4x256x4096 : Shape := ⟨3, ![4, 256, 4096]⟩
abbrev S1x3x4096 : Shape := ⟨3, ![1, 3, 4096]⟩
abbrev S1x9x4096 : Shape := ⟨3, ![1, 9, 4096]⟩
abbrev S1x4096x22016 : Shape := ⟨3, ![1, 4096, 22016]⟩
abbrev S1x11008x4096 : Shape := ⟨3, ![1, 11008, 4096]⟩
abbrev S1x9x1x4096 : Shape := ⟨4, ![1, 9, 1, 4096]⟩
abbrev S1x1x1x4096 : Shape := ⟨4, ![1, 1, 1, 4096]⟩
abbrev S1x1x4096 : Shape := ⟨3, ![1, 1, 4096]⟩
abbrev S4096 : Shape := ⟨1, ![4096]⟩
abbrev S1x4096 : Shape := ⟨2, ![1, 4096]⟩
abbrev S1024x4096 : Shape := ⟨2, ![1024, 4096]⟩
abbrev S4096x22016 : Shape := ⟨2, ![4096, 22016]⟩
abbrev S11008x4096 : Shape := ⟨2, ![11008, 4096]⟩
abbrev S4096x256 : Shape := ⟨2, ![4096, 256]⟩
abbrev S256x4096 : Shape := ⟨2, ![256, 4096]⟩
abbrev S64x4096 : Shape := ⟨2, ![64, 4096]⟩
abbrev S64 : Shape := ⟨1, ![64]⟩
abbrev S64x1 : Shape := ⟨2, ![64, 1]⟩
abbrev S1024x256 : Shape := ⟨2, ![1024, 256]⟩

abbrev nBuf : Space → Nat
  | .hbm => 49
  | .vmem => 16
  | .smem => 0
  | _ => 0

abbrev bufTy : (tb : Table) → Fin (tcTables nBuf tb) → BufTy
  | .hbm, ⟨0, _⟩ => ⟨S4x256x4096, .f32⟩
  | .hbm, ⟨1, _⟩ => ⟨S1x3x4096, .f32⟩
  | .hbm, ⟨2, _⟩ => ⟨S1x3x4096, .f32⟩
  | .hbm, ⟨3, _⟩ => ⟨S1x9x4096, .f32⟩
  | .hbm, ⟨4, _⟩ => ⟨S1x4096x22016, .f32⟩
  | .hbm, ⟨5, _⟩ => ⟨S1x11008x4096, .f32⟩
  | .hbm, ⟨6, _⟩ => ⟨S1x9x1x4096, .f32⟩
  | .hbm, ⟨7, _⟩ => ⟨S1x1x1x4096, .f32⟩
  | .hbm, ⟨8, _⟩ => ⟨S1x1x4096, .f32⟩
  | .hbm, ⟨9, _⟩ => ⟨S1x1x1x4096, .f32⟩
  | .hbm, ⟨10, _⟩ => ⟨S1x1x4096, .f32⟩
  | .hbm, ⟨11, _⟩ => ⟨S1x1x1x4096, .f32⟩
  | .hbm, ⟨12, _⟩ => ⟨S1x1x4096, .f32⟩
  | .hbm, ⟨13, _⟩ => ⟨S1x1x1x4096, .f32⟩
  | .hbm, ⟨14, _⟩ => ⟨S1x1x4096, .f32⟩
  | .hbm, ⟨15, _⟩ => ⟨S1x1x1x4096, .f32⟩
  | .hbm, ⟨16, _⟩ => ⟨S1x1x4096, .f32⟩
  | .hbm, ⟨17, _⟩ => ⟨S1x1x1x4096, .f32⟩
  | .hbm, ⟨18, _⟩ => ⟨S1x1x4096, .f32⟩
  | .hbm, ⟨19, _⟩ => ⟨S1x1x1x4096, .f32⟩
  | .hbm, ⟨20, _⟩ => ⟨S1x1x4096, .f32⟩
  | .hbm, ⟨21, _⟩ => ⟨S1x1x1x4096, .f32⟩
  | .hbm, ⟨22, _⟩ => ⟨S1x1x4096, .f32⟩
  | .hbm, ⟨23, _⟩ => ⟨S1x1x1x4096, .f32⟩
  | .hbm, ⟨24, _⟩ => ⟨S1x1x4096, .f32⟩
  | .hbm, ⟨25, _⟩ => ⟨S1x1x4096, .f32⟩
  | .hbm, ⟨26, _⟩ => ⟨S4096, .f32⟩
  | .hbm, ⟨27, _⟩ => ⟨S1x4096, .f32⟩
  | .hbm, ⟨28, _⟩ => ⟨S1x1x4096, .f32⟩
  | .hbm, ⟨29, _⟩ => ⟨S4096, .f32⟩
  | .hbm, ⟨30, _⟩ => ⟨S1x4096, .f32⟩
  | .hbm, ⟨31, _⟩ => ⟨S1x1x4096, .f32⟩
  | .hbm, ⟨32, _⟩ => ⟨S4096, .f32⟩
  | .hbm, ⟨33, _⟩ => ⟨S1x4096, .f32⟩
  | .hbm, ⟨34, _⟩ => ⟨S1x1x4096, .f32⟩
  | .hbm, ⟨35, _⟩ => ⟨S4096, .f32⟩
  | .hbm, ⟨36, _⟩ => ⟨S1x4096, .f32⟩
  | .hbm, ⟨37, _⟩ => ⟨S1x1x4096, .f32⟩
  | .hbm, ⟨38, _⟩ => ⟨S4096, .f32⟩
  | .hbm, ⟨39, _⟩ => ⟨S1x4096, .f32⟩
  | .hbm, ⟨40, _⟩ => ⟨S1x1x4096, .f32⟩
  | .hbm, ⟨41, _⟩ => ⟨S4096, .f32⟩
  | .hbm, ⟨42, _⟩ => ⟨S1x4096, .f32⟩
  | .hbm, ⟨43, _⟩ => ⟨S1024x4096, .f32⟩
  | .hbm, ⟨44, _⟩ => ⟨S4096x22016, .f32⟩
  | .hbm, ⟨45, _⟩ => ⟨S4096x22016, .bf16⟩
  | .hbm, ⟨46, _⟩ => ⟨S11008x4096, .f32⟩
  | .hbm, ⟨47, _⟩ => ⟨S11008x4096, .bf16⟩
  | .hbm, ⟨48, _⟩ => ⟨S1024x4096, .f32⟩
  | .local _ .vmem, ⟨0, _⟩ => ⟨S1024x4096, .f32⟩
  | .local _ .vmem, ⟨1, _⟩ => ⟨S1x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S256x4096, .bf16⟩
  | .local _ .vmem, ⟨11, _⟩ => ⟨S256x4096, .bf16⟩
  | .local _ .vmem, ⟨12, _⟩ => ⟨S1x4096, .f32⟩
  | .local _ .vmem, ⟨13, _⟩ => ⟨S1x4096, .f32⟩
  | .local _ .vmem, ⟨14, _⟩ => ⟨S1024x4096, .f32⟩
  | .local _ .vmem, ⟨15, _⟩ => ⟨S1024x4096, .bf16⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem11_0 : DmaSem sig := 14

abbrev nD : Nat := 1
abbrev τ : Topo := Topo.v7x

variable {F : FTy → Type} [FloatOps F]

abbrev grid0 : Pipeline.Grid := ⟨2, ![1, 43], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_15 : BitVec 32 := 0#32
  let c16_i32 : BitVec 32 := 16#32
  let v24 : BitVec 32 := Scalar.addi c0_i32_15 c16_i32
  let c1_i32 : BitVec 32 := 1#32
  ⟨c0_i32_15, v24, c1_i32⟩
def k0_mult1 (k0_t1 : Fin k0_t1_loop.trips) : BitVec 32 :=
  let c0_i32_15 : BitVec 32 := 0#32
  let c1_i32 : BitVec 32 := 1#32
  let arg15 : BitVec 32 := Scf.iv c0_i32_15 c1_i32 k0_t1
  let c64_i32 : BitVec 32 := 64#32
  let v25 : BitVec 32 := Scalar.muli arg15 c64_i32
  v25
def k0_off1 (k0_t1 : Fin k0_t1_loop.trips) : Fin 2 → Nat :=
  let c0_i32_15 : BitVec 32 := 0#32
  let c1_i32 : BitVec 32 := 1#32
  let arg15 : BitVec 32 := Scf.iv c0_i32_15 c1_i32 k0_t1
  let c64_i32 : BitVec 32 := 64#32
  let v25 : BitVec 32 := Scalar.muli arg15 c64_i32
  let v26 : BitVec 32 := v25
  let v27 : Index := Scalar.indexCast v26
  let c0_17 : Index := 0#32
  ![v27.toNat, 0]
def k0_cond2 (i : grid0.Coords) : BitVec 1 :=
  let arg1 : BitVec 32 := BitVec.ofNat 32 (i 1).val
  let c42_i32 : BitVec 32 := 42#32
  let v21 : BitVec 1 := Scalar.cmpi .eq arg1 c42_i32
  let v22 : BitVec 32 := Scalar.extui v21
  let c0_i32_14 : BitVec 32 := 0#32
  let v23 : BitVec 1 := Scalar.cmpi .ne v22 c0_i32_14
  v23

@[reducible] def k0_t2_loop : Scf.Loop 32 :=
  let c0_i32_15 : BitVec 32 := 0#32
  let c16_i32 : BitVec 32 := 16#32
  let v24 : BitVec 32 := Scalar.addi c0_i32_15 c16_i32
  let c1_i32 : BitVec 32 := 1#32
  ⟨c0_i32_15, v24, c1_i32⟩
def k0_mult2 (k0_t2 : Fin k0_t2_loop.trips) : BitVec 32 :=
  let c0_i32_15 : BitVec 32 := 0#32
  let c1_i32 : BitVec 32 := 1#32
  let arg15 : BitVec 32 := Scf.iv c0_i32_15 c1_i32 k0_t2
  let c64_i32 : BitVec 32 := 64#32
  let v25 : BitVec 32 := Scalar.muli arg15 c64_i32
  v25
def k0_off2 (k0_t2 : Fin k0_t2_loop.trips) : Fin 2 → Nat :=
  let c0_i32_15 : BitVec 32 := 0#32
  let c1_i32 : BitVec 32 := 1#32
  let arg15 : BitVec 32 := Scf.iv c0_i32_15 c1_i32 k0_t2
  let c64_i32 : BitVec 32 := 64#32
  let v25 : BitVec 32 := Scalar.muli arg15 c64_i32
  let v26 : BitVec 32 := v25
  let v27 : Index := Scalar.indexCast v26
  let c0_17 : Index := 0#32
  ![v27.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]
-- ==== Reference3Ideal.lean ====
abbrev S4x256x4096 : Shape := ⟨3, ![4, 256, 4096]⟩
abbrev S1x3x4096 : Shape := ⟨3, ![1, 3, 4096]⟩
abbrev S1x9x4096 : Shape := ⟨3, ![1, 9, 4096]⟩
abbrev S1x4096x22016 : Shape := ⟨3, ![1, 4096, 22016]⟩
abbrev S1x11008x4096 : Shape := ⟨3, ![1, 11008, 4096]⟩
abbrev S_ : Shape := ⟨0, ![]⟩
abbrev S4x256 : Shape := ⟨2, ![4, 256]⟩
abbrev S4x256x1 : Shape := ⟨3, ![4, 256, 1]⟩
abbrev S1x1x4096 : Shape := ⟨3, ![1, 1, 4096]⟩
abbrev S1x4096 : Shape := ⟨2, ![1, 4096]⟩
abbrev S4096x22016 : Shape := ⟨2, ![4096, 22016]⟩
abbrev S11008x4096 : Shape := ⟨2, ![11008, 4096]⟩
abbrev S4x256x22016 : Shape := ⟨3, ![4, 256, 22016]⟩
abbrev S4x256x11008 : Shape := ⟨3, ![4, 256, 11008]⟩
abbrev S4096 : Shape := ⟨1, ![4096]⟩
abbrev S1024x4096 : Shape := ⟨2, ![1024, 4096]⟩

abbrev nBuf : Space → Nat
  | .hbm => 104
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S1x3x4096, .f32⟩
  | .hbm, ⟨2, _⟩ => ⟨S1x3x4096, .f32⟩
  | .hbm, ⟨3, _⟩ => ⟨S1x9x4096, .f32⟩
  | .hbm, ⟨4, _⟩ => ⟨S1x4096x22016, .f32⟩
  | .hbm, ⟨5, _⟩ => ⟨S1x11008x4096, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S4x256x4096, .f32⟩
  | .hbm, ⟨13, _⟩ => ⟨S4x256x4096, .f32⟩
  | .hbm, ⟨14, _⟩ => ⟨S4x256x4096, .f32⟩
  | .hbm, ⟨15, _⟩ => ⟨S_, .f32⟩
  | .hbm, ⟨16, _⟩ => ⟨S4x256, .f32⟩
  | .hbm, ⟨17, _⟩ => ⟨S4x256x1, .f32⟩
  | .hbm, ⟨18, _⟩ => ⟨S_, .f32⟩
  | .hbm, ⟨19, _⟩ => ⟨S4x256x1, .f32⟩
  | .hbm, ⟨20, _⟩ => ⟨S4x256x1, .f32⟩
  | .hbm, ⟨21, _⟩ => ⟨S4x256x4096, .f32⟩
  | .hbm, ⟨22, _⟩ => ⟨S4x256x4096, .f32⟩
  | .hbm, ⟨23, _⟩ => ⟨S_, .f32⟩
  | .hbm, ⟨24, _⟩ => ⟨S4x256x1, .f32⟩
  | .hbm, ⟨25, _⟩ => ⟨S4x256x1, .f32⟩
  | .hbm, ⟨26, _⟩ => ⟨S4x256x1, .f32⟩
  | .hbm, ⟨27, _⟩ => ⟨S4x256x4096, .f32⟩
  | .hbm, ⟨28, _⟩ => ⟨S4x256x4096, .f32⟩
  | .hbm, ⟨29, _⟩ => ⟨S_, .f32⟩
  | .hbm, ⟨30, _⟩ => ⟨S4x256x4096, .f32⟩
  | .hbm, ⟨31, _⟩ => ⟨S4x256x4096, .f32⟩
  | .hbm, ⟨32, _⟩ => ⟨S1x1x4096, .f32⟩
  | .hbm, ⟨33, _⟩ => ⟨S1x4096, .f32⟩
  | .hbm, ⟨34, _⟩ => ⟨S1x1x4096, .f32⟩
  | .hbm, ⟨35, _⟩ => ⟨S_, .f32⟩
  | .hbm, ⟨36, _⟩ => ⟨S1x1x4096, .f32⟩
  | .hbm, ⟨37, _⟩ => ⟨S1x1x4096, .f32⟩
  | .hbm, ⟨38, _⟩ => ⟨S1x1x4096, .f32⟩
  | .hbm, ⟨39, _⟩ => ⟨S1x4096, .f32⟩
  | .hbm, ⟨40, _⟩ => ⟨S1x1x4096, .f32⟩
  | .hbm, ⟨41, _⟩ => ⟨S_, .f32⟩
  | .hbm, ⟨42, _⟩ => ⟨S1x1x4096, .f32⟩
  | .hbm, ⟨43, _⟩ => ⟨S1x1x4096, .f32⟩
  | .hbm, ⟨44, _⟩ => ⟨S4x256x4096, .f32⟩
  | .hbm, ⟨45, _⟩ => ⟨S4x256x4096, .f32⟩
  | .hbm, ⟨46, _⟩ => ⟨S1x1x4096, .f32⟩
  | .hbm, ⟨47, _⟩ => ⟨S1x4096, .f32⟩
  | .hbm, ⟨48, _⟩ => ⟨S1x1x4096, .f32⟩
  | .hbm, ⟨49, _⟩ => ⟨S4x256x4096, .f32⟩
  | .hbm, ⟨50, _⟩ => ⟨S4x256x4096, .f32⟩
  | .hbm, ⟨51, _⟩ => ⟨S4096x22016, .f32⟩
  | .hbm, ⟨52, _⟩ => ⟨S11008x4096, .f32⟩
  | .hbm, ⟨53, _⟩ => ⟨S4x256x22016, .f32⟩
  | .hbm, ⟨54, _⟩ => ⟨S4x256x11008, .f32⟩
  | .hbm, ⟨55, _⟩ => ⟨S4x256x11008, .f32⟩
  | .hbm, ⟨56, _⟩ => ⟨S4x256x11008, .f32⟩
  | .hbm, ⟨57, _⟩ => ⟨S4x256x11008, .f32⟩
  | .hbm, ⟨58, _⟩ => ⟨S_, .f32⟩
  | .hbm, ⟨59, _⟩ => ⟨S4x256x11008, .f32⟩
  | .hbm, ⟨60, _⟩ => ⟨S4x256x11008, .f32⟩
  | .hbm, ⟨61, _⟩ => ⟨S_, .f32⟩
  | .hbm, ⟨62, _⟩ => ⟨S4x256x11008, .f32⟩
  | .hbm, ⟨63, _⟩ => ⟨S4x256x11008, .f32⟩
  | .hbm, ⟨64, _⟩ => ⟨S4x256x11008, .f32⟩
  | .hbm, ⟨65, _⟩ => ⟨S4x256x11008, .f32⟩
  | .hbm, ⟨66, _⟩ => ⟨S4x256x4096, .f32⟩
  | .hbm, ⟨67, _⟩ => ⟨S4x256x4096, .f32⟩
  | .hbm, ⟨68, _⟩ => ⟨S4x256x4096, .f32⟩
  | .hbm, ⟨69, _⟩ => ⟨S4x256x4096, .f32⟩
  | .hbm, ⟨70, _⟩ => ⟨S1x1x4096, .f32⟩
  | .hbm, ⟨71, _⟩ => ⟨S4096, .f32⟩
  | .hbm, ⟨72, _⟩ => ⟨S1x1x4096, .f32⟩
  | .hbm, ⟨73, _⟩ => ⟨S4096, .f32⟩
  | .hbm, ⟨74, _⟩ => ⟨S_, .f32⟩
  | .hbm, ⟨75, _⟩ => ⟨S4x256, .f32⟩
  | .hbm, ⟨76, _⟩ => ⟨S4x256x1, .f32⟩
  | .hbm, ⟨77, _⟩ => ⟨S_, .f32⟩
  | .hbm, ⟨78, _⟩ => ⟨S4x256x1, .f32⟩
  | .hbm, ⟨79, _⟩ => ⟨S4x256x1, .f32⟩
  | .hbm, ⟨80, _⟩ => ⟨S4x256x4096, .f32⟩
  | .hbm, ⟨81, _⟩ => ⟨S4x256x4096, .f32⟩
  | .hbm, ⟨82, _⟩ => ⟨S4x256x4096, .f32⟩
  | .hbm, ⟨83, _⟩ => ⟨S_, .f32⟩
  | .hbm, ⟨84, _⟩ => ⟨S4x256, .f32⟩
  | .hbm, ⟨85, _⟩ => ⟨S4x256x1, .f32⟩
  | .hbm, ⟨86, _⟩ => ⟨S_, .f32⟩
  | .hbm, ⟨87, _⟩ => ⟨S4x256x1, .f32⟩
  | .hbm, ⟨88, _⟩ => ⟨S4x256x1, .f32⟩
  | .hbm, ⟨89, _⟩ => ⟨S4x256x4096, .f32⟩
  | .hbm, ⟨90, _⟩ => ⟨S4x256x4096, .f32⟩
  | .hbm, ⟨91, _⟩ => ⟨S_, .f32⟩
  | .hbm, ⟨92, _⟩ => ⟨S4x256x1, .f32⟩
  | .hbm, ⟨93, _⟩ => ⟨S4x256x1, .f32⟩
  | .hbm, ⟨94, _⟩ => ⟨S4x256x1, .f32⟩
  | .hbm, ⟨95, _⟩ => ⟨S4x256x4096, .f32⟩
  | .hbm, ⟨96, _⟩ => ⟨S4x256x4096, .f32⟩
  | .hbm, ⟨97, _⟩ => ⟨S1x1x4096, .f32⟩
  | .hbm, ⟨98, _⟩ => ⟨S4x256x4096, .f32⟩
  | .hbm, ⟨99, _⟩ => ⟨S4x256x4096, .f32⟩
  | .hbm, ⟨100, _⟩ => ⟨S1x1x4096, .f32⟩
  | .hbm, ⟨101, _⟩ => ⟨S4x256x4096, .f32⟩
  | .hbm, ⟨102, _⟩ => ⟨S4x256x4096, .f32⟩
  | .hbm, ⟨103, _⟩ => ⟨S1024x4096, .f32⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_7 : Ref sig .tc := ⟨.hbm, 74, rfl⟩
abbrev main_v52 : Ref sig .tc := ⟨.hbm, 75, rfl⟩
abbrev main_v53 : Ref sig .tc := ⟨.hbm, 76, rfl⟩
abbrev main_cst_8 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_9 : Ref sig .tc := ⟨.hbm, 83, rfl⟩
abbrev main_v59 : Ref sig .tc := ⟨.hbm, 84, rfl⟩
abbrev main_v60 : Ref sig .tc := ⟨.hbm, 85, rfl⟩
abbrev main_cst_10 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩

abbrev nD : Nat := 1
abbrev τ : Topo := Topo.v7x

variable {F : FTy → Type} [FloatOps F]
-- ==== Kernel4.lean ====
abbrev S4x4096x2048 : Shape := ⟨3, ![4, 4096, 2048]⟩
abbrev S1x4096x4096 : Shape := ⟨3, ![1, 4096, 4096]⟩
abbrev S4x4096x4096 : Shape := ⟨3, ![4, 4096, 4096]⟩
abbrev S4x9x4096 : Shape := ⟨3, ![4, 9, 4096]⟩
abbrev S4x9x1x4096 : Shape := ⟨4, ![4, 9, 1, 4096]⟩
abbrev S4x1x1x4096 : Shape := ⟨4, ![4, 1, 1, 4096]⟩
abbrev S4x1x4096 : Shape := ⟨3, ![4, 1, 4096]⟩
abbrev S16384x2048 : Shape := ⟨2, ![16384, 2048]⟩
abbrev S4096x4096 : Shape := ⟨2, ![4096, 4096]⟩
abbrev S16384x4096 : Shape := ⟨2, ![16384, 4096]⟩
abbrev S512x2048 : Shape := ⟨2, ![512, 2048]⟩
abbrev S4096x1024 : Shape := ⟨2, ![4096, 1024]⟩
abbrev S512x1024 : Shape := ⟨2, ![512, 1024]⟩
abbrev S1x1x1024 : Shape := ⟨3, ![1, 1, 1024]⟩
abbrev S512x4096 : Shape := ⟨2, ![512, 4096]⟩
abbrev S1x1024 : Shape := ⟨2, ![1, 1024]⟩

abbrev nBuf : Space → Nat
  | .hbm => 30
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .bf16⟩
  | .hbm, ⟨2, _⟩ => ⟨S1x4096x4096, .f32⟩
  | .hbm, ⟨3, _⟩ => ⟨S4x4096x4096, .f32⟩
  | .hbm, ⟨4, _⟩ => ⟨S4x9x4096, .f32⟩
  | .hbm, ⟨5, _⟩ => ⟨S4x9x1x4096, .f32⟩
  | .hbm, ⟨6, _⟩ => ⟨S4x1x1x4096, .f32⟩
  | .hbm, ⟨7, _⟩ => ⟨S4x1x4096, .f32⟩
  | .hbm, ⟨8, _⟩ => ⟨S4x1x1x4096, .f32⟩
  | .hbm, ⟨9, _⟩ => ⟨S4x1x4096, .f32⟩
  | .hbm, ⟨10, _⟩ => ⟨S4x1x1x4096, .f32⟩
  | .hbm, ⟨11, _⟩ => ⟨S4x1x4096, .f32⟩
  | .hbm, ⟨12, _⟩ => ⟨S4x1x1x4096, .f32⟩
  | .hbm, ⟨13, _⟩ => ⟨S4x1x4096, .f32⟩
  | .hbm, ⟨14, _⟩ => ⟨S4x1x1x4096, .f32⟩
  | .hbm, ⟨15, _⟩ => ⟨S4x1x4096, .f32⟩
  | .hbm, ⟨16, _⟩ => ⟨S4x1x1x4096, .f32⟩
  | .hbm, ⟨17, _⟩ => ⟨S4x1x4096, .f32⟩
  | .hbm, ⟨18, _⟩ => ⟨S4x1x1x4096, .f32⟩
  | .hbm, ⟨19, _⟩ => ⟨S4x1x4096, .f32⟩
  | .hbm, ⟨20, _⟩ => ⟨S4x1x1x4096, .f32⟩
  | .hbm, ⟨21, _⟩ => ⟨S4x1x4096, .f32⟩
  | .hbm, ⟨22, _⟩ => ⟨S4x1x1x4096, .f32⟩
  | .hbm, ⟨23, _⟩ => ⟨S4x1x4096, .f32⟩
  | .hbm, ⟨24, _⟩ => ⟨S16384x2048, .f32⟩
  | .hbm, ⟨25, _⟩ => ⟨S16384x2048, .bf16⟩
  | .hbm, ⟨26, _⟩ => ⟨S4096x4096, .f32⟩
  | .hbm, ⟨27, _⟩ => ⟨S4096x4096, .bf16⟩
  | .hbm, ⟨28, _⟩ => ⟨S16384x4096, .f32⟩
  | .hbm, ⟨29, _⟩ => ⟨S16384x4096, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S4096x1024, .bf16⟩
  | .local _ .vmem, ⟨5, _⟩ => ⟨S4096x1024, .bf16⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .vmem, ⟨12, _⟩ => ⟨S512x4096, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S4x4096x2048 : Shape := ⟨3, ![4, 4096, 2048]⟩
abbrev S1x4096x4096 : Shape := ⟨3, ![1, 4096, 4096]⟩
abbrev S4x4096x4096 : Shape := ⟨3, ![4, 4096, 4096]⟩
abbrev S4x9x4096 : Shape := ⟨3, ![4, 9, 4096]⟩
abbrev S4096x4096 : Shape := ⟨2, ![4096, 4096]⟩
abbrev S_ : Shape := ⟨0, ![]⟩
abbrev S4x1x4096 : Shape := ⟨3, ![4, 1, 4096]⟩
abbrev S4x4096 : Shape := ⟨2, ![4, 4096]⟩
abbrev S16384x4096 : Shape := ⟨2, ![16384, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .bf16⟩
  | .hbm, ⟨2, _⟩ => ⟨S1x4096x4096, .f32⟩
  | .hbm, ⟨3, _⟩ => ⟨S4x4096x4096, .f32⟩
  | .hbm, ⟨4, _⟩ => ⟨S4x9x4096, .f32⟩
  | .hbm, ⟨5, _⟩ => ⟨S4x4096x2048, .f32⟩
  | .hbm, ⟨6, _⟩ => ⟨S4x4096x4096, .f32⟩
  | .hbm, ⟨7, _⟩ => ⟨S4096x4096, .f32⟩
  | .hbm, ⟨8, _⟩ => ⟨S4x4096x4096, .f32⟩
  | .hbm, ⟨9, _⟩ => ⟨S_, .f32⟩
  | .hbm, ⟨10, _⟩ => ⟨S4x4096x4096, .f32⟩
  | .hbm, ⟨11, _⟩ => ⟨S4x4096x4096, .f32⟩
  | .hbm, ⟨12, _⟩ => ⟨S4x1x4096, .f32⟩
  | .hbm, ⟨13, _⟩ => ⟨S4x4096, .f32⟩
  | .hbm, ⟨14, _⟩ => ⟨S4x1x4096, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S16384x4096, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel5.lean ====
abbrev S4x4096x12288 : Shape := ⟨3, ![4, 4096, 12288]⟩
abbrev S4x4096x128 : Shape := ⟨3, ![4, 4096, 128]⟩
abbrev S4x256x3072 : Shape := ⟨3, ![4, 256, 3072]⟩
abbrev S4x256x128 : Shape := ⟨3, ![4, 256, 128]⟩
abbrev S1x16 : Shape := ⟨2, ![1, 16]⟩
abbrev S4x4096x16 : Shape := ⟨3, ![4, 4096, 16]⟩
abbrev S4x16x4096 : Shape := ⟨3, ![4, 16, 4096]⟩
abbrev S4x256x16 : Shape := ⟨3, ![4, 256, 16]⟩
abbrev S4x16x256 : Shape := ⟨3, ![4, 16, 256]⟩
abbrev S16 : Shape := ⟨1, ![16]⟩
abbrev S16x1 : Shape := ⟨2, ![16, 1]⟩
abbrev S4x4096x2048 : Shape := ⟨3, ![4, 4096, 2048]⟩
abbrev S1x256x1024 : Shape := ⟨3, ![1, 256, 1024]⟩
abbrev S1x256x2048 : Shape := ⟨3, ![1, 256, 2048]⟩
abbrev S1x256x128 : Shape := ⟨3, ![1, 256, 128]⟩
abbrev S1x16x256 : Shape := ⟨3, ![1, 16, 256]⟩
abbrev S8x256x640 : Shape := ⟨3, ![8, 256, 640]⟩
abbrev S8x1x1 : Shape := ⟨3, ![8, 1, 1]⟩
abbrev S256x256 : Shape := ⟨2, ![256, 256]⟩
abbrev S256x128 : Shape := ⟨2, ![256, 128]⟩
abbrev S256x16 : Shape := ⟨2, ![256, 16]⟩
abbrev S16x256 : Shape := ⟨2, ![16, 256]⟩
abbrev S1x256x256 : Shape := ⟨3, ![1, 256, 256]⟩
abbrev S1x256x512 : Shape := ⟨3, ![1, 256, 512]⟩
abbrev S256x512 : Shape := ⟨2, ![256, 512]⟩
abbrev S256x640 : Shape := ⟨2, ![256, 640]⟩
abbrev S256x1 : Shape := ⟨2, ![256, 1]⟩
abbrev S1x256 : Shape := ⟨2, ![1, 256]⟩
abbrev S1x1 : Shape := ⟨2, ![1, 1]⟩
abbrev S1x1x1 : Shape := ⟨3, ![1, 1, 1]⟩
abbrev S1x256x640 : Shape := ⟨3, ![1, 256, 640]⟩
abbrev S1 : Shape := ⟨1, ![1]⟩
abbrev S256 : Shape := ⟨1, ![256]⟩

abbrev nBuf : Space → Nat
  | .hbm => 14
  | .vmem => 36
  | .smem => 0
  | _ => 0

abbrev bufTy : (tb : Table) → Fin (tcTables nBuf tb) → BufTy
  | .hbm, ⟨0, _⟩ => ⟨S4x4096x12288, .f32⟩
  | .hbm, ⟨1, _⟩ => ⟨S4x4096x128, .f32⟩
  | .hbm, ⟨2, _⟩ => ⟨S4x256x3072, .f32⟩
  | .hbm, ⟨3, _⟩ => ⟨S4x256x128, .f32⟩
  | .hbm, ⟨4, _⟩ => ⟨S1x16, .f32⟩
  | .hbm, ⟨5, _⟩ => ⟨S4x4096x16, .f32⟩
  | .hbm, ⟨6, _⟩ => ⟨S4x16x4096, .f32⟩
  | .hbm, ⟨7, _⟩ => ⟨S4x256x16, .f32⟩
  | .hbm, ⟨8, _⟩ => ⟨S4x16x256, .f32⟩
  | .hbm, ⟨9, _⟩ => ⟨S16, .f32⟩
  | .hbm, ⟨10, _⟩ => ⟨S1x16, .f32⟩
  | .hbm, ⟨11, _⟩ => ⟨S16x1, .f32⟩
  | .hbm, ⟨12, _⟩ => ⟨S4x4096x2048, .f32⟩
  | .hbm, ⟨13, _⟩ => ⟨S4x4096x2048, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x2048, .f32⟩
  | .local _ .vmem, ⟨5, _⟩ => ⟨S1x256x2048, .f32⟩
  | .local _ .vmem, ⟨6, _⟩ => ⟨S1x256x128, .f32⟩
  | .local _ .vmem, ⟨7, _⟩ => ⟨S1x256x128, .f32⟩
  | .local _ .vmem, ⟨8, _⟩ => ⟨S1x16x256, .f32⟩
  | .local _ .vmem, ⟨9, _⟩ => ⟨S1x16x256, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x2048, .f32⟩
  | .local _ .vmem, ⟨15, _⟩ => ⟨S1x256x2048, .f32⟩
  | .local _ .vmem, ⟨16, _⟩ => ⟨S1x256x128, .f32⟩
  | .local _ .vmem, ⟨17, _⟩ => ⟨S1x256x128, .f32⟩
  | .local _ .vmem, ⟨18, _⟩ => ⟨S1x16x256, .f32⟩
  | .local _ .vmem, ⟨19, _⟩ => ⟨S1x16x256, .f32⟩
  | .local _ .vmem, ⟨20, _⟩ => ⟨S1x256x2048, .f32⟩
  | .local _ .vmem, ⟨21, _⟩ => ⟨S1x256x2048, .f32⟩
  | .local _ .vmem, ⟨22, _⟩ => ⟨S1x256x1024, .f32⟩
  | .local _ .vmem, ⟨23, _⟩ => ⟨S1x256x1024, .f32⟩
  | .local _ .vmem, ⟨24, _⟩ => ⟨S1x256x128, .f32⟩
  | .local _ .vmem, ⟨25, _⟩ => ⟨S1x256x128, .f32⟩
  | .local _ .vmem, ⟨26, _⟩ => ⟨S1x16x256, .f32⟩
  | .local _ .vmem, ⟨27, _⟩ => ⟨S1x16x256, .f32⟩
  | .local _ .vmem, ⟨28, _⟩ => ⟨S1x16, .f32⟩
  | .local _ .vmem, ⟨29, _⟩ => ⟨S16x1, .f32⟩
  | .local _ .vmem, ⟨30, _⟩ => ⟨S1x256x2048, .f32⟩
  | .local _ .vmem, ⟨31, _⟩ => ⟨S1x256x2048, .f32⟩
  | .local _ .vmem, ⟨32, _⟩ => ⟨S1x256x2048, .f32⟩
  | .local _ .vmem, ⟨33, _⟩ => ⟨S1x256x2048, .f32⟩
  | .local _ .vmem, ⟨34, _⟩ => ⟨S8x256x640, .f32⟩
  | .local _ .vmem, ⟨35, _⟩ => ⟨S8x1x1, .f32⟩
  | _, _ => ⟨S4x4096x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem16_0 : DmaSem sig := 30
abbrev cc0_sem16_1 : DmaSem sig := 31
abbrev cc0_sem17_0 : DmaSem sig := 32
abbrev cc0_sem17_1 : DmaSem sig := 33

abbrev nD : Nat := 1
abbrev τ : Topo := Topo.v7x

variable {F : FTy → Type} [FloatOps F]

abbrev grid0 : Pipeline.Grid := ⟨2, ![4, 17], ![false, false]⟩

def k0_cond2 (i : grid0.Coords) : BitVec 1 :=
  let arg1 : BitVec 32 := BitVec.ofNat 32 (i 1).val
  let c0_i32_1 : BitVec 32 := 0#32
  let v12 : BitVec 1 := Scalar.cmpi .sgt arg1 c0_i32_1
  let v13 : BitVec 32 := Scalar.extui v12
  let c0_i32_2 : BitVec 32 := 0#32
  let v14 : BitVec 1 := Scalar.cmpi .ne v13 c0_i32_2
  v14

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c6_i32 : BitVec 32 := 6#32
  let c0_i32_0 : BitVec 32 := 0#32
  ![arg0.toNat, v1.toNat, c6_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c9_i32 : BitVec 32 := 9#32
  let c0_i32_0 : BitVec 32 := 0#32
  ![arg0.toNat, v1.toNat, c9_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c5_i32 : BitVec 32 := 5#32
  let c0_i32_0 : BitVec 32 := 0#32
  ![arg0.toNat, v1.toNat, c5_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.maxsi arg1 c1_i32
  let c16_i32 : BitVec 32 := 16#32
  let v1 : BitVec 32 := Scalar.subi c16_i32 v0
  let c6_i32 : BitVec 32 := 6#32
  let c0_i32 : BitVec 32 := 0#32
  ![arg0.toNat, v1.toNat, c6_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.maxsi arg1 c1_i32
  let c16_i32 : BitVec 32 := 16#32
  let v1 : BitVec 32 := Scalar.subi c16_i32 v0
  let c9_i32 : BitVec 32 := 9#32
  let c0_i32 : BitVec 32 := 0#32
  ![arg0.toNat, v1.toNat, c9_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.maxsi arg1 c1_i32
  let c16_i32 : BitVec 32 := 16#32
  let v1 : BitVec 32 := Scalar.subi c16_i32 v0
  let c5_i32 : BitVec 32 := 5#32
  let c0_i32 : BitVec 32 := 0#32
  ![arg0.toNat, v1.toNat, c5_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.maxsi arg1 c1_i32
  let c16_i32 : BitVec 32 := 16#32
  let v1 : BitVec 32 := Scalar.subi c16_i32 v0
  let c0_i32 : BitVec 32 := 0#32
  let c0_i32_0 : BitVec 32 := 0#32
  ![arg0.toNat, v1.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.maxsi arg1 c1_i32
  let c16_i32 : BitVec 32 := 16#32
  let v1 : BitVec 32 := Scalar.subi c16_i32 v0
  let c0_i32 : BitVec 32 := 0#32
  let c0_i32_0 : BitVec 32 := 0#32
  ![arg0.toNat, c0_i32.toNat, v1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_17 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.maxsi arg1 c1_i32
  let c16_i32 : BitVec 32 := 16#32
  let v1 : BitVec 32 := Scalar.subi c16_i32 v0
  let c0_i32 : BitVec 32 := 0#32
  let c0_i32_0 : BitVec 32 := 0#32
  ![arg0.toNat, v1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x16x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S1x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S16x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference5Ideal.lean ====
abbrev S4x4096x12288 : Shape := ⟨3, ![4, 4096, 12288]⟩
abbrev S4x4096x128 : Shape := ⟨3, ![4, 4096, 128]⟩
abbrev S4x256x3072 : Shape := ⟨3, ![4, 256, 3072]⟩
abbrev S4x256x128 : Shape := ⟨3, ![4, 256, 128]⟩
abbrev S1x16 : Shape := ⟨2, ![1, 16]⟩
abbrev S4x4096x1024 : Shape := ⟨3, ![4, 4096, 1024]⟩
abbrev S4x4096x4x256 : Shape := ⟨4, ![4, 4096, 4, 256]⟩
abbrev S4x4096x2048 : Shape := ⟨3, ![4, 4096, 2048]⟩
abbrev S4x4096x4x512 : Shape := ⟨4, ![4, 4096, 4, 512]⟩
abbrev S4x256x2048 : Shape := ⟨3, ![4, 256, 2048]⟩
abbrev S4x256x4x512 : Shape := ⟨4, ![4, 256, 4, 512]⟩
abbrev S4x256x1024 : Shape := ⟨3, ![4, 256, 1024]⟩
abbrev S4x256x4x256 : Shape := ⟨4, ![4, 256, 4, 256]⟩
abbrev S16 : Shape := ⟨1, ![16]⟩
abbrev S4x4096x16 : Shape := ⟨3, ![4, 4096, 16]⟩
abbrev S1x1x16 : Shape := ⟨3, ![1, 1, 16]⟩
abbrev S4x4096x2x2x4 : Shape := ⟨5, ![4, 4096, 2, 2, 4]⟩
abbrev S4x4096x2x1x4 : Shape := ⟨5, ![4, 4096, 2, 1, 4]⟩
abbrev S4x4096x2x4 : Shape := ⟨4, ![4, 4096, 2, 4]⟩
abbrev S_ : Shape := ⟨0, ![]⟩
abbrev S4x256x16 : Shape := ⟨3, ![4, 256, 16]⟩
abbrev S4x256x2x2x4 : Shape := ⟨5, ![4, 256, 2, 2, 4]⟩
abbrev S4x256x2x1x4 : Shape := ⟨5, ![4, 256, 2, 1, 4]⟩
abbrev S4x256x2x4 : Shape := ⟨4, ![4, 256, 2, 4]⟩
abbrev S8x4x512x256 : Shape := ⟨4, ![8, 4, 512, 256]⟩
abbrev S8x4x256 : Shape := ⟨3, ![8, 4, 256]⟩
abbrev S8x4 : Shape := ⟨2, ![8, 4]⟩
abbrev S4x4352x4x256 : Shape := ⟨4, ![4, 4352, 4, 256]⟩
abbrev S8x4352x4x256 : Shape := ⟨4, ![8, 4352, 4, 256]⟩
abbrev S4x4352x4x512 : Shape := ⟨4, ![4, 4352, 4, 512]⟩
abbrev S8x4352x4x512 : Shape := ⟨4, ![8, 4352, 4, 512]⟩
abbrev S4x256x1x4 : Shape := ⟨4, ![4, 256, 1, 4]⟩
abbrev S4x256x4 : Shape := ⟨3, ![4, 256, 4]⟩
abbrev S4x4096x1x4 : Shape := ⟨4, ![4, 4096, 1, 4]⟩
abbrev S4x4096x4 : Shape := ⟨3, ![4, 4096, 4]⟩
abbrev S4x4352x4 : Shape := ⟨3, ![4, 4352, 4]⟩
abbrev S8x4352x4 : Shape := ⟨3, ![8, 4352, 4]⟩
abbrev S8x68x64x4x256 : Shape := ⟨5, ![8, 68, 64, 4, 256]⟩
abbrev S68x8x64x4x256 : Shape := ⟨5, ![68, 8, 64, 4, 256]⟩
abbrev S8x68x64x4x512 : Shape := ⟨5, ![8, 68, 64, 4, 512]⟩
abbrev S68x8x64x4x512 : Shape := ⟨5, ![68, 8, 64, 4, 512]⟩
abbrev S8x68x64x4 : Shape := ⟨4, ![8, 68, 64, 4]⟩
abbrev S68x8x64x4 : Shape := ⟨4, ![68, 8, 64, 4]⟩
abbrev S64x64 : Shape := ⟨2, ![64, 64]⟩
abbrev S1x64x64x1 : Shape := ⟨4, ![1, 64, 64, 1]⟩
abbrev S1x8x64x4x256 : Shape := ⟨5, ![1, 8, 64, 4, 256]⟩
abbrev S8x64x4x256 : Shape := ⟨4, ![8, 64, 4, 256]⟩
abbrev S1x8x64x4x512 : Shape := ⟨5, ![1, 8, 64, 4, 512]⟩
abbrev S8x64x4x512 : Shape := ⟨4, ![8, 64, 4, 512]⟩
abbrev S1x8x64x4 : Shape := ⟨4, ![1, 8, 64, 4]⟩
abbrev S8x64x4 : Shape := ⟨3, ![8, 64, 4]⟩
abbrev S8x1x4 : Shape := ⟨3, ![8, 1, 4]⟩
abbrev S8x64x1x4 : Shape := ⟨4, ![8, 64, 1, 4]⟩
abbrev S8x1x64x4 : Shape := ⟨4, ![8, 1, 64, 4]⟩
abbrev S8x64x64x4 : Shape := ⟨4, ![8, 64, 64, 4]⟩
abbrev S8x4x64x64 : Shape := ⟨4, ![8, 4, 64, 64]⟩
abbrev S8x4x512x64 : Shape := ⟨4, ![8, 4, 512, 64]⟩
abbrev S8x64x4x1 : Shape := ⟨4, ![8, 64, 4, 1]⟩
abbrev S8x4x64x512 : Shape := ⟨4, ![8, 4, 64, 512]⟩
abbrev S8x4x64 : Shape := ⟨3, ![8, 4, 64]⟩
abbrev S8x4x1x1 : Shape := ⟨4, ![8, 4, 1, 1]⟩
abbrev S8x4x1 : Shape := ⟨3, ![8, 4, 1]⟩
abbrev S8x4096x4x512 : Shape := ⟨4, ![8, 4096, 4, 512]⟩

abbrev nBuf : Space → Nat
  | .hbm => 280
  | .vmem => 0
  | .smem => 0
  | _ => 0

abbrev hbmTy0_0 (i : Nat) : BufTy := match i % 128 with
  | 0 => ⟨S4x4096x12288, .f32⟩
  | 1 => ⟨S4x4096x128, .f32⟩
  | 2 => ⟨S4x256x3072, .f32⟩
  | 3 => ⟨S4x256x128, .f32⟩
  | 4 => ⟨S1x16, .f32⟩
  | 5 => ⟨S4x4096x1024, .f32⟩
  | 6 => ⟨S4x4096x4x256, .f32⟩
  | 7 => ⟨S4x4096x1024, .f32⟩
  | 8 => ⟨S4x4096x4x256, .f32⟩
  | 9 => ⟨S4x4096x2048, .f32⟩
  | 10 => ⟨S4x4096x4x512, .f32⟩
  | 11 => ⟨S4x256x2048, .f32⟩
  | 12 => ⟨S4x256x4x512, .f32⟩
  | 13 => ⟨S4x256x1024, .f32⟩
  | 14 => ⟨S4x256x4x256, .f32⟩
  | 15 => ⟨S16, .f32⟩
  | 16 => ⟨S4x4096x16, .f32⟩
  | 17 => ⟨S1x1x16, .f32⟩
  | 18 => ⟨S4x4096x16, .f32⟩
  | 19 => ⟨S4x4096x16, .f32⟩
  | 20 => ⟨S4x4096x2x2x4, .f32⟩
  | 21 => ⟨S4x4096x2x1x4, .f32⟩
  | 22 => ⟨S4x4096x2x4, .f32⟩
  | 23 => ⟨S4x4096x2x1x4, .f32⟩
  | 24 => ⟨S4x4096x2x4, .f32⟩
  | 25 => ⟨S4x4096x2x4, .f32⟩
  | 26 => ⟨S_, .f32⟩
  | 27 => ⟨S4x4096x2x4, .f32⟩
  | 28 => ⟨S4x4096x2x4, .f32⟩
  | 29 => ⟨S4x4096x2x4, .f32⟩
  | 30 => ⟨S4x4096x2x4, .f32⟩
  | 31 => ⟨S4x4096x2x4, .i1⟩
  | 32 => ⟨S4x4096x2x4, .f32⟩
  | 33 => ⟨S4x4096x2x4, .f32⟩
  | 34 => ⟨S4x4096x2x4, .f32⟩
  | 35 => ⟨S4x4096x2x4, .f32⟩
  | 36 => ⟨S4x4096x2x4, .f32⟩
  | 37 => ⟨S4x4096x2x4, .f32⟩
  | 38 => ⟨S4x4096x2x4, .f32⟩
  | 39 => ⟨S4x4096x2x4, .f32⟩
  | 40 => ⟨S4x4096x2x4, .f32⟩
  | 41 => ⟨S16, .f32⟩
  | 42 => ⟨S4x256x16, .f32⟩
  | 43 => ⟨S1x1x16, .f32⟩
  | 44 => ⟨S4x256x16, .f32⟩
  | 45 => ⟨S4x256x16, .f32⟩
  | 46 => ⟨S4x256x2x2x4, .f32⟩
  | 47 => ⟨S4x256x2x1x4, .f32⟩
  | 48 => ⟨S4x256x2x4, .f32⟩
  | 49 => ⟨S4x256x2x1x4, .f32⟩
  | 50 => ⟨S4x256x2x4, .f32⟩
  | 51 => ⟨S4x256x2x4, .f32⟩
  | 52 => ⟨S_, .f32⟩
  | 53 => ⟨S4x256x2x4, .f32⟩
  | 54 => ⟨S4x256x2x4, .f32⟩
  | 55 => ⟨S4x256x2x4, .f32⟩
  | 56 => ⟨S4x256x2x4, .f32⟩
  | 57 => ⟨S4x256x2x4, .i1⟩
  | 58 => ⟨S4x256x2x4, .f32⟩
  | 59 => ⟨S4x256x2x4, .f32⟩
  | 60 => ⟨S4x256x2x4, .f32⟩
  | 61 => ⟨S4x256x2x4, .f32⟩
  | 62 => ⟨S4x256x2x4, .f32⟩
  | 63 => ⟨S4x256x2x4, .f32⟩
  | 64 => ⟨S4x256x2x4, .f32⟩
  | 65 => ⟨S4x256x2x4, .f32⟩
  | 66 => ⟨S4x256x2x4, .f32⟩
  | 67 => ⟨S_, .f32⟩
  | 68 => ⟨S8x4x512x256, .f32⟩
  | 69 => ⟨S_, .f32⟩
  | 70 => ⟨S8x4x256, .f32⟩
  | 71 => ⟨S_, .f32⟩
  | 72 => ⟨S8x4, .f32⟩
  | 73 => ⟨S4x4352x4x256, .f32⟩
  | 74 => ⟨S4x256x4x256, .f32⟩
  | 75 => ⟨S4x4096x4x256, .f32⟩
  | 76 => ⟨S4x4352x4x256, .f32⟩
  | 77 => ⟨S8x4352x4x256, .f32⟩
  | 78 => ⟨S4x4352x4x512, .f32⟩
  | 79 => ⟨S4x256x4x512, .f32⟩
  | 80 => ⟨S4x4096x4x512, .f32⟩
  | 81 => ⟨S4x4352x4x512, .f32⟩
  | 82 => ⟨S8x4352x4x512, .f32⟩
  | 83 => ⟨S4x256x1x4, .f32⟩
  | 84 => ⟨S4x256x4, .f32⟩
  | 85 => ⟨S4x256x1x4, .f32⟩
  | 86 => ⟨S4x256x4, .f32⟩
  | 87 => ⟨S4x4096x1x4, .f32⟩
  | 88 => ⟨S4x4096x4, .f32⟩
  | 89 => ⟨S4x4096x1x4, .f32⟩
  | 90 => ⟨S4x4096x4, .f32⟩
  | 91 => ⟨S4x4352x4, .f32⟩
  | 92 => ⟨S4x256x4, .f32⟩
  | 93 => ⟨S4x4096x4, .f32⟩
  | 94 => ⟨S4x4352x4, .f32⟩
  | 95 => ⟨S8x4352x4, .f32⟩
  | 96 => ⟨S4x256x1x4, .f32⟩
  | 97 => ⟨S4x256x4, .f32⟩
  | 98 => ⟨S4x256x1x4, .f32⟩
  | 99 => ⟨S4x256x4, .f32⟩
  | 100 => ⟨S4x4096x1x4, .f32⟩
  | 101 => ⟨S4x4096x4, .f32⟩
  | 102 => ⟨S4x4096x1x4, .f32⟩
  | 103 => ⟨S4x4096x4, .f32⟩
  | 104 => ⟨S4x4352x4, .f32⟩
  | 105 => ⟨S4x256x4, .f32⟩
  | 106 => ⟨S4x4096x4, .f32⟩
  | 107 => ⟨S4x4352x4, .f32⟩
  | 108 => ⟨S8x4352x4, .f32⟩
  | 109 => ⟨S_, .f32⟩
  | 110 => ⟨S4x256x4x256, .f32⟩
  | 111 => ⟨S4x4352x4x256, .f32⟩
  | 112 => ⟨S4x256x4x256, .f32⟩
  | 113 => ⟨S4x4096x4x256, .f32⟩
  | 114 => ⟨S4x4352x4x256, .f32⟩
  | 115 => ⟨S8x4352x4x256, .f32⟩
  | 116 => ⟨S8x68x64x4x256, .f32⟩
  | 117 => ⟨S68x8x64x4x256, .f32⟩
  | 118 => ⟨S8x68x64x4x512, .f32⟩
  | 119 => ⟨S68x8x64x4x512, .f32⟩
  | 120 => ⟨S8x68x64x4, .f32⟩
  | 121 => ⟨S68x8x64x4, .f32⟩
  | 122 => ⟨S8x68x64x4, .f32⟩
  | 123 => ⟨S68x8x64x4, .f32⟩
  | 124 => ⟨S8x68x64x4x256, .f32⟩
  | 125 => ⟨S68x8x64x4x256, .f32⟩
  | 126 => ⟨S_, .i1⟩
  | 127 => ⟨S64x64, .i1⟩
  | _ => ⟨S4x4096x12288, .f32⟩

abbrev hbmTy0_1 (i : Nat) : BufTy := match i % 128 with
  | 0 => ⟨S64x64, .i32⟩
  | 1 => ⟨S_, .i32⟩
  | 2 => ⟨S64x64, .i32⟩
  | 3 => ⟨S64x64, .i32⟩
  | 4 => ⟨S64x64, .i32⟩
  | 5 => ⟨S64x64, .i1⟩
  | 6 => ⟨S_, .i1⟩
  | 7 => ⟨S64x64, .i1⟩
  | 8 => ⟨S64x64, .i1⟩
  | 9 => ⟨S1x64x64x1, .i1⟩
  | 10 => ⟨S_, .f32⟩
  | 11 => ⟨S68x8x64x4x512, .f32⟩
  | 12 => ⟨S_, .i32⟩
  | 13 => ⟨S68x8x64x4x256, .f32⟩
  | 14 => ⟨S68x8x64x4x512, .f32⟩
  | 15 => ⟨S68x8x64x4, .f32⟩
  | 16 => ⟨S68x8x64x4, .f32⟩
  | 17 => ⟨S68x8x64x4x256, .f32⟩
  | 18 => ⟨S1x64x64x1, .i1⟩
  | 19 => ⟨S_, .i32⟩
  | 20 => ⟨S8x4x512x256, .f32⟩
  | 21 => ⟨S8x4x256, .f32⟩
  | 22 => ⟨S8x4, .f32⟩
  | 23 => ⟨S68x8x64x4x512, .f32⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S1x8x64x4x256, .f32⟩
  | 31 => ⟨S8x64x4x256, .f32⟩
  | 32 => ⟨S_, .i32⟩
  | 33 => ⟨S_, .i32⟩
  | 34 => ⟨S_, .i32⟩
  | 35 => ⟨S_, .i32⟩
  | 36 => ⟨S1x8x64x4x512, .f32⟩
  | 37 => ⟨S8x64x4x512, .f32⟩
  | 38 => ⟨S_, .i32⟩
  | 39 => ⟨S_, .i32⟩
  | 40 => ⟨S_, .i32⟩
  | 41 => ⟨S1x8x64x4, .f32⟩
  | 42 => ⟨S8x64x4, .f32⟩
  | 43 => ⟨S_, .i32⟩
  | 44 => ⟨S_, .i32⟩
  | 45 => ⟨S_, .i32⟩
  | 46 => ⟨S1x8x64x4, .f32⟩
  | 47 => ⟨S8x64x4, .f32⟩
  | 48 => ⟨S_, .i32⟩
  | 49 => ⟨S_, .i32⟩
  | 50 => ⟨S_, .i32⟩
  | 51 => ⟨S_, .i32⟩
  | 52 => ⟨S1x8x64x4x256, .f32⟩
  | 53 => ⟨S8x64x4x256, .f32⟩
  | 54 => ⟨S_, .f32⟩
  | 55 => ⟨S_, .f32⟩
  | 56 => ⟨S8x64x4, .f32⟩
  | 57 => ⟨S8x1x4, .f32⟩
  | 58 => ⟨S8x4, .f32⟩
  | 59 => ⟨S8x1x4, .f32⟩
  | 60 => ⟨S8x64x4, .f32⟩
  | 61 => ⟨S8x64x4, .f32⟩
  | 62 => ⟨S8x64x4, .f32⟩
  | 63 => ⟨S8x4, .f32⟩
  | 64 => ⟨S_, .f32⟩
  | 65 => ⟨S8x4, .f32⟩
  | 66 => ⟨S8x4, .f32⟩
  | 67 => ⟨S8x64x1x4, .f32⟩
  | 68 => ⟨S8x1x64x4, .f32⟩
  | 69 => ⟨S8x64x64x4, .f32⟩
  | 70 => ⟨S8x64x64x4, .f32⟩
  | 71 => ⟨S8x64x64x4, .f32⟩
  | 72 => ⟨S8x1x64x4, .f32⟩
  | 73 => ⟨S8x64x64x4, .f32⟩
  | 74 => ⟨S8x64x64x4, .f32⟩
  | 75 => ⟨S_, .f32⟩
  | 76 => ⟨S_, .f32⟩
  | 77 => ⟨S8x64x64x4, .i1⟩
  | 78 => ⟨S8x64x64x4, .f32⟩
  | 79 => ⟨S8x64x64x4, .f32⟩
  | 80 => ⟨S8x1x4, .f32⟩
  | 81 => ⟨S8x64x4, .f32⟩
  | 82 => ⟨S8x64x4, .f32⟩
  | 83 => ⟨S_, .f32⟩
  | 84 => ⟨S8x64x4, .f32⟩
  | 85 => ⟨S8x64x4, .f32⟩
  | 86 => ⟨S8x4x64x64, .f32⟩
  | 87 => ⟨S8x64x64x4, .f32⟩
  | 88 => ⟨S8x64x1x4, .f32⟩
  | 89 => ⟨S8x64x64x4, .f32⟩
  | 90 => ⟨S8x64x64x4, .f32⟩
  | 91 => ⟨S8x64x64x4, .f32⟩
  | 92 => ⟨S8x64x64x4, .f32⟩
  | 93 => ⟨S8x64x4, .f32⟩
  | 94 => ⟨S8x64x4, .f32⟩
  | 95 => ⟨S8x4x512x64, .f32⟩
  | 96 => ⟨S8x64x4x512, .f32⟩
  | 97 => ⟨S8x64x4x1, .f32⟩
  | 98 => ⟨S8x4x64x512, .f32⟩
  | 99 => ⟨S8x64x4x512, .f32⟩
  | 100 => ⟨S8x64x4x512, .f32⟩
  | 101 => ⟨S8x64x4x512, .f32⟩
  | 102 => ⟨S8x64x4x512, .f32⟩
  | 103 => ⟨S_, .f32⟩
  | 104 => ⟨S8x64x4, .f32⟩
  | 105 => ⟨S8x4x64, .f32⟩
  | 106 => ⟨S8x64x4, .f32⟩
  | 107 => ⟨S8x64x4, .f32⟩
  | 108 => ⟨S8x64x4, .f32⟩
  | 109 => ⟨S8x64x4, .f32⟩
  | 110 => ⟨S8x64x4, .f32⟩
  | 111 => ⟨S8x64x4, .f32⟩
  | 112 => ⟨S8x64x4, .f32⟩
  | 113 => ⟨S8x64x4x1, .f32⟩
  | 114 => ⟨S8x64x4x512, .f32⟩
  | 115 => ⟨S8x64x4x512, .f32⟩
  | 116 => ⟨S8x1x4, .f32⟩
  | 117 => ⟨S8x64x4, .f32⟩
  | 118 => ⟨S8x64x4, .f32⟩
  | 119 => ⟨S8x64x4, .f32⟩
  | 120 => ⟨S8x4, .f32⟩
  | 121 => ⟨S8x4, .f32⟩
  | 122 => ⟨S8x4, .f32⟩
  | 123 => ⟨S8x4x1x1, .f32⟩
  | 124 => ⟨S8x4x512x256, .f32⟩
  | 125 => ⟨S8x4x512x256, .f32⟩
  | 126 => ⟨S8x64x4x1, .f32⟩
  | 127 => ⟨S8x64x4x512, .f32⟩
  | _ => ⟨S4x4096x12288, .f32⟩

abbrev hbmTy0_2 (i : Nat) : BufTy := match i % 128 with
  | 0 => ⟨S8x64x4x512, .f32⟩
  | 1 => ⟨S8x4x512x256, .f32⟩
  | 2 => ⟨S8x4x512x256, .f32⟩
  | 3 => ⟨S8x4x1, .f32⟩
  | 4 => ⟨S8x4x256, .f32⟩
  | 5 => ⟨S8x4x256, .f32⟩
  | 6 => ⟨S8x4x256, .f32⟩
  | 7 => ⟨S8x4x256, .f32⟩
  | 8 => ⟨S1x8x64x4x512, .f32⟩
  | 9 => ⟨S_, .i32⟩
  | 10 => ⟨S_, .i32⟩
  | 11 => ⟨S_, .i32⟩
  | 12 => ⟨S_, .i32⟩
  | 13 => ⟨S68x8x64x4x512, .f32⟩
  | 14 => ⟨S_, .i32⟩
  | 15 => ⟨S_, .i32⟩
  | 16 => ⟨S8x68x64x4x512, .f32⟩
  | 17 => ⟨S8x4352x4x512, .f32⟩
  | 18 => ⟨S8x4096x4x512, .f32⟩
  | 19 => ⟨S4x4096x4x512, .f32⟩
  | 20 => ⟨S4x4096x2048, .f32⟩
  | 21 => ⟨S4x4096x4x512, .f32⟩
  | 22 => ⟨S4x4096x4x512, .f32⟩
  | 23 => ⟨S4x4096x2048, .f32⟩
  | _ => ⟨S4x4096x12288, .f32⟩

abbrev hbmTy (i : Nat) : BufTy := match i / 128 with
  | 0 => hbmTy0_0 i
  | 1 => hbmTy0_1 i
  | 2 => hbmTy0_2 i
  | _ => ⟨S4x4096x12288, .f32⟩

abbrev bufTy : (tb : Table) → Fin (tcTables nBuf tb) → BufTy
  | .hbm, ⟨i, _⟩ => hbmTy i
  | _, _ => ⟨S4x4096x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call1_v0 : Ref sig .tc := ⟨.hbm, 51, rfl⟩
abbrev main_call1_call0_cst : Ref sig .tc := ⟨.hbm, 52, rfl⟩
abbrev main_call1_call0_v0 : Ref sig .tc := ⟨.hbm, 53, rfl⟩
abbrev main_call1_call0_v1 : Ref sig .tc := ⟨.hbm, 54, rfl⟩
abbrev main_call1_call0_v2 : Ref sig .tc := ⟨.hbm, 55, rfl⟩
abbrev main_call1_call0_v3 : Ref sig .tc := ⟨.hbm, 56, rfl⟩
abbrev main_call1_call0_v4 : Ref sig .tc := ⟨.hbm, 57, rfl⟩
abbrev main_call1_call0_v5 : Ref sig .tc := ⟨.hbm, 58, rfl⟩
abbrev main_call1_call0_v6 : Ref sig .tc := ⟨.hbm, 59, rfl⟩
abbrev main_call1_call0_v7 : Ref sig .tc := ⟨.hbm, 60, rfl⟩
abbrev main_call1_call0_v8 : Ref sig .tc := ⟨.hbm, 61, rfl⟩
abbrev main_call1_call0_v9 : Ref sig .tc := ⟨.hbm, 62, rfl⟩
abbrev main_call1_call0_v10 : Ref sig .tc := ⟨.hbm, 63, rfl⟩
abbrev main_call1_call0_v11 : Ref sig .tc := ⟨.hbm, 64, rfl⟩
abbrev main_call1_v1 : Ref sig .tc := ⟨.hbm, 65, rfl⟩
abbrev main_v31 : Ref sig .tc := ⟨.hbm, 66, rfl⟩
abbrev main_cst : Ref sig .tc := ⟨.hbm, 67, rfl⟩
abbrev main_v32 : Ref sig .tc := ⟨.hbm, 68, rfl⟩
abbrev main_cst_0 : Ref sig .tc := ⟨.hbm, 69, rfl⟩
abbrev main_v33 : Ref sig .tc := ⟨.hbm, 70, rfl⟩
abbrev main_cst_1 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_2 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_c : Ref sig .tc := ⟨.hbm, 126, rfl⟩
abbrev main_v87 : Ref sig .tc := ⟨.hbm, 127, rfl⟩
abbrev main_call12_v0 : Ref sig .tc := ⟨.hbm, 128, rfl⟩
abbrev main_call12_c : Ref sig .tc := ⟨.hbm, 129, rfl⟩
abbrev main_call12_v1 : Ref sig .tc := ⟨.hbm, 130, rfl⟩
abbrev main_call12_v2 : Ref sig .tc := ⟨.hbm, 131, rfl⟩
abbrev main_call12_v3 : Ref sig .tc := ⟨.hbm, 132, rfl⟩
abbrev main_call12_v4 : Ref sig .tc := ⟨.hbm, 133, rfl⟩
abbrev main_call12_c_0 : Ref sig .tc := ⟨.hbm, 134, rfl⟩
abbrev main_call12_v5 : Ref sig .tc := ⟨.hbm, 135, rfl⟩
abbrev main_v88 : Ref sig .tc := ⟨.hbm, 136, rfl⟩
abbrev main_v89 : Ref sig .tc := ⟨.hbm, 137, rfl⟩
abbrev main_cst_3 : Ref sig .tc := ⟨.hbm, 138, rfl⟩
abbrev main_v90 : Ref sig .tc := ⟨.hbm, 139, rfl⟩
abbrev main_c_4 : Ref sig .tc := ⟨.hbm, 140, rfl⟩
abbrev main_v91_0 : Ref sig .tc := ⟨.hbm, 141, rfl⟩
abbrev main_v91_1 : Ref sig .tc := ⟨.hbm, 142, rfl⟩
abbrev main_v91_2 : Ref sig .tc := ⟨.hbm, 143, rfl⟩
abbrev main_v91_3 : Ref sig .tc := ⟨.hbm, 144, rfl⟩
abbrev main_v91_4 : Ref sig .tc := ⟨.hbm, 145, rfl⟩
abbrev main_v91_5 : Ref sig .tc := ⟨.hbm, 146, rfl⟩
abbrev main_v91_6 : Ref sig .tc := ⟨.hbm, 147, rfl⟩
abbrev main_v91_7 : Ref sig .tc := ⟨.hbm, 148, rfl⟩
abbrev main_v91_8 : Ref sig .tc := ⟨.hbm, 149, rfl⟩
abbrev main_v91_9 : Ref sig .tc := ⟨.hbm, 150, rfl⟩
abbrev main_v91_10 : Ref sig .tc := ⟨.hbm, 151, rfl⟩
abbrev main_while0c_c_15 : Ref sig .tc := ⟨.hbm, 152, rfl⟩
abbrev main_while0c_v100 : Ref sig .tc := ⟨.hbm, 153, rfl⟩
abbrev main_while0b_call13_c : Ref sig .tc := ⟨.hbm, 154, rfl⟩
abbrev main_while0b_call13_c_0 : Ref sig .tc := ⟨.hbm, 155, rfl⟩
abbrev main_while0b_call13_c_1 : Ref sig .tc := ⟨.hbm, 156, rfl⟩
abbrev main_while0b_call13_c_2 : Ref sig .tc := ⟨.hbm, 157, rfl⟩
abbrev main_while0b_call13_v0 : Ref sig .tc := ⟨.hbm, 158, rfl⟩
abbrev main_while0b_v100 : Ref sig .tc := ⟨.hbm, 159, rfl⟩
abbrev main_while0b_call14_c : Ref sig .tc := ⟨.hbm, 160, rfl⟩
abbrev main_while0b_call14_c_0 : Ref sig .tc := ⟨.hbm, 161, rfl⟩
abbrev main_while0b_call14_c_1 : Ref sig .tc := ⟨.hbm, 162, rfl⟩
abbrev main_while0b_call14_c_2 : Ref sig .tc := ⟨.hbm, 163, rfl⟩
abbrev main_while0b_call14_v0 : Ref sig .tc := ⟨.hbm, 164, rfl⟩
abbrev main_while0b_v101 : Ref sig .tc := ⟨.hbm, 165, rfl⟩
abbrev main_while0b_call15_c : Ref sig .tc := ⟨.hbm, 166, rfl⟩
abbrev main_while0b_call15_c_0 : Ref sig .tc := ⟨.hbm, 167, rfl⟩
abbrev main_while0b_call15_c_1 : Ref sig .tc := ⟨.hbm, 168, rfl⟩
abbrev main_while0b_call15_v0 : Ref sig .tc := ⟨.hbm, 169, rfl⟩
abbrev main_while0b_v102 : Ref sig .tc := ⟨.hbm, 170, rfl⟩
abbrev main_while0b_call16_c : Ref sig .tc := ⟨.hbm, 171, rfl⟩
abbrev main_while0b_call16_c_0 : Ref sig .tc := ⟨.hbm, 172, rfl⟩
abbrev main_while0b_call16_c_1 : Ref sig .tc := ⟨.hbm, 173, rfl⟩
abbrev main_while0b_call16_v0 : Ref sig .tc := ⟨.hbm, 174, rfl⟩
abbrev main_while0b_v103 : Ref sig .tc := ⟨.hbm, 175, rfl⟩
abbrev main_while0b_call17_c : Ref sig .tc := ⟨.hbm, 176, rfl⟩
abbrev main_while0b_call17_c_0 : Ref sig .tc := ⟨.hbm, 177, rfl⟩
abbrev main_while0b_call17_c_1 : Ref sig .tc := ⟨.hbm, 178, rfl⟩
abbrev main_while0b_call17_c_2 : Ref sig .tc := ⟨.hbm, 179, rfl⟩
abbrev main_while0b_call17_v0 : Ref sig .tc := ⟨.hbm, 180, rfl⟩
abbrev main_while0b_v104 : Ref sig .tc := ⟨.hbm, 181, rfl⟩
abbrev main_while0b_call18_call0_cst : Ref sig .tc := ⟨.hbm, 182, rfl⟩
abbrev main_while0b_call18_call0_v0 : Ref sig .tc := ⟨.hbm, 183, rfl⟩
abbrev main_while0b_v105 : Ref sig .tc := ⟨.hbm, 184, rfl⟩
abbrev main_while0b_v106 : Ref sig .tc := ⟨.hbm, 185, rfl⟩
abbrev main_while0b_v107 : Ref sig .tc := ⟨.hbm, 186, rfl⟩
abbrev main_while0b_v108 : Ref sig .tc := ⟨.hbm, 187, rfl⟩
abbrev main_while0b_v109 : Ref sig .tc := ⟨.hbm, 188, rfl⟩
abbrev main_while0b_v110 : Ref sig .tc := ⟨.hbm, 189, rfl⟩
abbrev main_while0b_v111 : Ref sig .tc := ⟨.hbm, 190, rfl⟩
abbrev main_while0b_v112 : Ref sig .tc := ⟨.hbm, 191, rfl⟩
abbrev main_while0b_cst_15 : Ref sig .tc := ⟨.hbm, 192, rfl⟩
abbrev main_while0b_v113 : Ref sig .tc := ⟨.hbm, 193, rfl⟩
abbrev main_while0b_v114 : Ref sig .tc := ⟨.hbm, 194, rfl⟩
abbrev main_while0b_v115 : Ref sig .tc := ⟨.hbm, 195, rfl⟩
abbrev main_while0b_v116 : Ref sig .tc := ⟨.hbm, 196, rfl⟩
abbrev main_while0b_v117 : Ref sig .tc := ⟨.hbm, 197, rfl⟩
abbrev main_while0b_v118 : Ref sig .tc := ⟨.hbm, 198, rfl⟩
abbrev main_while0b_v119 : Ref sig .tc := ⟨.hbm, 199, rfl⟩
abbrev main_while0b_v120 : Ref sig .tc := ⟨.hbm, 200, rfl⟩
abbrev main_while0b_v121 : Ref sig .tc := ⟨.hbm, 201, rfl⟩
abbrev main_while0b_v122 : Ref sig .tc := ⟨.hbm, 202, rfl⟩
abbrev main_while0b_cst_16 : Ref sig .tc := ⟨.hbm, 203, rfl⟩
abbrev main_while0b_call19_v0 : Ref sig .tc := ⟨.hbm, 204, rfl⟩
abbrev main_while0b_call19_v1 : Ref sig .tc := ⟨.hbm, 205, rfl⟩
abbrev main_while0b_call19_v2 : Ref sig .tc := ⟨.hbm, 206, rfl⟩
abbrev main_while0b_v123 : Ref sig .tc := ⟨.hbm, 207, rfl⟩
abbrev main_while0b_v124 : Ref sig .tc := ⟨.hbm, 208, rfl⟩
abbrev main_while0b_v125 : Ref sig .tc := ⟨.hbm, 209, rfl⟩
abbrev main_while0b_v126 : Ref sig .tc := ⟨.hbm, 210, rfl⟩
abbrev main_while0b_cst_17 : Ref sig .tc := ⟨.hbm, 211, rfl⟩
abbrev main_while0b_v127 : Ref sig .tc := ⟨.hbm, 212, rfl⟩
abbrev main_while0b_v128 : Ref sig .tc := ⟨.hbm, 213, rfl⟩
abbrev main_while0b_v129 : Ref sig .tc := ⟨.hbm, 214, rfl⟩
abbrev main_while0b_v130 : Ref sig .tc := ⟨.hbm, 215, rfl⟩
abbrev main_while0b_v131 : Ref sig .tc := ⟨.hbm, 216, rfl⟩
abbrev main_while0b_v132 : Ref sig .tc := ⟨.hbm, 217, rfl⟩
abbrev main_while0b_v133 : Ref sig .tc := ⟨.hbm, 218, rfl⟩
abbrev main_while0b_v134 : Ref sig .tc := ⟨.hbm, 219, rfl⟩
abbrev main_while0b_v135 : Ref sig .tc := ⟨.hbm, 220, rfl⟩
abbrev main_while0b_v136 : Ref sig .tc := ⟨.hbm, 221, rfl⟩
abbrev main_while0b_v137 : Ref sig .tc := ⟨.hbm, 222, rfl⟩
abbrev main_while0b_v138 : Ref sig .tc := ⟨.hbm, 223, rfl⟩
abbrev main_while0b_v139 : Ref sig .tc := ⟨.hbm, 224, rfl⟩
abbrev main_while0b_v140 : Ref sig .tc := ⟨.hbm, 225, rfl⟩
abbrev main_while0b_v141 : Ref sig .tc := ⟨.hbm, 226, rfl⟩
abbrev main_while0b_v142 : Ref sig .tc := ⟨.hbm, 227, rfl⟩
abbrev main_while0b_v143 : Ref sig .tc := ⟨.hbm, 228, rfl⟩
abbrev main_while0b_v144 : Ref sig .tc := ⟨.hbm, 229, rfl⟩
abbrev main_while0b_v145 : Ref sig .tc := ⟨.hbm, 230, rfl⟩
abbrev main_while0b_cst_18 : Ref sig .tc := ⟨.hbm, 231, rfl⟩
abbrev main_while0b_v146 : Ref sig .tc := ⟨.hbm, 232, rfl⟩
abbrev main_while0b_v147 : Ref sig .tc := ⟨.hbm, 233, rfl⟩
abbrev main_while0b_v148 : Ref sig .tc := ⟨.hbm, 234, rfl⟩
abbrev main_while0b_v149 : Ref sig .tc := ⟨.hbm, 235, rfl⟩
abbrev main_while0b_v150 : Ref sig .tc := ⟨.hbm, 236, rfl⟩
abbrev main_while0b_v151 : Ref sig .tc := ⟨.hbm, 237, rfl⟩
abbrev main_while0b_v152 : Ref sig .tc := ⟨.hbm, 238, rfl⟩
abbrev main_while0b_v153 : Ref sig .tc := ⟨.hbm, 239, rfl⟩
abbrev main_while0b_v154 : Ref sig .tc := ⟨.hbm, 240, rfl⟩
abbrev main_while0b_v155 : Ref sig .tc := ⟨.hbm, 241, rfl⟩
abbrev main_while0b_v156 : Ref sig .tc := ⟨.hbm, 242, rfl⟩
abbrev main_while0b_v157 : Ref sig .tc := ⟨.hbm, 243, rfl⟩
abbrev main_while0b_v158 : Ref sig .tc := ⟨.hbm, 244, rfl⟩
abbrev main_while0b_v159 : Ref sig .tc := ⟨.hbm, 245, rfl⟩
abbrev main_while0b_v160 : Ref sig .tc := ⟨.hbm, 246, rfl⟩
abbrev main_while0b_v161 : Ref sig .tc := ⟨.hbm, 247, rfl⟩
abbrev main_while0b_v162 : Ref sig .tc := ⟨.hbm, 248, rfl⟩
abbrev main_while0b_v163 : Ref sig .tc := ⟨.hbm, 249, rfl⟩
abbrev main_while0b_v164 : Ref sig .tc := ⟨.hbm, 250, rfl⟩
abbrev main_while0b_v165 : Ref sig .tc := ⟨.hbm, 251, rfl⟩
abbrev main_while0b_v166 : Ref sig .tc := ⟨.hbm, 252, rfl⟩
abbrev main_while0b_v167 : Ref sig .tc := ⟨.hbm, 253, rfl⟩
abbrev main_while0b_v168 : Ref sig .tc := ⟨.hbm, 254, rfl⟩
abbrev main_while0b_v169 : Ref sig .tc := ⟨.hbm, 255, rfl⟩
abbrev main_while0b_v170 : Ref sig .tc := ⟨.hbm, 256, rfl⟩
abbrev main_while0b_v171 : Ref sig .tc := ⟨.hbm, 257, rfl⟩
abbrev main_while0b_v172 : Ref sig .tc := ⟨.hbm, 258, rfl⟩
abbrev main_while0b_v173 : Ref sig .tc := ⟨.hbm, 259, rfl⟩
abbrev main_while0b_v174 : Ref sig .tc := ⟨.hbm, 260, rfl⟩
abbrev main_while0b_v175 : Ref sig .tc := ⟨.hbm, 261, rfl⟩
abbrev main_while0b_v176 : Ref sig .tc := ⟨.hbm, 262, rfl⟩
abbrev main_while0b_v177 : Ref sig .tc := ⟨.hbm, 263, rfl⟩
abbrev main_while0b_call20_v0 : Ref sig .tc := ⟨.hbm, 264, rfl⟩
abbrev main_while0b_call20_c : Ref sig .tc := ⟨.hbm, 265, rfl⟩
abbrev main_while0b_call20_c_0 : Ref sig .tc := ⟨.hbm, 266, rfl⟩
abbrev main_while0b_call20_c_1 : Ref sig .tc := ⟨.hbm, 267, rfl⟩
abbrev main_while0b_call20_c_2 : Ref sig .tc := ⟨.hbm, 268, rfl⟩
abbrev main_while0b_v178 : Ref sig .tc := ⟨.hbm, 269, rfl⟩
abbrev main_while0b_c_19 : Ref sig .tc := ⟨.hbm, 270, rfl⟩
abbrev main_while0b_v179 : Ref sig .tc := ⟨.hbm, 271, rfl⟩
abbrev main_v92 : Ref sig .tc := ⟨.hbm, 272, rfl⟩
abbrev main_v93 : Ref sig .tc := ⟨.hbm, 273, rfl⟩
abbrev main_v94 : Ref sig .tc := ⟨.hbm, 274, rfl⟩
abbrev main_v95 : Ref sig .tc := ⟨.hbm, 275, rfl⟩
abbrev main_v96 : Ref sig .tc := ⟨.hbm, 276, rfl⟩
abbrev main_v97 : Ref sig .tc := ⟨.hbm, 277, rfl⟩
abbrev main_v98 : Ref sig .tc := ⟨.hbm, 278, rfl⟩
abbrev main_v99 : Ref sig .tc := ⟨.hbm, 279, rfl⟩

abbrev nD : Nat := 1
abbrev τ : Topo := Topo.v7x

variable {F : FTy → Type} [FloatOps F]

abbrev main_while0_count : Scf.Loop 32 := ⟨0#32, 68#32, 1#32⟩
-- ==== Proof.FfnPay.lean ====
module

public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.Ffn

/-- The rounded literals the norms and the half-step use. -/
def cD : EReal := Ideal.ofBits .f32 0x45800000#32
def cE : EReal := Ideal.ofBits .f32 0x3727C5AC#32
def cA : EReal := Ideal.ofBits .f32 0x3F9837F0#32
def cH : EReal := Ideal.ofBits .f32 0x3F000000#32

/-- A row's mean, and the row normed: centred and over the root of its variance. -/
def mean (v : Fin 4096 → EReal) : EReal := Ideal.div (∑ k, v k) cD
def ln (v : Fin 4096 → EReal) (j : Fin 4096) : EReal :=
  (v j - mean v) * Ideal.rsqrt (Ideal.div (∑ k, (v k - mean v) * (v k - mean v)) cD + cE)

/-- The gate of the unit. -/
def silu (x : EReal) : EReal := x * Ideal.logistic x

/-- What 256 columns of the hidden layer add to a row of the output. -/
def part (h : Fin 4096 → EReal) (wg wu : (⟨2, ![4096, 256]⟩ : Shape).Idx → EReal) (wo : (⟨2, ![256, 4096]⟩ : Shape).Idx → EReal) (j : Fin 4096) : EReal :=
  ∑ k : Fin 256, silu (∑ l : Fin 4096, h l * wg (ix2 l k)) * (∑ l : Fin 4096, h l * wu (ix2 l k)) * wo (ix2 k j)

open Cert.KernelIdeal Cert.KernelIdeal.Gen

theorem pay5 (x : FVec Ideal S64x4096 .f32) (g b : FVec Ideal S1x4096 .f32) (sc sh : FVec Ideal S1x1x4096 .f32) (p : Fin 64) (j : Fin 4096) :
    (k0_pay5 (F := Ideal) x g b sc sh (ix2 p j) : EReal) = (ln (fun k => x (ix2 p k)) j * g (ix2 0 j) + b (ix2 0 j)) * (1 + sc (ix3 0 0 j)) + sh (ix3 0 0 j) := by
  pointwise [k0_pay5]
  rfl

theorem pay1 (x : FVec Ideal S64x4096 .bf16) : k0_pay1 x = x := by
  funext y
  pointwise [k0_pay1]

theorem pay2 (y : S64x4096.Idx) : k0_pay2 (F := Ideal) y = 0 := by
  pointwise [k0_pay2]

theorem pay6 (x : FVec Ideal S64x4096 .f32) (g b : FVec Ideal S1x4096 .f32) (gt : FVec Ideal S1x1x4096 .f32) (o : FVec Ideal S64x4096 .f32) (p : Fin 64) (j : Fin 4096) :
    (k0_pay6 (F := Ideal) x g b gt o (ix2 p j) : EReal) = cA * (ln (fun k => x (ix2 p k)) j * g (ix2 0 j) + b (ix2 0 j)) + cH * gt (ix3 0 0 j) * o (ix2 p j) := by
  pointwise [k0_pay6]
  rfl

theorem pay4 (x : FVec Ideal S64x4096 .f32) (g b : FVec Ideal S1x4096 .f32) (p : Fin 64) (j : Fin 4096) :
    k0_pay4 x g b (ix2 p j) = ln (fun k => x (ix2 p k)) j * g (ix2 0 j) + b (ix2 0 j) := by
  pointwise [k0_pay4]
  rfl

theorem pay3 (h : FVec Ideal S1024x4096 .bf16) (wg wu : FVec Ideal S4096x256 .bf16) (o : FVec Ideal S1024x4096 .f32) (wo : FVec Ideal S256x4096 .bf16) (p : Fin 1024) (j : Fin 4096) :
    k0_pay3 h wg wu o wo (ix2 p j) = o (ix2 p j) + part (fun l => h (ix2 p l)) wg wu wo j := by
  pointwise [k0_pay3]
  rfl

end Cert.Ffn

end
-- ==== Proof.FfnLoops.lean ====
module

public import proofs.«01_k».proof.Proof.Gen.KernelIdeal.Loops
public import Idealize.ShloMosaic.Lib.Pointwise
public import Idealize.ShloMosaic.Lib.Pipeline.ReadBack
public import Idealize.ShloMosaic.Lib.WritesUnit
public import Idealize.ShloMosaic.Lib.VecWindow
public import proofs.«01_k».proof.Proof.FfnPay

@[expose] public section

set_option maxRecDepth 16384

noncomputable section

open Idealize.ShloMosaic Idealize.ShloMosaic.TcCoe Idealize.SL.Sem

namespace Cert.Ffn

open Cert.KernelIdeal Cert.KernelIdeal.Gen

/-- A row of the stream: the input normed, scaled and shifted. -/
def stream (x : Fin 4096 → EReal) (g b : Fin 4096 → EReal) (j : Fin 4096) : EReal := ln x j * g j + b j

/-- The modulated row. -/
def hid (x g b sc sh : Fin 4096 → EReal) (j : Fin 4096) : EReal := stream x g b j * (1 + sc j) + sh j

/-- The half-step's row. -/
def half (x g b gt o : Fin 4096 → EReal) (j : Fin 4096) : EReal := cA * stream x g b j + cH * gt j * o j

theorem idx2 {m n : ℕ} (y : (⟨2, ![m, n]⟩ : Shape).Idx) : y = ix2 (y 0) (y 1) := by
  funext a
  fin_cases a <;> rfl

theorem trips1 : k0_t1_loop.trips = 16 := by decide +kernel
theorem trips2 : k0_t2_loop.trips = 16 := by decide +kernel

/-- A load of 64 rows reads those rows. -/
theorem rows {sp : Space} {e : EltTy} (v : View sig .tc sp S1024x4096 e) (f : v.ty.Contents (Elt Ideal)) {off : Fin 2 → ℕ}
    (inb : ∀ a, off a + S64x4096.size a ≤ S1024x4096.size a) (o : ℕ) (ho : off = ![o, 0]) (p : Fin 64) (q : Fin 1024) (hq : q.val = o + p.val) (j : Fin 4096) :
    v.readAt (Elt Ideal) (Rect.unit (s := S1024x4096) off S64x4096.size inb).toLoadRect f (ix2 p j) = v.read (Elt Ideal) f (ix2 q j) := by
  subst ho
  rw [View.readAt_apply]
  congr 1
  funext a
  fin_cases a
  · exact Fin.ext (by show o + 1 * p.val = q.val; omega)
  · exact Fin.ext (by show 0 + 1 * j.val = j.val; omega)

section
variable {𝒱 : Variants} {c : Dev nD} {bd : Option 𝒱.V} {i : grid0.Coords} {arg2 : Memref sig .tc .vmem S1024x4096 .f32} {harg2 : arg2.IsWhole} {arg3 : Memref sig .tc .vmem S1x4096 .f32} {harg3 : arg3.IsWhole} {arg4 : Memref sig .tc .vmem S1x4096 .f32} {harg4 : arg4.IsWhole} {arg5 : Memref sig .tc .vmem S1x1x4096 .f32} {harg5 : arg5.IsWhole} {arg6 : Memref sig .tc .vmem S1x1x4096 .f32} {harg6 : arg6.IsWhole} {arg7 : Memref sig .tc .vmem S1x1x4096 .f32} {harg7 : arg7.IsWhole} {arg8 : Memref sig .tc .vmem S4096x256 .bf16} {harg8 : arg8.IsWhole} {arg9 : Memref sig .tc .vmem S4096x256 .bf16} {harg9 : arg9.IsWhole} {arg10 : Memref sig .tc .vmem S256x4096 .bf16} {harg10 : arg10.IsWhole} {arg11 : Memref sig .tc .vmem S1x4096 .f32} {harg11 : arg11.IsWhole} {arg12 : Memref sig .tc .vmem S1x4096 .f32} {harg12 : arg12.IsWhole} {arg13 : Memref sig .tc .vmem S1024x4096 .f32} {harg13 : arg13.IsWhole} {arg14 : Memref sig .tc .vmem S1024x4096 .bf16} {harg14 : arg14.IsWhole}

/-- What the first loop has left in the scratch after `k` trips. -/
theorem scr (k0_h1 : k0_cond1 i = 1#1) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) {sp : Space} (v : View sig .tc sp S1024x4096 .bf16) (f : v.ty.Contents (Elt Ideal)) :
    ∀ k : ℕ, k ≤ 16 → ∀ (p : Fin 1024) (j : Fin 4096), p.val < 64 * k →
      v.read (Elt Ideal) (v.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h1 X_arg2 X_arg3 X_arg4 X_arg5 X_arg6 k).2) (ix2 p j)
        = hid (fun l => arg2.view.read (Elt Ideal) X_arg2 (ix2 p l)) (fun l => arg3.view.read (Elt Ideal) X_arg3 (ix2 0 l))
            (fun l => arg4.view.read (Elt Ideal) X_arg4 (ix2 0 l)) (fun l => arg6.view.read (Elt Ideal) X_arg6 (ix3 0 0 l))
            (fun l => arg5.view.read (Elt Ideal) X_arg5 (ix3 0 0 l)) j
  | 0, _, _, _, h => absurd h (by omega)
  | k + 1, hk, p, j, h => by
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h1 X_arg2 X_arg3 X_arg4 X_arg5 X_arg6 ⟨k, lt_of_lt_of_eq hk trips1.symm⟩
    rw [congrArg Prod.snd hs]
    unfold tripL_k0_t1
    unfold trip_k0_t1
    dsimp only
    rw [List.singleton_append]
    by_cases hp : p.val < 64 * k
    · rw [View.read_writes_cons_rows_of_not_mem (o := 64 * k) (W := 64) _ _ _ _ _ _ (k0_off1_eq _) rfl (Or.inl hp)]
      exact scr _ _ _ _ _ _ v f k (by omega) p j hp
    · refine (View.read_writes_cons_rows_of_mem (o := 64 * k) _ _ _ _ _ (ix2 p j) (ix2 (⟨p.val - 64 * k, by omega⟩ : Fin 64) j) (k0_off1_eq _) ?_ rfl).trans ?_
      · show p.val = 64 * k + (p.val - 64 * k)
        omega
      rw [pay1]
      unfold trip_k0_t1.sl.r
      refine (pay5 _ _ _ _ _ _ _).trans ?_
      have hr : ∀ l : Fin 4096, _ := fun l => rows arg2.view X_arg2 (k0_off1_inb i ⟨k, lt_of_lt_of_eq hk trips1.symm⟩ k0_h1) (64 * k) (k0_off1_eq _) ⟨p.val - 64 * k, by omega⟩ p (by show p.val = 64 * k + (p.val - 64 * k); omega) l
      rw [funext hr]
      rw [View.readAt_full _ _ _, View.readAt_full _ _ _, View.readAt_full _ _ _, View.readAt_full _ _ _]
      rfl

/-- What the first loop has left in the output after `k` trips: zeros. -/
theorem zer (k0_h1 : k0_cond1 i = 1#1) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) {sp : Space} (v : View sig .tc sp S1024x4096 .f32) (f : v.ty.Contents (Elt Ideal)) :
    ∀ k : ℕ, k ≤ 16 → ∀ (p : Fin 1024) (j : Fin 4096), p.val < 64 * k →
      v.read (Elt Ideal) (v.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h1 X_arg2 X_arg3 X_arg4 X_arg5 X_arg6 k).1) (ix2 p j) = 0
  | 0, _, _, _, h => absurd h (by omega)
  | k + 1, hk, p, j, h => by
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h1 X_arg2 X_arg3 X_arg4 X_arg5 X_arg6 ⟨k, lt_of_lt_of_eq hk trips1.symm⟩
    rw [congrArg Prod.fst hs]
    unfold tripL_k0_t1
    unfold trip_k0_t1
    dsimp only
    rw [List.singleton_append]
    by_cases hp : p.val < 64 * k
    · rw [View.read_writes_cons_rows_of_not_mem (o := 64 * k) (W := 64) _ _ _ _ _ _ (k0_off1_eq _) rfl (Or.inl hp)]
      exact zer _ _ _ _ _ _ v f k (by omega) p j hp
    · refine (View.read_writes_cons_rows_of_mem (o := 64 * k) _ _ _ _ _ (ix2 p j) (ix2 (⟨p.val - 64 * k, by omega⟩ : Fin 64) j) (k0_off1_eq _) ?_ rfl).trans (pay2 _)
      show p.val = 64 * k + (p.val - 64 * k)
      omega

/-- What the second loop has left in the output after `k` trips: the norm of the half-step in the rows it has passed,
the sums it found in the others. -/
theorem outp (k0_h2 : k0_cond2 i = 1#1) (X_arg2 : BufTy.Contents (Elt Ideal) arg2.view.ty) (X_arg3 : BufTy.Contents (Elt Ideal) arg3.view.ty) (X_arg4 : BufTy.Contents (Elt Ideal) arg4.view.ty) (X_arg7 : BufTy.Contents (Elt Ideal) arg7.view.ty) (X_arg11 : BufTy.Contents (Elt Ideal) arg11.view.ty) (X_arg12 : BufTy.Contents (Elt Ideal) arg12.view.ty) (G : BufTy.Contents (Elt Ideal) arg13.view.ty) :
    ∀ k : ℕ, k ≤ 16 → ∀ (p : Fin 1024) (j : Fin 4096),
      arg13.view.read (Elt Ideal) (arg13.view.writes (Elt Ideal) G (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h2 X_arg2 X_arg3 X_arg4 X_arg7 X_arg11 X_arg12 G k)) (ix2 p j)
        = if p.val < 64 * k then
            stream (half (fun l => arg2.view.read (Elt Ideal) X_arg2 (ix2 p l)) (fun l => arg3.view.read (Elt Ideal) X_arg3 (ix2 0 l))
              (fun l => arg4.view.read (Elt Ideal) X_arg4 (ix2 0 l)) (fun l => arg7.view.read (Elt Ideal) X_arg7 (ix3 0 0 l))
              (fun l => arg13.view.read (Elt Ideal) G (ix2 p l)))
              (fun l => arg11.view.read (Elt Ideal) X_arg11 (ix2 0 l)) (fun l => arg12.view.read (Elt Ideal) X_arg12 (ix2 0 l)) j
          else arg13.view.read (Elt Ideal) G (ix2 p j)
  | 0, _, p, j => by
    rw [if_neg (by omega)]
    rfl
  | k + 1, hk, p, j => by
    rw [pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h2 X_arg2 X_arg3 X_arg4 X_arg7 X_arg11 X_arg12 G ⟨k, lt_of_lt_of_eq hk trips2.symm⟩]
    unfold tripL_k0_t2
    unfold trip_k0_t2
    dsimp only
    rw [List.singleton_append]
    by_cases hp : p.val < 64 * k ∨ 64 * k + 64 ≤ p.val
    · rw [View.read_writes_cons_rows_of_not_mem (o := 64 * k) (W := 64) _ _ _ _ _ _ (k0_off2_eq _) rfl hp]
      rw [outp _ _ _ _ _ _ _ G k (by omega) p j]
      rcases hp with hp | hp
      · rw [if_pos hp, if_pos (by omega)]
      · rw [if_neg (by omega), if_neg (by omega)]
    · rw [if_pos (by omega)]
      refine (View.read_writes_cons_rows_of_mem (o := 64 * k) _ _ _ _ _ (ix2 p j) (ix2 (⟨p.val - 64 * k, by omega⟩ : Fin 64) j) (k0_off2_eq _) ?_ rfl).trans ?_
      · show p.val = 64 * k + (p.val - 64 * k)
        omega
      refine (pay4 _ _ _ _ _).trans ?_
      unfold trip_k0_t2.sl.r
      have hr : ∀ l : Fin 4096, _ := fun l => rows arg2.view X_arg2 (k0_off2_inb i ⟨k, lt_of_lt_of_eq hk trips2.symm⟩ k0_h2) (64 * k) (k0_off2_eq _) ⟨p.val - 64 * k, by omega⟩ p (by show p.val = 64 * k + (p.val - 64 * k); omega) l
      have hg : ∀ l : Fin 4096, _ := fun l => rows arg13.view (arg13.view.writes (Elt Ideal) G (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h2 X_arg2 X_arg3 X_arg4 X_arg7 X_arg11 X_arg12 G k)) (k0_off2_inb i ⟨k, lt_of_lt_of_eq hk trips2.symm⟩ k0_h2) (64 * k) (k0_off2_eq _) ⟨p.val - 64 * k, by omega⟩ p (by show p.val = 64 * k + (p.val - 64 * k); omega) l
      have hh : ∀ l : Fin 4096, _ := fun l => (hg l).trans ((outp _ _ _ _ _ _ _ G k (by omega) p l).trans (if_neg (by omega)))
      simp only [pay6]
      rw [funext hr, View.readAt_full, View.readAt_full, View.readAt_full, View.readAt_full, View.readAt_full]
      refine congrArg (fun v : Fin 4096 → EReal => ln v j * arg11.view.read (Elt Ideal) X_arg11 (ix2 0 j) + arg12.view.read (Elt Ideal) X_arg12 (ix2 0 j)) (funext fun l => ?_)
      exact congrArg (fun z : EReal => cA * stream (fun l => arg2.view.read (Elt Ideal) X_arg2 (ix2 p l)) (fun l => arg3.view.read (Elt Ideal) X_arg3 (ix2 0 l)) (fun l => arg4.view.read (Elt Ideal) X_arg4 (ix2 0 l)) l + cH * arg7.view.read (Elt Ideal) X_arg7 (ix3 0 0 l) * z) (hh l)

end

end Cert.Ffn

end
-- ==== Proof.FfnCase.lean ====
module

public import proofs.«01_k».proof.Proof.Gen.KernelIdeal.Value
public import Idealize.ShloMosaic.Lib.Pipeline.ValueKit
public import Idealize.ShloMosaic.Lib.Pipeline.ReadBack
public import proofs.«01_k».proof.Proof.FfnLoops

@[expose] public section

set_option maxRecDepth 16384

noncomputable section

open Idealize.ShloMosaic Idealize.ShloMosaic.TcCoe Idealize.SL.Sem
open Cert.KernelIdeal Cert.KernelIdeal.Gen Cert.KernelIdeal.Value

namespace Cert.Ffn

variable {m : (ℓ : Loc nD τ sig) → Buf (Elt Ideal) ℓ} {c : Dev nD}

theorem trips16 : Scf.trips (0#32) (Scalar.addi 0#32 16#32) 1#32 = 16 := by decide +kernel

/-- After a first point the scratch holds the modulated rows. -/
theorem s_A (t : Fin cfg0.N) (h0 : t.val % 43 = 0) (h1 : ¬t.val % 43 = 42) (p : Fin 1024) (j : Fin 4096) :
    (outsAt0 m c t.val t.isLt).2 (ix2 p j) = hid (fun l => iblk m c 0 t (ix2 p l)) (fun l => iblk m c 1 t (ix2 0 l))
      (fun l => iblk m c 2 t (ix2 0 l)) (fun l => iblk m c 4 t (ix3 0 0 l)) (fun l => iblk m c 3 t (ix3 0 0 l)) j := by
  rw [outsAt0_A m c t h0 h1]
  dsimp only
  unfold sout0_A_0
  unfold kernelRun0_A
  dsimp only
  refine (scr _ _ _ _ _ _ VS0_0 _ _ (le_of_eq trips16) p j ?_).trans ?_
  · rw [trips16]
    omega
  · simp only [Memref.IsWhole.read_unread]

/-- After a first point the output holds the first 256 columns' part. -/
theorem o_A (t : Fin cfg0.N) (h0 : t.val % 43 = 0) (h1 : ¬t.val % 43 = 42) (p : Fin 1024) (j : Fin 4096) :
    (outsAt0 m c t.val t.isLt).1 (ix2 p j) = 0 + part (hid (fun l => iblk m c 0 t (ix2 p l)) (fun l => iblk m c 1 t (ix2 0 l))
      (fun l => iblk m c 2 t (ix2 0 l)) (fun l => iblk m c 4 t (ix3 0 0 l)) (fun l => iblk m c 3 t (ix3 0 0 l)))
      (iblk m c 6 t) (iblk m c 7 t) (iblk m c 8 t) j := by
  rw [outsAt0_A m c t h0 h1]
  dsimp only
  unfold out0_A_11
  unfold kernelRun0_A
  dsimp only
  sl_unfold_words
  refine (congrFun (View.read_writes_full VO0_11 _ _ _ _) (ix2 p j)).trans ?_
  refine (pay3 _ _ _ _ _ p j).trans ?_
  unfold View.readCov
  rw [View.readAt_full, View.readAt_full, View.readAt_full, View.readAt_full, View.readAt_full]
  simp only [Memref.IsWhole.read_unread]
  refine congrArg₂ (· + ·) (zer _ _ _ _ _ _ _ _ _ (le_of_eq trips16) p j (by rw [trips16]; omega)) ?_
  refine congrArg (fun h => part h (iblk m c 6 t) (iblk m c 7 t) (iblk m c 8 t) j) (funext fun l => ?_)
  refine (scr _ _ _ _ _ _ (View.whole cc0_scratch0) _ _ (le_of_eq trips16) p l (by rw [trips16]; omega)).trans ?_
  simp only [Memref.IsWhole.read_unread]

/-- A later point keeps the scratch, and adds its 256 columns' part to the output. -/
theorem s_B (t : Fin cfg0.N) (h0 : ¬t.val % 43 = 0) (h1 : ¬t.val % 43 = 42) :
    (outsAt0 m c t.val t.isLt).2 = (outsAt0 m c (t.val - 1) (Nat.lt_of_le_of_lt (Nat.sub_le _ _) t.isLt)).2 := by
  rw [outsAt0_B m c t h0 h1]
  rfl

theorem o_B (t : Fin cfg0.N) (h0 : ¬t.val % 43 = 0) (h1 : ¬t.val % 43 = 42) (p : Fin 1024) (j : Fin 4096) :
    (outsAt0 m c t.val t.isLt).1 (ix2 p j) = (outsAt0 m c (t.val - 1) (Nat.lt_of_le_of_lt (Nat.sub_le _ _) t.isLt)).1 (ix2 p j)
      + part (fun l => (outsAt0 m c (t.val - 1) (Nat.lt_of_le_of_lt (Nat.sub_le _ _) t.isLt)).2 (ix2 p l))
        (iblk m c 6 t) (iblk m c 7 t) (iblk m c 8 t) j := by
  rw [outsAt0_B m c t h0 h1]
  dsimp only
  unfold out0_B_11
  unfold kernelRun0_B
  dsimp only
  sl_unfold_words
  refine (congrFun (View.read_writes_full VO0_11 _ _ _ _) (ix2 p j)).trans ?_
  refine (pay3 _ _ _ _ _ p j).trans ?_
  rw [View.readAt_full, View.readAt_full, View.readAt_full, View.readAt_full, View.readAt_full]
  simp only [Memref.IsWhole.read_unread, read_unread_whole]

/-- The last point adds its part, and leaves the norm of the half-step. -/
theorem o_C (t : Fin cfg0.N) (h0 : ¬t.val % 43 = 0) (h1 : t.val % 43 = 42) (p : Fin 1024) (j : Fin 4096) :
    (outsAt0 m c t.val t.isLt).1 (ix2 p j) = stream (half (fun l => iblk m c 0 t (ix2 p l)) (fun l => iblk m c 1 t (ix2 0 l))
      (fun l => iblk m c 2 t (ix2 0 l)) (fun l => iblk m c 5 t (ix3 0 0 l))
      (fun q => (outsAt0 m c (t.val - 1) (Nat.lt_of_le_of_lt (Nat.sub_le _ _) t.isLt)).1 (ix2 p q)
        + part (fun l => (outsAt0 m c (t.val - 1) (Nat.lt_of_le_of_lt (Nat.sub_le _ _) t.isLt)).2 (ix2 p l))
          (iblk m c 6 t) (iblk m c 7 t) (iblk m c 8 t) q))
      (fun l => iblk m c 9 t (ix2 0 l)) (fun l => iblk m c 10 t (ix2 0 l)) j := by
  have hc := fun y => cover0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).1 (outsAt0 m c (t.val - 1) (Nat.lt_of_le_of_lt (Nat.sub_le _ _) t.isLt)).2 y
  rw [outsAt0_C m c t h0 h1]
  dsimp only
  unfold out0_C_11
  rw [View.read_writes_eq_canon _ _ _ hc, ← View.read_writes_eq_canon (ms0_11 t).view (ms0_11 t).view.junk _ hc]
  clear hc
  unfold kernelRun0_C
  dsimp only
  sl_unfold_words
  rw [View.writes_append]
  refine (outp _ _ _ _ _ _ _ _ _ (le_of_eq trips16) p j).trans ((if_pos (by rw [trips16]; omega)).trans ?_)
  rw [View.read_writes_full]
  rw [View.readAt_full, View.readAt_full, View.readAt_full, View.readAt_full, View.readAt_full]
  simp only [Memref.IsWhole.read_unread, read_unread_whole, pay3]

end Cert.Ffn

end
-- ==== Proof.FfnFold.lean ====
module

public import proofs.«01_k».proof.Proof.FfnCase

@[expose] public section

set_option maxRecDepth 16384

noncomputable section

open Idealize.ShloMosaic Idealize.ShloMosaic.TcCoe Idealize.SL.Sem

namespace Cert.Ffn

/-- Row `r`'s batch and its place in it. -/
def bat (r : Fin 16384) : Fin 4 := ⟨r.val / 4096, by omega⟩
def pos (r : Fin 16384) : Fin 4096 := ⟨r.val % 4096, by omega⟩

section spec

variable (x : FVec Ideal ⟨3, ![4, 4096, 4096]⟩ .f32) (lg lb : FVec Ideal ⟨3, ![1, 3, 4096]⟩ .f32) (mm : FVec Ideal ⟨3, ![4, 9, 4096]⟩ .f32)
  (wi : FVec Ideal ⟨3, ![1, 4096, 22016]⟩ .f32) (wo : FVec Ideal ⟨3, ![1, 11008, 4096]⟩ .f32)

/-- The unit's input row. -/
def hrow (r : Fin 16384) : Fin 4096 → EReal :=
  hid (fun l => x (ix3 (bat r) (pos r) l)) (fun l => lg (ix3 0 1 l)) (fun l => lb (ix3 0 1 l)) (fun l => mm (ix3 (bat r) 7 l)) (fun l => mm (ix3 (bat r) 6 l))

/-- What column `k` of the hidden layer adds to a row of the unit's output. -/
def act (h : Fin 4096 → EReal) (j : Fin 4096) (k : Fin 11008) : EReal :=
  silu (∑ l : Fin 4096, h l * wi (ix3 0 l ⟨k.val, by omega⟩)) * (∑ l : Fin 4096, h l * wi (ix3 0 l ⟨11008 + k.val, by omega⟩)) * wo (ix3 0 k j)

/-- The first `n` blocks of 256 columns. -/
def acc (h : Fin 4096 → EReal) (n : ℕ) (j : Fin 4096) : EReal :=
  ∑ q ∈ Finset.range n, ∑ k : Fin 256, act wi wo h j ⟨(256 * q + k.val) % 11008, Nat.mod_lt _ (by norm_num)⟩

/-- The layer's second half-step: the stream, half its gate times the unit of it, normed. -/
def out (r : Fin 16384) (j : Fin 4096) : EReal :=
  stream (half (fun l => x (ix3 (bat r) (pos r) l)) (fun l => lg (ix3 0 1 l)) (fun l => lb (ix3 0 1 l)) (fun l => mm (ix3 (bat r) 8 l))
    (fun q => ∑ k : Fin 11008, act wi wo (hrow x lg lb mm r) q k)) (fun l => lg (ix3 0 2 l)) (fun l => lb (ix3 0 2 l)) j

/-- Blocks of 256 of a sum. -/
theorem blocks (f : ℕ → EReal) : ∀ n : ℕ, ∑ i ∈ Finset.range (256 * n), f i = ∑ q ∈ Finset.range n, ∑ k : Fin 256, f (256 * q + k.val)
  | 0 => rfl
  | n + 1 => by
    rw [Finset.sum_range_succ, ← blocks f n, Nat.mul_succ, Finset.sum_range_add, Finset.sum_range (fun i => f (256 * n + i))]

theorem acc_all (h : Fin 4096 → EReal) (j : Fin 4096) : acc wi wo h 43 j = ∑ k : Fin 11008, act wi wo h j k := by
  unfold acc
  rw [← blocks (fun i => act wi wo h j ⟨i % 11008, Nat.mod_lt _ (by norm_num)⟩) 43, Finset.sum_range]
  refine Finset.sum_congr rfl fun k _ => ?_
  congr 1
  exact Fin.ext (Nat.mod_eq_of_lt k.isLt)

end spec

section kernel

open Cert.KernelIdeal Cert.KernelIdeal.Gen Cert.KernelIdeal.Value

theorem idx : ∀ t : Fin cfg0.N, win0_0.index t = ![t.val / 43, 0] ∧ win0_1.index t = ![0, 0] ∧ win0_2.index t = ![0, 0]
    ∧ win0_3.index t = ![t.val / 43 / 4, 0, 0] ∧ win0_4.index t = ![t.val / 43 / 4, 0, 0] ∧ win0_5.index t = ![t.val / 43 / 4, 0, 0]
    ∧ win0_6.index t = ![0, t.val % 43] ∧ win0_7.index t = ![0, 43 + t.val % 43] ∧ win0_8.index t = ![t.val % 43, 0]
    ∧ win0_9.index t = ![0, 0] ∧ win0_10.index t = ![0, 0] ∧ win0_11.index t = ![t.val / 43, 0] :=
  (by decide +kernel : ∀ t : Fin grid0.N, _)

theorem t_lt (t : Fin cfg0.N) : t.val < 688 := lt_of_lt_of_eq t.isLt (show cfg0.N = 688 from N_0)

variable (m : (ℓ : Loc nD τ sig) → Buf (Elt Ideal) ℓ) (c : Dev nD) (t : Fin cfg0.N)

/-- The array's row of a point's block's. -/
def row (p : Fin 1024) : Fin 16384 := ⟨1024 * (t.val / 43) + p.val, by have := t_lt t; omega⟩

theorem r0 (p : Fin 1024) (l : Fin 4096) : iblk m c 0 t (ix2 p l) = m ((c : Thread nD τ).loc main_arg0) (ix3 (bat (row t p)) (pos (row t p)) l) := by
  unfold row bat pos
  blk_simp [iblk, idx t]
  entry_read
  pointwise
  blk_ext [idx t]
theorem r1 (l : Fin 4096) : iblk m c 1 t (ix2 0 l) = m ((c : Thread nD τ).loc main_arg1) (ix3 0 1 l) := by
  blk_simp [iblk, idx t]
  entry_read
  pointwise
  blk_ext [idx t]
theorem r2 (l : Fin 4096) : iblk m c 2 t (ix2 0 l) = m ((c : Thread nD τ).loc main_arg2) (ix3 0 1 l) := by
  blk_simp [iblk, idx t]
  entry_read
  pointwise
  blk_ext [idx t]
theorem r3 (p : Fin 1024) (l : Fin 4096) : iblk m c 3 t (ix3 0 0 l) = m ((c : Thread nD τ).loc main_arg3) (ix3 (bat (row t p)) 6 l) := by
  unfold row bat
  blk_simp [iblk, idx t]
  entry_read
  pointwise
  blk_ext [idx t]
theorem r4 (p : Fin 1024) (l : Fin 4096) : iblk m c 4 t (ix3 0 0 l) = m ((c : Thread nD τ).loc main_arg3) (ix3 (bat (row t p)) 7 l) := by
  unfold row bat
  blk_simp [iblk, idx t]
  entry_read
  pointwise
  blk_ext [idx t]
theorem r5 (p : Fin 1024) (l : Fin 4096) : iblk m c 5 t (ix3 0 0 l) = m ((c : Thread nD τ).loc main_arg3) (ix3 (bat (row t p)) 8 l) := by
  unfold row bat
  blk_simp [iblk, idx t]
  entry_read
  pointwise
  blk_ext [idx t]
theorem r6 (l : Fin 4096) (k : Fin 256) : iblk m c 6 t (ix2 l k) = m ((c : Thread nD τ).loc main_arg4) (ix3 0 l ⟨(256 * (t.val % 43) + k.val) % 11008, by omega⟩) := by
  blk_simp [iblk, idx t]
  entry_read
  pointwise
  blk_ext [idx t]
theorem r7 (l : Fin 4096) (k : Fin 256) : iblk m c 7 t (ix2 l k) = m ((c : Thread nD τ).loc main_arg4) (ix3 0 l ⟨11008 + (256 * (t.val % 43) + k.val) % 11008, by omega⟩) := by
  blk_simp [iblk, idx t]
  entry_read
  pointwise
  blk_ext [idx t]
theorem r8 (k : Fin 256) (j : Fin 4096) : iblk m c 8 t (ix2 k j) = m ((c : Thread nD τ).loc main_arg5) (ix3 0 ⟨(256 * (t.val % 43) + k.val) % 11008, by omega⟩ j) := by
  blk_simp [iblk, idx t]
  entry_read
  pointwise
  blk_ext [idx t]
theorem r9 (l : Fin 4096) : iblk m c 9 t (ix2 0 l) = m ((c : Thread nD τ).loc main_arg1) (ix3 0 2 l) := by
  blk_simp [iblk, idx t]
  entry_read
  pointwise
  blk_ext [idx t]
theorem r10 (l : Fin 4096) : iblk m c 10 t (ix2 0 l) = m ((c : Thread nD τ).loc main_arg2) (ix3 0 2 l) := by
  blk_simp [iblk, idx t]
  entry_read
  pointwise
  blk_ext [idx t]

end kernel

end Cert.Ffn

end
-- ==== Proof.FfnArr.lean ====
module

public import proofs.«01_k».proof.Proof.FfnFold

@[expose] public section

set_option maxRecDepth 16384

noncomputable section

open Idealize.ShloMosaic Idealize.ShloMosaic.TcCoe Idealize.SL.Sem

namespace Cert.Ffn

open Cert.KernelIdeal Cert.KernelIdeal.Gen Cert.KernelIdeal.Value

variable (m : (ℓ : Loc nD τ sig) → Buf (Elt Ideal) ℓ) (c : Dev nD) (t : Fin cfg0.N)

/-- The unit's input row, at the arrays the call finds. -/
def hR (r : Fin 16384) : Fin 4096 → EReal :=
  hrow (m ((c : Thread nD τ).loc main_arg0)) (m ((c : Thread nD τ).loc main_arg1)) (m ((c : Thread nD τ).loc main_arg2)) (m ((c : Thread nD τ).loc main_arg3)) r

/-- The first `n` blocks of 256 columns, at the arrays the call finds. -/
def aR (r : Fin 16384) (n : ℕ) : Fin 4096 → EReal :=
  acc (m ((c : Thread nD τ).loc main_arg4)) (m ((c : Thread nD τ).loc main_arg5)) (hR m c r) n

theorem hid_at (p : Fin 1024) : hid (fun l => iblk m c 0 t (ix2 p l)) (fun l => iblk m c 1 t (ix2 0 l))
      (fun l => iblk m c 2 t (ix2 0 l)) (fun l => iblk m c 4 t (ix3 0 0 l)) (fun l => iblk m c 3 t (ix3 0 0 l)) = hR m c (row t p) := by
  rw [funext (r0 m c t p), funext (r1 m c t), funext (r2 m c t), funext (r3 m c t p), funext (r4 m c t p)]
  rfl

theorem part_at (h : Fin 4096 → EReal) (j : Fin 4096) :
    part h (iblk m c 6 t) (iblk m c 7 t) (iblk m c 8 t) j
      = ∑ k : Fin 256, act (m ((c : Thread nD τ).loc main_arg4)) (m ((c : Thread nD τ).loc main_arg5)) h j ⟨(256 * (t.val % 43) + k.val) % 11008, Nat.mod_lt _ (by norm_num)⟩ := by
  unfold part act
  refine Finset.sum_congr rfl fun k _ => ?_
  rw [r8]
  simp only [r6, r7]

/-- What the scratch and the output hold after the `f`-th point of a tile that has more to come. -/
theorem inv : ∀ (f : ℕ) (t : Fin cfg0.N), t.val % 43 = f → f < 42 → ∀ p : Fin 1024,
    (∀ j, (outsAt0 m c t.val t.isLt).2 (ix2 p j) = hR m c (row t p) j)
      ∧ ∀ j, (outsAt0 m c t.val t.isLt).1 (ix2 p j) = aR m c (row t p) (f + 1) j
  | 0, t, h0, _, p => by
    refine ⟨fun j => ?_, fun j => ?_⟩
    · rw [s_A t h0 (by omega) p j, hid_at]
    · rw [o_A t h0 (by omega) p j, hid_at, part_at, h0, zero_add]
      unfold aR acc
      rw [Finset.sum_range_one]
  | f + 1, t, hf, hlt, p => by
    have h0 : ¬t.val % 43 = 0 := by omega
    have h1 : ¬t.val % 43 = 42 := by omega
    have ih := inv f ⟨t.val - 1, Nat.lt_of_le_of_lt (Nat.sub_le _ _) t.isLt⟩ (by show (t.val - 1) % 43 = f; omega) (by omega) p
    have hr : row ⟨t.val - 1, Nat.lt_of_le_of_lt (Nat.sub_le _ _) t.isLt⟩ p = row t p := Fin.ext (by
      show 1024 * ((t.val - 1) / 43) + p.val = 1024 * (t.val / 43) + p.val
      omega)
    rw [hr] at ih
    refine ⟨fun j => ?_, fun j => ?_⟩
    · rw [s_B t h0 h1]
      exact ih.1 j
    · rw [o_B t h0 h1 p j, part_at, ih.2 j, funext ih.1, hf]
      unfold aR acc
      rw [Finset.sum_range_succ _ (f + 1)]

/-- What the output holds after the last point of a tile. -/
theorem last (t : Fin cfg0.N) (h1 : t.val % 43 = 42) (p : Fin 1024) (j : Fin 4096) :
    (outsAt0 m c t.val t.isLt).1 (ix2 p j) = out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (row t p) j := by
  have h0 : ¬t.val % 43 = 0 := by omega
  have ih := inv m c 41 ⟨t.val - 1, Nat.lt_of_le_of_lt (Nat.sub_le _ _) t.isLt⟩ (by show (t.val - 1) % 43 = 41; omega) (by omega) p
  have hr : row ⟨t.val - 1, Nat.lt_of_le_of_lt (Nat.sub_le _ _) t.isLt⟩ p = row t p := Fin.ext (by
    show 1024 * ((t.val - 1) / 43) + p.val = 1024 * (t.val / 43) + p.val
    omega)
  rw [hr] at ih
  rw [o_C t h0 h1 p j, funext (r0 m c t p), funext (r1 m c t), funext (r2 m c t), funext (r5 m c t p), funext (r9 m c t), funext (r10 m c t), funext ih.1]
  unfold out
  refine congrArg (fun o => stream (half _ _ _ _ o) _ _ j) (funext fun q => ?_)
  rw [part_at, ih.2 q, h1, ← acc_all]
  unfold aR acc
  rw [Finset.sum_range_succ _ 42]
  rfl

/-- The kernel's array. -/
theorem arr : (dats m 0 c).arrAt 11 cfg0.N = fun y => out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (y 0) (y 1) := by
  refine (dats m 0 c).arrAt_eq_of_covers 11 _ (by decide +kernel) fun t hf y => ?_
  obtain ⟨p, j, rfl⟩ : ∃ p j, y = ix2 p j := ⟨y 0, y 1, idx2 y⟩
  blk_simp
  rw [after0_11]
  refine (last m c t ((flush0_11 t).mp hf) p j).trans ?_
  have e0 : (win0_11.blk t).view.emb (ix2 p j) 0 = row t p := Fin.ext (by
    show ((win0_11.blk t).view.emb (ix2 p j) 0).val = 1024 * (t.val / 43) + p.val
    blk_simp [idx t] <;> try omega)
  have e1 : (win0_11.blk t).view.emb (ix2 p j) 1 = j := Fin.ext (by
    show ((win0_11.blk t).view.emb (ix2 p j) 1).val = j.val
    blk_simp [idx t] <;> try omega)
  rw [e0, e1]

end Cert.Ffn

end
-- ==== Proof.FfnRef.lean ====
module

public import proofs.«01_k».proof.Proof.Gen.ReferenceIdeal.Run
public import Idealize.ShloMosaic.Lib.Pointwise
public import proofs.«01_k».proof.Proof.FfnFold

@[expose] public section

set_option maxRecDepth 16384

noncomputable section

open Idealize.ShloMosaic Idealize.ShloMosaic.TcCoe Idealize.SL.Sem

namespace Cert.Ffn

section reference

open Cert.ReferenceIdeal Cert.ReferenceIdeal.Gen Cert.ReferenceIdeal.Value

variable (X : FVec Ideal S4x4096x4096 .f32) (LG LB : FVec Ideal S1x3x4096 .f32) (MM : FVec Ideal S4x9x4096 .f32)
  (WI : FVec Ideal S1x4096x22016 .f32) (WO : FVec Ideal S1x11008x4096 .f32)

theorem idx3 {n0 n1 n2 : ℕ} (y : (⟨3, ![n0, n1, n2]⟩ : Shape).Idx) : y = ix3 (y 0) (y 1) (y 2) := by
  funext a
  fin_cases a <;> rfl

/-- The reference's values, a step at a time. -/
def tC : FVec Ideal S4x4096x4096 .f32 :=
  subf X (broadcastInDim S4x4096x4096 ![0, 1, 2] bcast_S4x4096x1_S4x4096x4096_0_1_2 (Host.divf (broadcastInDim S4x4096x1 ![0, 1] bcast_S4x4096_S4x4096x1_0_1 (Host.reduceAdd X (constant S_ .f32 0x00000000#32) reducesTo_S4x4096x4096_S4x4096_d2 h_S_)) (broadcastInDim S4x4096x1 ![] bcast_S_S4x4096x1 (constant S_ .f32 0x45800000#32))))

def tN : FVec Ideal S4x4096x4096 .f32 :=
  mulf (tC X) (broadcastInDim S4x4096x4096 ![0, 1, 2] bcast_S4x4096x1_S4x4096x4096_0_1_2 (Host.rsqrt (addf (Host.divf (broadcastInDim S4x4096x1 ![0, 1] bcast_S4x4096_S4x4096x1_0_1 (Host.reduceAdd (mulf (tC X) (tC X)) (constant S_ .f32 0x00000000#32) reducesTo_S4x4096x4096_S4x4096_d2 h_S_)) (broadcastInDim S4x4096x1 ![] bcast_S_S4x4096x1 (constant S_ .f32 0x45800000#32))) (broadcastInDim S4x4096x1 ![] bcast_S_S4x4096x1 (constant S_ .f32 0x3727C5AC#32)))))

def tS : FVec Ideal S4x4096x4096 .f32 :=
  addf (mulf (tN X) (broadcastInDim S4x4096x4096 ![0, 1, 2] bcast_S1x1x4096_S4x4096x4096_0_1_2 (broadcastInDim S1x1x4096 ![2] bcast_S4096_S1x1x4096_2 (shapeCast _ (extractStridedSlice S1x1x4096 ![0, 1, 0] LG slices_S1x3x4096_S1x1x4096_0_1_0) shapeCasts_S1x1x4096_S4096)))) (broadcastInDim S4x4096x4096 ![0, 1, 2] bcast_S1x1x4096_S4x4096x4096_0_1_2 (broadcastInDim S1x1x4096 ![2] bcast_S4096_S1x1x4096_2 (shapeCast _ (extractStridedSlice S1x1x4096 ![0, 1, 0] LB slices_S1x3x4096_S1x1x4096_0_1_0) shapeCasts_S1x1x4096_S4096)))

def tF : FVec Ideal S4x4096x4096 .f32 :=
  addf (mulf (tN X) (broadcastInDim S4x4096x4096 ![0, 1, 2] bcast_S1x1x4096_S4x4096x4096_0_1_2 (broadcastInDim S1x1x4096 ![2] bcast_S4096_S1x1x4096_2 (shapeCast _ (extractStridedSlice S1x1x4096 ![0, 2, 0] LG slices_S1x3x4096_S1x1x4096_0_2_0) shapeCasts_S1x1x4096_S4096)))) (broadcastInDim S4x4096x4096 ![0, 1, 2] bcast_S1x1x4096_S4x4096x4096_0_1_2 (broadcastInDim S1x1x4096 ![2] bcast_S4096_S1x1x4096_2 (shapeCast _ (extractStridedSlice S1x1x4096 ![0, 2, 0] LB slices_S1x3x4096_S1x1x4096_0_2_0) shapeCasts_S1x1x4096_S4096)))

def tH : FVec Ideal S4x4096x4096 .f32 :=
  addf (mulf X (broadcastInDim S4x4096x4096 ![0, 1, 2] bcast_S4x1x4096_S4x4096x4096_0_1_2 (addf (broadcastInDim S4x1x4096 ![] bcast_S_S4x1x4096 (constant S_ .f32 0x3F800000#32)) (broadcastInDim S4x1x4096 ![0, 2] bcast_S4x4096_S4x1x4096_0_2 (shapeCast _ (extractStridedSlice S4x1x4096 ![0, 7, 0] MM slices_S4x9x4096_S4x1x4096_0_7_0) shapeCasts_S4x1x4096_S4x4096))))) (broadcastInDim S4x4096x4096 ![0, 1, 2] bcast_S4x1x4096_S4x4096x4096_0_1_2 (broadcastInDim S4x1x4096 ![0, 2] bcast_S4x4096_S4x1x4096_0_2 (shapeCast _ (extractStridedSlice S4x1x4096 ![0, 6, 0] MM slices_S4x9x4096_S4x1x4096_0_6_0) shapeCasts_S4x1x4096_S4x4096)))

def tG : FVec Ideal S4x4096x22016 .f32 :=
  Host.dotGeneral dot_S4x4096x4096_S4096x22016_S4x4096x22016_2_0_01_1_n_n none X (shapeCast _ WI shapeCasts_S1x4096x22016_S4096x22016)

def tA (G : FVec Ideal S4x4096x22016 .f32) : FVec Ideal S4x4096x11008 .f32 :=
  mulf (mulf (extractStridedSlice S4x4096x11008 ![0, 0, 0] G slices_S4x4096x22016_S4x4096x11008_0_0_0) (Host.divf (broadcastInDim S4x4096x11008 ![] bcast_S_S4x4096x11008 (constant S_ .f32 0x3F800000#32)) (addf (broadcastInDim S4x4096x11008 ![] bcast_S_S4x4096x11008 (constant S_ .f32 0x3F800000#32)) (Host.exp (Host.negf (extractStridedSlice S4x4096x11008 ![0, 0, 0] G slices_S4x4096x22016_S4x4096x11008_0_0_0)))))) (extractStridedSlice S4x4096x11008 ![0, 0, 11008] G slices_S4x4096x22016_S4x4096x11008_0_0_11008)

def tO (A : FVec Ideal S4x4096x11008 .f32) : FVec Ideal S4x4096x4096 .f32 :=
  Host.dotGeneral dot_S4x4096x11008_S11008x4096_S4x4096x4096_2_0_01_1_n_n none A (shapeCast _ WO shapeCasts_S1x11008x4096_S11008x4096)

def tP (O : FVec Ideal S4x4096x4096 .f32) : FVec Ideal S4x4096x4096 .f32 :=
  addf (mulf (broadcastInDim S4x4096x4096 ![] bcast_S_S4x4096x4096 (constant S_ .f32 0x3F9837F0#32)) X) (mulf (broadcastInDim S4x4096x4096 ![0, 1, 2] bcast_S4x1x4096_S4x4096x4096_0_1_2 (mulf (broadcastInDim S4x1x4096 ![] bcast_S_S4x1x4096 (constant S_ .f32 0x3F000000#32)) (broadcastInDim S4x1x4096 ![0, 2] bcast_S4x4096_S4x1x4096_0_2 (shapeCast _ (extractStridedSlice S4x1x4096 ![0, 8, 0] MM slices_S4x9x4096_S4x1x4096_0_8_0) shapeCasts_S4x1x4096_S4x4096)))) O)

variable (b : Fin 4) (s : Fin 4096)

theorem tC_at (j : Fin 4096) : tC X (ix3 b s j) = X (ix3 b s j) - mean (fun k => X (ix3 b s k)) := by
  pointwise [tC]
  rfl
theorem tN_at (j : Fin 4096) : tN X (ix3 b s j) = ln (fun k => X (ix3 b s k)) j := by
  pointwise [tN]
  simp only [tC_at]
  rfl
theorem tS_at (j : Fin 4096) : tS X LG LB (ix3 b s j) = stream (fun k => X (ix3 b s k)) (fun l => LG (ix3 0 1 l)) (fun l => LB (ix3 0 1 l)) j := by
  pointwise [tS]
  rw [tN_at]
  rfl
theorem tF_at (j : Fin 4096) : tF X LG LB (ix3 b s j) = stream (fun k => X (ix3 b s k)) (fun l => LG (ix3 0 2 l)) (fun l => LB (ix3 0 2 l)) j := by
  pointwise [tF]
  rw [tN_at]
  rfl
theorem tH_at (j : Fin 4096) : tH X MM (ix3 b s j) = X (ix3 b s j) * (1 + MM (ix3 b 7 j)) + MM (ix3 b 6 j) := by
  pointwise [tH]
theorem tG_at (k : Fin 22016) : tG X WI (ix3 b s k) = ∑ l : Fin 4096, X (ix3 b s l) * WI (ix3 0 l k) := by
  pointwise [tG]
theorem tA_at (G : FVec Ideal S4x4096x22016 .f32) (k : Fin 11008) : tA G (ix3 b s k) = silu (G (ix3 b s ⟨k.val, by omega⟩)) * G (ix3 b s ⟨11008 + k.val, by omega⟩) := by
  pointwise [tA]
  rfl
theorem tO_at (A : FVec Ideal S4x4096x11008 .f32) (j : Fin 4096) : tO WO A (ix3 b s j) = ∑ k : Fin 11008, A (ix3 b s k) * WO (ix3 0 k j) := by
  pointwise [tO]
theorem tP_at (O : FVec Ideal S4x4096x4096 .f32) (j : Fin 4096) : tP X MM O (ix3 b s j) = cA * X (ix3 b s j) + cH * MM (ix3 b 8 j) * O (ix3 b s j) := by
  pointwise [tP]
  rfl

/-- The reference's array. -/
def tR : FVec Ideal S16384x4096 .f32 :=
  shapeCast _ (tF (tP (tS X LG LB) MM (tO WO (tA (tG (tH (tS X LG LB) MM) WI)))) LG LB) shapeCasts_S4x4096x4096_S16384x4096

theorem tR_eq : tR X LG LB MM WI WO = fun i => out X LG LB MM WI WO (i 0) (i 1) := by
  funext i
  obtain ⟨r, j, rfl⟩ : ∃ r j, i = ix2 r j := ⟨i 0, i 1, idx2 i⟩
  have e : tR X LG LB MM WI WO (ix2 r j) = tF (tP (tS X LG LB) MM (tO WO (tA (tG (tH (tS X LG LB) MM) WI)))) LG LB (ix3 (bat r) (pos r) j) := by
    unfold tR
    generalize tF (tP (tS X LG LB) MM (tO WO (tA (tG (tH (tS X LG LB) MM) WI)))) LG LB = v
    pointwise
    rfl
  rw [e, tF_at]
  unfold out
  refine congrArg (fun o => stream o _ _ j) (funext fun k => ?_)
  rw [tP_at, tS_at, tO_at]
  unfold half
  refine congrArg (fun o => _ + _ * o) (Finset.sum_congr rfl fun q _ => ?_)
  rw [tA_at, tG_at, tG_at]
  simp only [tH_at, tS_at]
  rfl

theorem ref {m : (ℓ : Loc nD τ sig) → Buf (Elt Ideal) ℓ} {c : Dev nD} {X : FVec Ideal S4x4096x4096 .f32} {LG LB : FVec Ideal S1x3x4096 .f32}
    {MM : FVec Ideal S4x9x4096 .f32} {WI : FVec Ideal S1x4096x22016 .f32} {WO : FVec Ideal S1x11008x4096 .f32}
    (h0 : m ((c : Thread nD τ).loc main_arg0) = X) (h1 : m ((c : Thread nD τ).loc main_arg1) = LG) (h2 : m ((c : Thread nD τ).loc main_arg2) = LB)
    (h3 : m ((c : Thread nD τ).loc main_arg3) = MM) (h4 : m ((c : Thread nD τ).loc main_arg4) = WI) (h5 : m ((c : Thread nD τ).loc main_arg5) = WO) :
    res_main_v86 m c = fun i : S16384x4096.Idx => out X LG LB MM WI WO (i 0) (i 1) := by
  subst h0 h1 h2 h3 h4 h5
  exact Eq.trans (by unfold res_main_v86; rfl) (tR_eq _ _ _ _ _ _)

end reference

end Cert.Ffn

end
-- ==== Proof.Ffn1Pay.lean ====
module

public import proofs.«01_k».proof.Proof.Gen.Kernel2Ideal.Skeleton
public import Idealize.ShloMosaic.Lib.Pointwise
public import proofs.«01_k».proof.Proof.FfnFold

@[expose] public section

set_option maxRecDepth 16384

noncomputable section

open Idealize.ShloMosaic Idealize.ShloMosaic.TcCoe Idealize.SL.Sem Cert.Ffn

namespace Cert.Ffn1

/-- The modulated row: the normed input, scaled and shifted. -/
def hid (x sc sh : Fin 4096 → EReal) (j : Fin 4096) : EReal := ln x j * (1 + sc j) + sh j

/-- The half-step's row. -/
def half (x gt o : Fin 4096 → EReal) (j : Fin 4096) : EReal := cA * ln x j + cH * gt j * o j

open Cert.Kernel2Ideal Cert.Kernel2Ideal.Gen

theorem pay1 (x : FVec Ideal S64x4096 .f32) (sc sh : FVec Ideal S1x1x4096 .f32) (p : Fin 64) (j : Fin 4096) :
    k0_pay1 (F := Ideal) x sc sh (ix2 p j) = hid (fun k => x (ix2 p k)) (fun l => sc (ix3 0 0 l)) (fun l => sh (ix3 0 0 l)) j := by
  pointwise [k0_pay1]
  rfl

theorem pay2 (y : S64x4096.Idx) : k0_pay2 (F := Ideal) y = 0 := by
  pointwise [k0_pay2]

theorem pay5 (x : FVec Ideal S64x4096 .f32) (gt : FVec Ideal S1x1x4096 .f32) (o : FVec Ideal S64x4096 .f32) (p : Fin 64) (j : Fin 4096) :
    (k0_pay5 (F := Ideal) x gt o (ix2 p j) : EReal) = half (fun k => x (ix2 p k)) (fun l => gt (ix3 0 0 l)) (fun l => o (ix2 p l)) j
      - mean (half (fun k => x (ix2 p k)) (fun l => gt (ix3 0 0 l)) (fun l => o (ix2 p l))) := by
  pointwise [k0_pay5]
  rfl

theorem pay6 (x : FVec Ideal S64x4096 .f32) (gt : FVec Ideal S1x1x4096 .f32) (o : FVec Ideal S64x4096 .f32) (p : Fin 64) :
    (k0_pay6 (F := Ideal) x gt o (ix2 p 0) : EReal) = ∑ k : Fin 4096, (k0_pay5 (F := Ideal) x gt o (ix2 p k) : EReal) * k0_pay5 (F := Ideal) x gt o (ix2 p k) := by
  unfold k0_pay6
  generalize k0_pay5 (F := Ideal) x gt o = d
  pointwise

theorem pay4 (x : FVec Ideal S64x4096 .f32) (gt : FVec Ideal S1x1x4096 .f32) (o : FVec Ideal S64x4096 .f32) (g b : FVec Ideal S1x4096 .f32) (p : Fin 64) (j : Fin 4096) :
    k0_pay4 (F := Ideal) (k0_pay5 x gt o) (k0_pay6 x gt o) (Scalar.ofBits .f32 0x45800000#32) g b (ix2 p j)
      = stream (half (fun k => x (ix2 p k)) (fun l => gt (ix3 0 0 l)) (fun l => o (ix2 p l))) (fun l => g (ix2 0 l)) (fun l => b (ix2 0 l)) j := by
  have h5 := pay5 x gt o p
  have h6 := pay6 x gt o p
  generalize k0_pay5 (F := Ideal) x gt o = d at h5 h6 ⊢
  generalize k0_pay6 (F := Ideal) x gt o = e at h6 ⊢
  pointwise [k0_pay4]
  simp only [h6, h5]
  rfl

theorem pay3 (h : FVec Ideal S1024x4096 .bf16) (wg wu : FVec Ideal S4096x256 .bf16) (o : FVec Ideal S1024x4096 .f32) (wo : FVec Ideal S256x4096 .bf16) (p : Fin 1024) (j : Fin 4096) :
    k0_pay3 h wg wu o wo (ix2 p j) = o (ix2 p j) + part (fun l => h (ix2 p l)) wg wu wo j := by
  pointwise [k0_pay3]
  rfl

end Cert.Ffn1

end
-- ==== Proof.Ffn1Loops.lean ====
module

public import proofs.«01_k».proof.Proof.Gen.Kernel2Ideal.Loops
public import Idealize.ShloMosaic.Lib.Pointwise
public import Idealize.ShloMosaic.Lib.Pipeline.ReadBack
public import Idealize.ShloMosaic.Lib.WritesUnit
public import Idealize.ShloMosaic.Lib.VecWindow
public import proofs.«01_k».proof.Proof.Ffn1Pay

@[expose] public section

set_option maxRecDepth 16384

noncomputable section

open Idealize.ShloMosaic Idealize.ShloMosaic.TcCoe Idealize.SL.Sem Cert.Ffn

namespace Cert.Ffn1

open Cert.Kernel2Ideal Cert.Kernel2Ideal.Gen

theorem trips1 : k0_t1_loop.trips = 16 := by decide +kernel
theorem trips2 : k0_t2_loop.trips = 16 := by decide +kernel

/-- A load of 64 rows reads those rows. -/
theorem rows {sp : Space} {e : EltTy} (v : View sig .tc sp S1024x4096 e) (f : v.ty.Contents (Elt Ideal)) {off : Fin 2 → ℕ}
    (inb : ∀ a, off a + S64x4096.size a ≤ S1024x4096.size a) (o : ℕ) (ho : off = ![o, 0]) (p : Fin 64) (q : Fin 1024) (hq : q.val = o + p.val) (j : Fin 4096) :
    v.readAt (Elt Ideal) (Rect.unit (s := S1024x4096) off S64x4096.size inb).toLoadRect f (ix2 p j) = v.read (Elt Ideal) f (ix2 q j) := by
  subst ho
  rw [View.readAt_apply]
  congr 1
  funext a
  fin_cases a
  · exact Fin.ext (by show o + 1 * p.val = q.val; omega)
  · exact Fin.ext (by show 0 + 1 * j.val = j.val; omega)

section
variable {𝒱 : Variants} {c : Dev nD} {bd : Option 𝒱.V} {i : grid0.Coords} {arg2 : Memref sig .tc .vmem S1024x4096 .f32} {harg2 : arg2.IsWhole} {arg3 : Memref sig .tc .vmem S1x4096 .f32} {harg3 : arg3.IsWhole} {arg4 : Memref sig .tc .vmem S1x4096 .f32} {harg4 : arg4.IsWhole} {arg5 : Memref sig .tc .vmem S1x1x4096 .f32} {harg5 : arg5.IsWhole} {arg6 : Memref sig .tc .vmem S1x1x4096 .f32} {harg6 : arg6.IsWhole} {arg7 : Memref sig .tc .vmem S1x1x4096 .f32} {harg7 : arg7.IsWhole} {arg8 : Memref sig .tc .vmem S4096x256 .bf16} {harg8 : arg8.IsWhole} {arg9 : Memref sig .tc .vmem S4096x256 .bf16} {harg9 : arg9.IsWhole} {arg10 : Memref sig .tc .vmem S256x4096 .bf16} {harg10 : arg10.IsWhole} {arg11 : Memref sig .tc .vmem S1x4096 .f32} {harg11 : arg11.IsWhole} {arg12 : Memref sig .tc .vmem S1x4096 .f32} {harg12 : arg12.IsWhole} {arg13 : Memref sig .tc .vmem S1024x4096 .f32} {harg13 : arg13.IsWhole} {arg14 : Memref sig .tc .vmem S1024x4096 .bf16} {harg14 : arg14.IsWhole}

/-- What the first loop has left in the scratch after `k` trips. -/
theorem scr (k0_h1 : k0_cond1 i = 1#1) (X_arg2 : BufTy.Contents (Elt Ideal) arg2.view.ty) (X_arg5 : BufTy.Contents (Elt Ideal) arg5.view.ty) (X_arg6 : BufTy.Contents (Elt Ideal) arg6.view.ty) {sp : Space} (v : View sig .tc sp S1024x4096 .bf16) (f : v.ty.Contents (Elt Ideal)) :
    ∀ k : ℕ, k ≤ 16 → ∀ (p : Fin 1024) (j : Fin 4096), p.val < 64 * k →
      v.read (Elt Ideal) (v.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h1 X_arg2 X_arg5 X_arg6 k).2) (ix2 p j)
        = hid (fun l => arg2.view.read (Elt Ideal) X_arg2 (ix2 p l)) (fun l => arg6.view.read (Elt Ideal) X_arg6 (ix3 0 0 l))
            (fun l => arg5.view.read (Elt Ideal) X_arg5 (ix3 0 0 l)) j
  | 0, _, _, _, h => absurd h (by omega)
  | k + 1, hk, p, j, h => by
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h1 X_arg2 X_arg5 X_arg6 ⟨k, lt_of_lt_of_eq hk trips1.symm⟩
    rw [congrArg Prod.snd hs]
    unfold tripL_k0_t1
    unfold trip_k0_t1
    dsimp only
    rw [List.singleton_append]
    by_cases hp : p.val < 64 * k
    · rw [View.read_writes_cons_rows_of_not_mem (o := 64 * k) (W := 64) _ _ _ _ _ _ (k0_off1_eq _) rfl (Or.inl hp)]
      exact scr _ _ _ _ v f k (by omega) p j hp
    · refine (View.read_writes_cons_rows_of_mem (o := 64 * k) _ _ _ _ _ (ix2 p j) (ix2 (⟨p.val - 64 * k, by omega⟩ : Fin 64) j) (k0_off1_eq _) ?_ rfl).trans ?_
      · show p.val = 64 * k + (p.val - 64 * k)
        omega
      refine (pay1 _ _ _ _ _).trans ?_
      have hr : ∀ l : Fin 4096, _ := fun l => rows arg2.view X_arg2 (k0_off1_inb i ⟨k, lt_of_lt_of_eq hk trips1.symm⟩ k0_h1) (64 * k) (k0_off1_eq _) ⟨p.val - 64 * k, by omega⟩ p (by show p.val = 64 * k + (p.val - 64 * k); omega) l
      rw [funext hr]
      rw [View.readAt_full _ _ _, View.readAt_full _ _ _]

/-- What the first loop has left in the output after `k` trips: zeros. -/
theorem zer (k0_h1 : k0_cond1 i = 1#1) (X_arg2 : BufTy.Contents (Elt Ideal) arg2.view.ty) (X_arg5 : BufTy.Contents (Elt Ideal) arg5.view.ty) (X_arg6 : BufTy.Contents (Elt Ideal) arg6.view.ty) {sp : Space} (v : View sig .tc sp S1024x4096 .f32) (f : v.ty.Contents (Elt Ideal)) :
    ∀ k : ℕ, k ≤ 16 → ∀ (p : Fin 1024) (j : Fin 4096), p.val < 64 * k →
      v.read (Elt Ideal) (v.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h1 X_arg2 X_arg5 X_arg6 k).1) (ix2 p j) = 0
  | 0, _, _, _, h => absurd h (by omega)
  | k + 1, hk, p, j, h => by
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h1 X_arg2 X_arg5 X_arg6 ⟨k, lt_of_lt_of_eq hk trips1.symm⟩
    rw [congrArg Prod.fst hs]
    unfold tripL_k0_t1
    unfold trip_k0_t1
    dsimp only
    rw [List.singleton_append]
    by_cases hp : p.val < 64 * k
    · rw [View.read_writes_cons_rows_of_not_mem (o := 64 * k) (W := 64) _ _ _ _ _ _ (k0_off1_eq _) rfl (Or.inl hp)]
      exact zer _ _ _ _ v f k (by omega) p j hp
    · refine (View.read_writes_cons_rows_of_mem (o := 64 * k) _ _ _ _ _ (ix2 p j) (ix2 (⟨p.val - 64 * k, by omega⟩ : Fin 64) j) (k0_off1_eq _) ?_ rfl).trans (pay2 _)
      show p.val = 64 * k + (p.val - 64 * k)
      omega

/-- What the second loop has left in the output after `k` trips: the norm of the half-step in the rows it has passed,
the sums it found in the others. -/
theorem outp (k0_h2 : k0_cond2 i = 1#1) (X_arg2 : BufTy.Contents (Elt Ideal) arg2.view.ty) (X_arg7 : BufTy.Contents (Elt Ideal) arg7.view.ty) (X_arg11 : BufTy.Contents (Elt Ideal) arg11.view.ty) (X_arg12 : BufTy.Contents (Elt Ideal) arg12.view.ty) (G : BufTy.Contents (Elt Ideal) arg13.view.ty) :
    ∀ k : ℕ, k ≤ 16 → ∀ (p : Fin 1024) (j : Fin 4096),
      arg13.view.read (Elt Ideal) (arg13.view.writes (Elt Ideal) G (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h2 X_arg2 X_arg7 X_arg11 X_arg12 G k)) (ix2 p j)
        = if p.val < 64 * k then
            stream (half (fun l => arg2.view.read (Elt Ideal) X_arg2 (ix2 p l)) (fun l => arg7.view.read (Elt Ideal) X_arg7 (ix3 0 0 l))
              (fun l => arg13.view.read (Elt Ideal) G (ix2 p l)))
              (fun l => arg11.view.read (Elt Ideal) X_arg11 (ix2 0 l)) (fun l => arg12.view.read (Elt Ideal) X_arg12 (ix2 0 l)) j
          else arg13.view.read (Elt Ideal) G (ix2 p j)
  | 0, _, p, j => by
    rw [if_neg (by omega)]
    rfl
  | k + 1, hk, p, j => by
    rw [pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h2 X_arg2 X_arg7 X_arg11 X_arg12 G ⟨k, lt_of_lt_of_eq hk trips2.symm⟩]
    unfold tripL_k0_t2
    unfold trip_k0_t2
    dsimp only
    rw [List.singleton_append]
    by_cases hp : p.val < 64 * k ∨ 64 * k + 64 ≤ p.val
    · rw [View.read_writes_cons_rows_of_not_mem (o := 64 * k) (W := 64) _ _ _ _ _ _ (k0_off2_eq _) rfl hp]
      rw [outp _ _ _ _ _ G k (by omega) p j]
      rcases hp with hp | hp
      · rw [if_pos hp, if_pos (by omega)]
      · rw [if_neg (by omega), if_neg (by omega)]
    · rw [if_pos (by omega)]
      refine (View.read_writes_cons_rows_of_mem (o := 64 * k) _ _ _ _ _ (ix2 p j) (ix2 (⟨p.val - 64 * k, by omega⟩ : Fin 64) j) (k0_off2_eq _) ?_ rfl).trans ?_
      · show p.val = 64 * k + (p.val - 64 * k)
        omega
      have hr : ∀ l : Fin 4096, _ := fun l => rows arg2.view X_arg2 (k0_off2_inb i ⟨k, lt_of_lt_of_eq hk trips2.symm⟩ k0_h2) (64 * k) (k0_off2_eq _) ⟨p.val - 64 * k, by omega⟩ p (by show p.val = 64 * k + (p.val - 64 * k); omega) l
      have hg : ∀ l : Fin 4096, _ := fun l => rows arg13.view (arg13.view.writes (Elt Ideal) G (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h2 X_arg2 X_arg7 X_arg11 X_arg12 G k)) (k0_off2_inb i ⟨k, lt_of_lt_of_eq hk trips2.symm⟩ k0_h2) (64 * k) (k0_off2_eq _) ⟨p.val - 64 * k, by omega⟩ p (by show p.val = 64 * k + (p.val - 64 * k); omega) l
      have hh : ∀ l : Fin 4096, _ := fun l => (hg l).trans ((outp _ _ _ _ _ G k (by omega) p l).trans (if_neg (by omega)))
      refine (pay4 _ _ _ _ _ _ _).trans ?_
      rw [funext hr, View.readAt_full, View.readAt_full, View.readAt_full]
      refine congrArg (fun o => stream (half (fun l => arg2.view.read (Elt Ideal) X_arg2 (ix2 p l)) (fun l => arg7.view.read (Elt Ideal) X_arg7 (ix3 0 0 l)) o) (fun l => arg11.view.read (Elt Ideal) X_arg11 (ix2 0 l)) (fun l => arg12.view.read (Elt Ideal) X_arg12 (ix2 0 l)) j) (funext fun l => ?_)
      exact hh l

end

end Cert.Ffn1

end
-- ==== Proof.Ffn1Case.lean ====
module

public import proofs.«01_k».proof.Proof.Gen.Kernel2Ideal.Value
public import Idealize.ShloMosaic.Lib.Pipeline.ValueKit
public import Idealize.ShloMosaic.Lib.Pipeline.ReadBack
public import proofs.«01_k».proof.Proof.Ffn1Loops

@[expose] public section

set_option maxRecDepth 16384

noncomputable section

open Idealize.ShloMosaic Idealize.ShloMosaic.TcCoe Idealize.SL.Sem Cert.Ffn

namespace Cert.Ffn1

open Cert.Kernel2Ideal Cert.Kernel2Ideal.Gen Cert.Kernel2Ideal.Value

variable {m : (ℓ : Loc nD τ sig) → Buf (Elt Ideal) ℓ} {c : Dev nD}

theorem trips16 : Scf.trips (0#32) (Scalar.addi 0#32 16#32) 1#32 = 16 := by decide +kernel

/-- After a first point the scratch holds the modulated rows. -/
theorem s_A (t : Fin cfg0.N) (h0 : t.val % 43 = 0) (h1 : ¬t.val % 43 = 42) (p : Fin 1024) (j : Fin 4096) :
    (outsAt0 m c t.val t.isLt).2 (ix2 p j) = hid (fun l => iblk m c 0 t (ix2 p l)) (fun l => iblk m c 4 t (ix3 0 0 l)) (fun l => iblk m c 3 t (ix3 0 0 l)) j := by
  rw [outsAt0_A m c t h0 h1]
  dsimp only
  unfold sout0_A_0
  unfold kernelRun0_A
  dsimp only
  refine (scr _ _ _ _ VS0_0 _ _ (le_of_eq trips16) p j ?_).trans ?_
  · rw [trips16]
    omega
  · simp only [Memref.IsWhole.read_unread]

/-- After a first point the output holds the first 256 columns' part. -/
theorem o_A (t : Fin cfg0.N) (h0 : t.val % 43 = 0) (h1 : ¬t.val % 43 = 42) (p : Fin 1024) (j : Fin 4096) :
    (outsAt0 m c t.val t.isLt).1 (ix2 p j) = 0 + part (hid (fun l => iblk m c 0 t (ix2 p l)) (fun l => iblk m c 4 t (ix3 0 0 l)) (fun l => iblk m c 3 t (ix3 0 0 l)))
      (iblk m c 6 t) (iblk m c 7 t) (iblk m c 8 t) j := by
  rw [outsAt0_A m c t h0 h1]
  dsimp only
  unfold out0_A_11
  unfold kernelRun0_A
  dsimp only
  sl_unfold_words
  refine (congrFun (View.read_writes_full VO0_11 _ _ _ _) (ix2 p j)).trans ?_
  refine (pay3 _ _ _ _ _ p j).trans ?_
  unfold View.readCov
  rw [View.readAt_full, View.readAt_full, View.readAt_full, View.readAt_full, View.readAt_full]
  simp only [Memref.IsWhole.read_unread]
  refine congrArg₂ (· + ·) (zer _ _ _ _ _ _ _ (le_of_eq trips16) p j (by rw [trips16]; omega)) ?_
  refine congrArg (fun h => part h (iblk m c 6 t) (iblk m c 7 t) (iblk m c 8 t) j) (funext fun l => ?_)
  refine (scr _ _ _ _ (View.whole cc0_scratch0) _ _ (le_of_eq trips16) p l (by rw [trips16]; omega)).trans ?_
  simp only [Memref.IsWhole.read_unread]

/-- A later point keeps the scratch, and adds its 256 columns' part to the output. -/
theorem s_B (t : Fin cfg0.N) (h0 : ¬t.val % 43 = 0) (h1 : ¬t.val % 43 = 42) :
    (outsAt0 m c t.val t.isLt).2 = (outsAt0 m c (t.val - 1) (Nat.lt_of_le_of_lt (Nat.sub_le _ _) t.isLt)).2 := by
  rw [outsAt0_B m c t h0 h1]
  rfl

theorem o_B (t : Fin cfg0.N) (h0 : ¬t.val % 43 = 0) (h1 : ¬t.val % 43 = 42) (p : Fin 1024) (j : Fin 4096) :
    (outsAt0 m c t.val t.isLt).1 (ix2 p j) = (outsAt0 m c (t.val - 1) (Nat.lt_of_le_of_lt (Nat.sub_le _ _) t.isLt)).1 (ix2 p j)
      + part (fun l => (outsAt0 m c (t.val - 1) (Nat.lt_of_le_of_lt (Nat.sub_le _ _) t.isLt)).2 (ix2 p l))
        (iblk m c 6 t) (iblk m c 7 t) (iblk m c 8 t) j := by
  rw [outsAt0_B m c t h0 h1]
  dsimp only
  unfold out0_B_11
  unfold kernelRun0_B
  dsimp only
  sl_unfold_words
  refine (congrFun (View.read_writes_full VO0_11 _ _ _ _) (ix2 p j)).trans ?_
  refine (pay3 _ _ _ _ _ p j).trans ?_
  rw [View.readAt_full, View.readAt_full, View.readAt_full, View.readAt_full, View.readAt_full]
  simp only [Memref.IsWhole.read_unread, read_unread_whole]

/-- The last point adds its part, and leaves the norm of the half-step. -/
theorem o_C (t : Fin cfg0.N) (h0 : ¬t.val % 43 = 0) (h1 : t.val % 43 = 42) (p : Fin 1024) (j : Fin 4096) :
    (outsAt0 m c t.val t.isLt).1 (ix2 p j) = stream (half (fun l => iblk m c 0 t (ix2 p l)) (fun l => iblk m c 5 t (ix3 0 0 l))
      (fun q => (outsAt0 m c (t.val - 1) (Nat.lt_of_le_of_lt (Nat.sub_le _ _) t.isLt)).1 (ix2 p q)
        + part (fun l => (outsAt0 m c (t.val - 1) (Nat.lt_of_le_of_lt (Nat.sub_le _ _) t.isLt)).2 (ix2 p l))
          (iblk m c 6 t) (iblk m c 7 t) (iblk m c 8 t) q))
      (fun l => iblk m c 9 t (ix2 0 l)) (fun l => iblk m c 10 t (ix2 0 l)) j := by
  have hc := fun y => cover0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).1 (outsAt0 m c (t.val - 1) (Nat.lt_of_le_of_lt (Nat.sub_le _ _) t.isLt)).2 y
  rw [outsAt0_C m c t h0 h1]
  dsimp only
  unfold out0_C_11
  rw [View.read_writes_eq_canon _ _ _ hc, ← View.read_writes_eq_canon (ms0_11 t).view (ms0_11 t).view.junk _ hc]
  clear hc
  unfold kernelRun0_C
  dsimp only
  sl_unfold_words
  rw [View.writes_append]
  refine (outp _ _ _ _ _ _ _ (le_of_eq trips16) p j).trans ((if_pos (by rw [trips16]; omega)).trans ?_)
  rw [View.read_writes_full]
  rw [View.readAt_full, View.readAt_full, View.readAt_full, View.readAt_full, View.readAt_full]
  simp only [Memref.IsWhole.read_unread, read_unread_whole, pay3]

end Cert.Ffn1

end
-- ==== Proof.Ffn1Spec.lean ====
module

public import proofs.«01_k».proof.Proof.Ffn1Pay

@[expose] public section

set_option maxRecDepth 16384

noncomputable section

open Idealize.ShloMosaic Idealize.ShloMosaic.TcCoe Idealize.SL.Sem Cert.Ffn

namespace Cert.Ffn1

section spec

variable (x : FVec Ideal ⟨3, ![4, 4096, 4096]⟩ .f32) (lg lb : FVec Ideal ⟨3, ![1, 3, 4096]⟩ .f32) (mm : FVec Ideal ⟨3, ![4, 9, 4096]⟩ .f32)
  (wi : FVec Ideal ⟨3, ![1, 4096, 22016]⟩ .f32) (wo : FVec Ideal ⟨3, ![1, 11008, 4096]⟩ .f32)

/-- The unit's input row. -/
def hrow (r : Fin 16384) : Fin 4096 → EReal :=
  hid (fun l => x (ix3 (bat r) (pos r) l)) (fun l => mm (ix3 (bat r) 1 l)) (fun l => mm (ix3 (bat r) 0 l))

/-- The layer's first half-step: the normed input, half its gate times the unit of it, normed. -/
def out (r : Fin 16384) (j : Fin 4096) : EReal :=
  stream (half (fun l => x (ix3 (bat r) (pos r) l)) (fun l => mm (ix3 (bat r) 2 l))
    (fun q => ∑ k : Fin 11008, act wi wo (hrow x mm r) q k)) (fun l => lg (ix3 0 0 l)) (fun l => lb (ix3 0 0 l)) j

end spec

end Cert.Ffn1

end
-- ==== Proof.Ffn1Fold.lean ====
module

public import proofs.«01_k».proof.Proof.Ffn1Case
public import proofs.«01_k».proof.Proof.Ffn1Spec

@[expose] public section

set_option maxRecDepth 16384

noncomputable section

open Idealize.ShloMosaic Idealize.ShloMosaic.TcCoe Idealize.SL.Sem Cert.Ffn

namespace Cert.Ffn1

section kernel

open Cert.Kernel2Ideal Cert.Kernel2Ideal.Gen Cert.Kernel2Ideal.Value

theorem idx : ∀ t : Fin cfg0.N, win0_0.index t = ![t.val / 43, 0] ∧ win0_1.index t = ![0, 0] ∧ win0_2.index t = ![0, 0]
    ∧ win0_3.index t = ![t.val / 43 / 4, 0, 0] ∧ win0_4.index t = ![t.val / 43 / 4, 0, 0] ∧ win0_5.index t = ![t.val / 43 / 4, 0, 0]
    ∧ win0_6.index t = ![0, t.val % 43] ∧ win0_7.index t = ![0, 43 + t.val % 43] ∧ win0_8.index t = ![t.val % 43, 0]
    ∧ win0_9.index t = ![0, 0] ∧ win0_10.index t = ![0, 0] ∧ win0_11.index t = ![t.val / 43, 0] :=
  (by decide +kernel : ∀ t : Fin grid0.N, _)

theorem t_lt (t : Fin cfg0.N) : t.val < 688 := lt_of_lt_of_eq t.isLt (show cfg0.N = 688 from N_0)

variable (m : (ℓ : Loc nD τ sig) → Buf (Elt Ideal) ℓ) (c : Dev nD) (t : Fin cfg0.N)

/-- The array's row of a point's block's. -/
def row (p : Fin 1024) : Fin 16384 := ⟨1024 * (t.val / 43) + p.val, by have := t_lt t; omega⟩

theorem r0 (p : Fin 1024) (l : Fin 4096) : iblk m c 0 t (ix2 p l) = m ((c : Thread nD τ).loc main_arg0) (ix3 (bat (row t p)) (pos (row t p)) l) := by
  unfold row bat pos
  blk_simp [iblk, idx t]
  entry_read
  pointwise
  blk_ext [idx t]
theorem r3 (p : Fin 1024) (l : Fin 4096) : iblk m c 3 t (ix3 0 0 l) = m ((c : Thread nD τ).loc main_arg3) (ix3 (bat (row t p)) 0 l) := by
  unfold row bat
  blk_simp [iblk, idx t]
  entry_read
  pointwise
  blk_ext [idx t]
theorem r4 (p : Fin 1024) (l : Fin 4096) : iblk m c 4 t (ix3 0 0 l) = m ((c : Thread nD τ).loc main_arg3) (ix3 (bat (row t p)) 1 l) := by
  unfold row bat
  blk_simp [iblk, idx t]
  entry_read
  pointwise
  blk_ext [idx t]
theorem r5 (p : Fin 1024) (l : Fin 4096) : iblk m c 5 t (ix3 0 0 l) = m ((c : Thread nD τ).loc main_arg3) (ix3 (bat (row t p)) 2 l) := by
  unfold row bat
  blk_simp [iblk, idx t]
  entry_read
  pointwise
  blk_ext [idx t]
theorem r6 (l : Fin 4096) (k : Fin 256) : iblk m c 6 t (ix2 l k) = m ((c : Thread nD τ).loc main_arg4) (ix3 0 l ⟨(256 * (t.val % 43) + k.val) % 11008, by omega⟩) := by
  blk_simp [iblk, idx t]
  entry_read
  pointwise
  blk_ext [idx t]
theorem r7 (l : Fin 4096) (k : Fin 256) : iblk m c 7 t (ix2 l k) = m ((c : Thread nD τ).loc main_arg4) (ix3 0 l ⟨11008 + (256 * (t.val % 43) + k.val) % 11008, by omega⟩) := by
  blk_simp [iblk, idx t]
  entry_read
  pointwise
  blk_ext [idx t]
theorem r8 (k : Fin 256) (j : Fin 4096) : iblk m c 8 t (ix2 k j) = m ((c : Thread nD τ).loc main_arg5) (ix3 0 ⟨(256 * (t.val % 43) + k.val) % 11008, by omega⟩ j) := by
  blk_simp [iblk, idx t]
  entry_read
  pointwise
  blk_ext [idx t]
theorem r9 (l : Fin 4096) : iblk m c 9 t (ix2 0 l) = m ((c : Thread nD τ).loc main_arg1) (ix3 0 0 l) := by
  blk_simp [iblk, idx t]
  entry_read
  pointwise
  blk_ext [idx t]
theorem r10 (l : Fin 4096) : iblk m c 10 t (ix2 0 l) = m ((c : Thread nD τ).loc main_arg2) (ix3 0 0 l) := by
  blk_simp [iblk, idx t]
  entry_read
  pointwise
  blk_ext [idx t]

end kernel

end Cert.Ffn1

end
-- ==== Proof.Ffn1Arr.lean ====
module

public import proofs.«01_k».proof.Proof.Ffn1Fold

@[expose] public section

set_option maxRecDepth 16384

noncomputable section

open Idealize.ShloMosaic Idealize.ShloMosaic.TcCoe Idealize.SL.Sem Cert.Ffn

namespace Cert.Ffn1

open Cert.Kernel2Ideal Cert.Kernel2Ideal.Gen Cert.Kernel2Ideal.Value

variable (m : (ℓ : Loc nD τ sig) → Buf (Elt Ideal) ℓ) (c : Dev nD) (t : Fin cfg0.N)

/-- The unit's input row, at the arrays the call finds. -/
def hR (r : Fin 16384) : Fin 4096 → EReal :=
  hrow (m ((c : Thread nD τ).loc main_arg0)) (m ((c : Thread nD τ).loc main_arg3)) r

/-- The first `n` blocks of 256 columns, at the arrays the call finds. -/
def aR (r : Fin 16384) (n : ℕ) : Fin 4096 → EReal :=
  acc (m ((c : Thread nD τ).loc main_arg4)) (m ((c : Thread nD τ).loc main_arg5)) (hR m c r) n

theorem hid_at (p : Fin 1024) : hid (fun l => iblk m c 0 t (ix2 p l)) (fun l => iblk m c 4 t (ix3 0 0 l)) (fun l => iblk m c 3 t (ix3 0 0 l)) = hR m c (row t p) := by
  rw [funext (r0 m c t p), funext (r3 m c t p), funext (r4 m c t p)]
  rfl

theorem part_at (h : Fin 4096 → EReal) (j : Fin 4096) :
    part h (iblk m c 6 t) (iblk m c 7 t) (iblk m c 8 t) j
      = ∑ k : Fin 256, act (m ((c : Thread nD τ).loc main_arg4)) (m ((c : Thread nD τ).loc main_arg5)) h j ⟨(256 * (t.val % 43) + k.val) % 11008, Nat.mod_lt _ (by norm_num)⟩ := by
  unfold part act
  refine Finset.sum_congr rfl fun k _ => ?_
  rw [r8]
  simp only [r6, r7]

/-- What the scratch and the output hold after the `f`-th point of a tile that has more to come. -/
theorem inv : ∀ (f : ℕ) (t : Fin cfg0.N), t.val % 43 = f → f < 42 → ∀ p : Fin 1024,
    (∀ j, (outsAt0 m c t.val t.isLt).2 (ix2 p j) = hR m c (row t p) j)
      ∧ ∀ j, (outsAt0 m c t.val t.isLt).1 (ix2 p j) = aR m c (row t p) (f + 1) j
  | 0, t, h0, _, p => by
    refine ⟨fun j => ?_, fun j => ?_⟩
    · rw [s_A t h0 (by omega) p j, hid_at]
    · rw [o_A t h0 (by omega) p j, hid_at, part_at, h0, zero_add]
      unfold aR acc
      rw [Finset.sum_range_one]
  | f + 1, t, hf, hlt, p => by
    have h0 : ¬t.val % 43 = 0 := by omega
    have h1 : ¬t.val % 43 = 42 := by omega
    have ih := inv f ⟨t.val - 1, Nat.lt_of_le_of_lt (Nat.sub_le _ _) t.isLt⟩ (by show (t.val - 1) % 43 = f; omega) (by omega) p
    have hr : row ⟨t.val - 1, Nat.lt_of_le_of_lt (Nat.sub_le _ _) t.isLt⟩ p = row t p := Fin.ext (by
      show 1024 * ((t.val - 1) / 43) + p.val = 1024 * (t.val / 43) + p.val
      omega)
    rw [hr] at ih
    refine ⟨fun j => ?_, fun j => ?_⟩
    · rw [s_B t h0 h1]
      exact ih.1 j
    · rw [o_B t h0 h1 p j, part_at, ih.2 j, funext ih.1, hf]
      unfold aR acc
      rw [Finset.sum_range_succ _ (f + 1)]

/-- What the output holds after the last point of a tile. -/
theorem last (t : Fin cfg0.N) (h1 : t.val % 43 = 42) (p : Fin 1024) (j : Fin 4096) :
    (outsAt0 m c t.val t.isLt).1 (ix2 p j) = out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (row t p) j := by
  have h0 : ¬t.val % 43 = 0 := by omega
  have ih := inv m c 41 ⟨t.val - 1, Nat.lt_of_le_of_lt (Nat.sub_le _ _) t.isLt⟩ (by show (t.val - 1) % 43 = 41; omega) (by omega) p
  have hr : row ⟨t.val - 1, Nat.lt_of_le_of_lt (Nat.sub_le _ _) t.isLt⟩ p = row t p := Fin.ext (by
    show 1024 * ((t.val - 1) / 43) + p.val = 1024 * (t.val / 43) + p.val
    omega)
  rw [hr] at ih
  rw [o_C t h0 h1 p j, funext (r0 m c t p), funext (r5 m c t p), funext (r9 m c t), funext (r10 m c t), funext ih.1]
  unfold out
  refine congrArg (fun o => stream (half _ _ o) _ _ j) (funext fun q => ?_)
  rw [part_at, ih.2 q, h1, ← acc_all]
  unfold aR acc
  rw [Finset.sum_range_succ _ 42]
  rfl

/-- The kernel's array. -/
theorem arr : (dats m 0 c).arrAt 11 cfg0.N = fun y => out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (y 0) (y 1) := by
  refine (dats m 0 c).arrAt_eq_of_covers 11 _ (by decide +kernel) fun t hf y => ?_
  obtain ⟨p, j, rfl⟩ : ∃ p j, y = ix2 p j := ⟨y 0, y 1, idx2 y⟩
  blk_simp
  rw [after0_11]
  refine (last m c t ((flush0_11 t).mp hf) p j).trans ?_
  have e0 : (win0_11.blk t).view.emb (ix2 p j) 0 = row t p := Fin.ext (by
    show ((win0_11.blk t).view.emb (ix2 p j) 0).val = 1024 * (t.val / 43) + p.val
    blk_simp [idx t] <;> try omega)
  have e1 : (win0_11.blk t).view.emb (ix2 p j) 1 = j := Fin.ext (by
    show ((win0_11.blk t).view.emb (ix2 p j) 1).val = j.val
    blk_simp [idx t] <;> try omega)
  rw [e0, e1]

end Cert.Ffn1

end
-- ==== Proof.Ffn1Ref.lean ====
module

public import proofs.«01_k».proof.Proof.Gen.Reference2Ideal.Run
public import Idealize.ShloMosaic.Lib.Pointwise
public import proofs.«01_k».proof.Proof.Ffn1Spec
public import proofs.«01_k».proof.Proof.FfnRef

@[expose] public section

set_option maxRecDepth 16384

noncomputable section

open Idealize.ShloMosaic Idealize.ShloMosaic.TcCoe Idealize.SL.Sem Cert.Ffn

namespace Cert.Ffn1

open Cert.Reference2Ideal Cert.Reference2Ideal.Gen Cert.Reference2Ideal.Value

variable (X : FVec Ideal S4x4096x4096 .f32) (LG LB : FVec Ideal S1x3x4096 .f32) (MM : FVec Ideal S4x9x4096 .f32)
  (WI : FVec Ideal S1x4096x22016 .f32) (WO : FVec Ideal S1x11008x4096 .f32)

/-- The reference's values, a step at a time. -/
def tC : FVec Ideal S4x4096x4096 .f32 :=
  subf X (broadcastInDim S4x4096x4096 ![0, 1, 2] bcast_S4x4096x1_S4x4096x4096_0_1_2 (Host.divf (broadcastInDim S4x4096x1 ![0, 1] bcast_S4x4096_S4x4096x1_0_1 (Host.reduceAdd X (constant S_ .f32 0x00000000#32) reducesTo_S4x4096x4096_S4x4096_d2 h_S_)) (broadcastInDim S4x4096x1 ![] bcast_S_S4x4096x1 (constant S_ .f32 0x45800000#32))))

def tN : FVec Ideal S4x4096x4096 .f32 :=
  mulf (tC X) (broadcastInDim S4x4096x4096 ![0, 1, 2] bcast_S4x4096x1_S4x4096x4096_0_1_2 (Host.rsqrt (addf (Host.divf (broadcastInDim S4x4096x1 ![0, 1] bcast_S4x4096_S4x4096x1_0_1 (Host.reduceAdd (mulf (tC X) (tC X)) (constant S_ .f32 0x00000000#32) reducesTo_S4x4096x4096_S4x4096_d2 h_S_)) (broadcastInDim S4x4096x1 ![] bcast_S_S4x4096x1 (constant S_ .f32 0x45800000#32))) (broadcastInDim S4x4096x1 ![] bcast_S_S4x4096x1 (constant S_ .f32 0x3727C5AC#32)))))

def tF : FVec Ideal S4x4096x4096 .f32 :=
  addf (mulf (tN X) (broadcastInDim S4x4096x4096 ![0, 1, 2] bcast_S1x1x4096_S4x4096x4096_0_1_2 (broadcastInDim S1x1x4096 ![2] bcast_S4096_S1x1x4096_2 (shapeCast _ (extractStridedSlice S1x1x4096 ![0, 0, 0] LG slices_S1x3x4096_S1x1x4096_0_0_0) shapeCasts_S1x1x4096_S4096)))) (broadcastInDim S4x4096x4096 ![0, 1, 2] bcast_S1x1x4096_S4x4096x4096_0_1_2 (broadcastInDim S1x1x4096 ![2] bcast_S4096_S1x1x4096_2 (shapeCast _ (extractStridedSlice S1x1x4096 ![0, 0, 0] LB slices_S1x3x4096_S1x1x4096_0_0_0) shapeCasts_S1x1x4096_S4096)))

def tH : FVec Ideal S4x4096x4096 .f32 :=
  addf (mulf X (broadcastInDim S4x4096x4096 ![0, 1, 2] bcast_S4x1x4096_S4x4096x4096_0_1_2 (addf (broadcastInDim S4x1x4096 ![] bcast_S_S4x1x4096 (constant S_ .f32 0x3F800000#32)) (broadcastInDim S4x1x4096 ![0, 2] bcast_S4x4096_S4x1x4096_0_2 (shapeCast _ (extractStridedSlice S4x1x4096 ![0, 1, 0] MM slices_S4x9x4096_S4x1x4096_0_1_0) shapeCasts_S4x1x4096_S4x4096))))) (broadcastInDim S4x4096x4096 ![0, 1, 2] bcast_S4x1x4096_S4x4096x4096_0_1_2 (broadcastInDim S4x1x4096 ![0, 2] bcast_S4x4096_S4x1x4096_0_2 (shapeCast _ (extractStridedSlice S4x1x4096 ![0, 0, 0] MM slices_S4x9x4096_S4x1x4096_0_0_0) shapeCasts_S4x1x4096_S4x4096)))

def tG : FVec Ideal S4x4096x22016 .f32 :=
  Host.dotGeneral dot_S4x4096x4096_S4096x22016_S4x4096x22016_2_0_01_1_n_n none X (shapeCast _ WI shapeCasts_S1x4096x22016_S4096x22016)

def tA (G : FVec Ideal S4x4096x22016 .f32) : FVec Ideal S4x4096x11008 .f32 :=
  mulf (mulf (extractStridedSlice S4x4096x11008 ![0, 0, 0] G slices_S4x4096x22016_S4x4096x11008_0_0_0) (Host.divf (broadcastInDim S4x4096x11008 ![] bcast_S_S4x4096x11008 (constant S_ .f32 0x3F800000#32)) (addf (broadcastInDim S4x4096x11008 ![] bcast_S_S4x4096x11008 (constant S_ .f32 0x3F800000#32)) (Host.exp (Host.negf (extractStridedSlice S4x4096x11008 ![0, 0, 0] G slices_S4x4096x22016_S4x4096x11008_0_0_0)))))) (extractStridedSlice S4x4096x11008 ![0, 0, 11008] G slices_S4x4096x22016_S4x4096x11008_0_0_11008)

def tO (A : FVec Ideal S4x4096x11008 .f32) : FVec Ideal S4x4096x4096 .f32 :=
  Host.dotGeneral dot_S4x4096x11008_S11008x4096_S4x4096x4096_2_0_01_1_n_n none A (shapeCast _ WO shapeCasts_S1x11008x4096_S11008x4096)

def tP (O : FVec Ideal S4x4096x4096 .f32) : FVec Ideal S4x4096x4096 .f32 :=
  addf (mulf (broadcastInDim S4x4096x4096 ![] bcast_S_S4x4096x4096 (constant S_ .f32 0x3F9837F0#32)) X) (mulf (broadcastInDim S4x4096x4096 ![0, 1, 2] bcast_S4x1x4096_S4x4096x4096_0_1_2 (mulf (broadcastInDim S4x1x4096 ![] bcast_S_S4x1x4096 (constant S_ .f32 0x3F000000#32)) (broadcastInDim S4x1x4096 ![0, 2] bcast_S4x4096_S4x1x4096_0_2 (shapeCast _ (extractStridedSlice S4x1x4096 ![0, 2, 0] MM slices_S4x9x4096_S4x1x4096_0_2_0) shapeCasts_S4x1x4096_S4x4096)))) O)

variable (b : Fin 4) (s : Fin 4096)

theorem tC_at (j : Fin 4096) : tC X (ix3 b s j) = X (ix3 b s j) - mean (fun k => X (ix3 b s k)) := by
  pointwise [tC]
  rfl
theorem tN_at (j : Fin 4096) : tN X (ix3 b s j) = ln (fun k => X (ix3 b s k)) j := by
  pointwise [tN]
  simp only [tC_at]
  rfl
theorem tF_at (j : Fin 4096) : tF X LG LB (ix3 b s j) = stream (fun k => X (ix3 b s k)) (fun l => LG (ix3 0 0 l)) (fun l => LB (ix3 0 0 l)) j := by
  pointwise [tF]
  rw [tN_at]
  rfl
theorem tH_at (j : Fin 4096) : tH X MM (ix3 b s j) = X (ix3 b s j) * (1 + MM (ix3 b 1 j)) + MM (ix3 b 0 j) := by
  pointwise [tH]
theorem tG_at (k : Fin 22016) : tG X WI (ix3 b s k) = ∑ l : Fin 4096, X (ix3 b s l) * WI (ix3 0 l k) := by
  pointwise [tG]
theorem tA_at (G : FVec Ideal S4x4096x22016 .f32) (k : Fin 11008) : tA G (ix3 b s k) = silu (G (ix3 b s ⟨k.val, by omega⟩)) * G (ix3 b s ⟨11008 + k.val, by omega⟩) := by
  pointwise [tA]
  rfl
theorem tO_at (A : FVec Ideal S4x4096x11008 .f32) (j : Fin 4096) : tO WO A (ix3 b s j) = ∑ k : Fin 11008, A (ix3 b s k) * WO (ix3 0 k j) := by
  pointwise [tO]
theorem tP_at (O : FVec Ideal S4x4096x4096 .f32) (j : Fin 4096) : tP X MM O (ix3 b s j) = cA * X (ix3 b s j) + cH * MM (ix3 b 2 j) * O (ix3 b s j) := by
  pointwise [tP]
  rfl

/-- The reference's array. -/
def tR : FVec Ideal S16384x4096 .f32 :=
  shapeCast _ (tF (tP (tN X) MM (tO WO (tA (tG (tH (tN X) MM) WI)))) LG LB) shapeCasts_S4x4096x4096_S16384x4096

theorem tR_eq : tR X LG LB MM WI WO = fun i => out X LG LB MM WI WO (i 0) (i 1) := by
  funext i
  obtain ⟨r, j, rfl⟩ : ∃ r j, i = ix2 r j := ⟨i 0, i 1, idx2 i⟩
  have e : tR X LG LB MM WI WO (ix2 r j) = tF (tP (tN X) MM (tO WO (tA (tG (tH (tN X) MM) WI)))) LG LB (ix3 (bat r) (pos r) j) := by
    unfold tR
    generalize tF (tP (tN X) MM (tO WO (tA (tG (tH (tN X) MM) WI)))) LG LB = v
    pointwise
    rfl
  rw [e, tF_at]
  unfold out
  refine congrArg (fun o => stream o _ _ j) (funext fun k => ?_)
  rw [tP_at, tN_at, tO_at]
  unfold half
  refine congrArg (fun o => _ + _ * o) (Finset.sum_congr rfl fun q _ => ?_)
  rw [tA_at, tG_at, tG_at]
  simp only [tH_at, tN_at]
  rfl

theorem ref {m : (ℓ : Loc nD τ sig) → Buf (Elt Ideal) ℓ} {c : Dev nD} {X : FVec Ideal S4x4096x4096 .f32} {LG LB : FVec Ideal S1x3x4096 .f32}
    {MM : FVec Ideal S4x9x4096 .f32} {WI : FVec Ideal S1x4096x22016 .f32} {WO : FVec Ideal S1x11008x4096 .f32}
    (h0 : m ((c : Thread nD τ).loc main_arg0) = X) (h1 : m ((c : Thread nD τ).loc main_arg1) = LG) (h2 : m ((c : Thread nD τ).loc main_arg2) = LB)
    (h3 : m ((c : Thread nD τ).loc main_arg3) = MM) (h4 : m ((c : Thread nD τ).loc main_arg4) = WI) (h5 : m ((c : Thread nD τ).loc main_arg5) = WO) :
    res_main_v76 m c = fun i : S16384x4096.Idx => out X LG LB MM WI WO (i 0) (i 1) := by
  subst h0 h1 h2 h3 h4 h5
  exact Eq.trans (by unfold res_main_v76; rfl) (tR_eq _ _ _ _ _ _)

end Cert.Ffn1

end
-- ==== Proof.FfncPay.lean ====
module

public import proofs.«01_k».proof.Proof.Gen.Kernel3Ideal.Skeleton
public import Idealize.ShloMosaic.Lib.Pointwise
public import proofs.«01_k».proof.Proof.FfnFold

@[expose] public section

set_option maxRecDepth 16384

noncomputable section

open Idealize.ShloMosaic Idealize.ShloMosaic.TcCoe Idealize.SL.Sem Cert.Ffn

namespace Cert.Ffnc

/-- The modulated row: the normed input, scaled and shifted. -/
def hid (x sc sh : Fin 4096 → EReal) (j : Fin 4096) : EReal := ln x j * (1 + sc j) + sh j

/-- The half-step's row. -/
def half (x gt o : Fin 4096 → EReal) (j : Fin 4096) : EReal := cA * ln x j + cH * gt j * o j

open Cert.Kernel3Ideal Cert.Kernel3Ideal.Gen

theorem pay1 (x : FVec Ideal S64x4096 .f32) (sc sh : FVec Ideal S1x1x4096 .f32) (p : Fin 64) (j : Fin 4096) :
    k0_pay1 (F := Ideal) x sc sh (ix2 p j) = hid (fun k => x (ix2 p k)) (fun l => sc (ix3 0 0 l)) (fun l => sh (ix3 0 0 l)) j := by
  pointwise [k0_pay1]
  rfl

theorem pay2 (y : S64x4096.Idx) : k0_pay2 (F := Ideal) y = 0 := by
  pointwise [k0_pay2]

theorem pay5 (x : FVec Ideal S64x4096 .f32) (gt : FVec Ideal S1x1x4096 .f32) (o : FVec Ideal S64x4096 .f32) (p : Fin 64) (j : Fin 4096) :
    (k0_pay5 (F := Ideal) x gt o (ix2 p j) : EReal) = half (fun k => x (ix2 p k)) (fun l => gt (ix3 0 0 l)) (fun l => o (ix2 p l)) j
      - mean (half (fun k => x (ix2 p k)) (fun l => gt (ix3 0 0 l)) (fun l => o (ix2 p l))) := by
  pointwise [k0_pay5]
  rfl

theorem pay6 (x : FVec Ideal S64x4096 .f32) (gt : FVec Ideal S1x1x4096 .f32) (o : FVec Ideal S64x4096 .f32) (p : Fin 64) :
    (k0_pay6 (F := Ideal) x gt o (ix2 p 0) : EReal) = ∑ k : Fin 4096, (k0_pay5 (F := Ideal) x gt o (ix2 p k) : EReal) * k0_pay5 (F := Ideal) x gt o (ix2 p k) := by
  unfold k0_pay6
  generalize k0_pay5 (F := Ideal) x gt o = d
  pointwise

theorem pay4 (x : FVec Ideal S64x4096 .f32) (gt : FVec Ideal S1x1x4096 .f32) (o : FVec Ideal S64x4096 .f32) (g b : FVec Ideal S1x4096 .f32) (p : Fin 64) (j : Fin 4096) :
    k0_pay4 (F := Ideal) (k0_pay5 x gt o) (k0_pay6 x gt o) (Scalar.ofBits .f32 0x45800000#32) g b (ix2 p j)
      = stream (half (fun k => x (ix2 p k)) (fun l => gt (ix3 0 0 l)) (fun l => o (ix2 p l))) (fun l => g (ix2 0 l)) (fun l => b (ix2 0 l)) j := by
  have h5 := pay5 x gt o p
  have h6 := pay6 x gt o p
  generalize k0_pay5 (F := Ideal) x gt o = d at h5 h6 ⊢
  generalize k0_pay6 (F := Ideal) x gt o = e at h6 ⊢
  pointwise [k0_pay4]
  simp only [h6, h5]
  rfl

theorem pay3 (h : FVec Ideal S1024x4096 .bf16) (wg wu : FVec Ideal S4096x256 .bf16) (o : FVec Ideal S1024x4096 .f32) (wo : FVec Ideal S256x4096 .bf16) (p : Fin 1024) (j : Fin 4096) :
    k0_pay3 h wg wu o wo (ix2 p j) = o (ix2 p j) + part (fun l => h (ix2 p l)) wg wu wo j := by
  pointwise [k0_pay3]
  rfl

end Cert.Ffnc

end
-- ==== Proof.FfncLoops.lean ====
module

public import proofs.«01_k».proof.Proof.Gen.Kernel3Ideal.Loops
public import Idealize.ShloMosaic.Lib.Pointwise
public import Idealize.ShloMosaic.Lib.Pipeline.ReadBack
public import Idealize.ShloMosaic.Lib.WritesUnit
public import Idealize.ShloMosaic.Lib.VecWindow
public import proofs.«01_k».proof.Proof.FfncPay

@[expose] public section

set_option maxRecDepth 16384

noncomputable section

open Idealize.ShloMosaic Idealize.ShloMosaic.TcCoe Idealize.SL.Sem Cert.Ffn

namespace Cert.Ffnc

open Cert.Kernel3Ideal Cert.Kernel3Ideal.Gen

theorem trips1 : k0_t1_loop.trips = 16 := by decide +kernel
theorem trips2 : k0_t2_loop.trips = 16 := by decide +kernel

/-- A load of 64 rows reads those rows. -/
theorem rows {sp : Space} {e : EltTy} (v : View sig .tc sp S1024x4096 e) (f : v.ty.Contents (Elt Ideal)) {off : Fin 2 → ℕ}
    (inb : ∀ a, off a + S64x4096.size a ≤ S1024x4096.size a) (o : ℕ) (ho : off = ![o, 0]) (p : Fin 64) (q : Fin 1024) (hq : q.val = o + p.val) (j : Fin 4096) :
    v.readAt (Elt Ideal) (Rect.unit (s := S1024x4096) off S64x4096.size inb).toLoadRect f (ix2 p j) = v.read (Elt Ideal) f (ix2 q j) := by
  subst ho
  rw [View.readAt_apply]
  congr 1
  funext a
  fin_cases a
  · exact Fin.ext (by show o + 1 * p.val = q.val; omega)
  · exact Fin.ext (by show 0 + 1 * j.val = j.val; omega)

section
variable {𝒱 : Variants} {c : Dev nD} {bd : Option 𝒱.V} {i : grid0.Coords} {arg2 : Memref sig .tc .vmem S1024x4096 .f32} {harg2 : arg2.IsWhole} {arg3 : Memref sig .tc .vmem S1x4096 .f32} {harg3 : arg3.IsWhole} {arg4 : Memref sig .tc .vmem S1x4096 .f32} {harg4 : arg4.IsWhole} {arg5 : Memref sig .tc .vmem S1x1x4096 .f32} {harg5 : arg5.IsWhole} {arg6 : Memref sig .tc .vmem S1x1x4096 .f32} {harg6 : arg6.IsWhole} {arg7 : Memref sig .tc .vmem S1x1x4096 .f32} {harg7 : arg7.IsWhole} {arg8 : Memref sig .tc .vmem S4096x256 .bf16} {harg8 : arg8.IsWhole} {arg9 : Memref sig .tc .vmem S4096x256 .bf16} {harg9 : arg9.IsWhole} {arg10 : Memref sig .tc .vmem S256x4096 .bf16} {harg10 : arg10.IsWhole} {arg11 : Memref sig .tc .vmem S1x4096 .f32} {harg11 : arg11.IsWhole} {arg12 : Memref sig .tc .vmem S1x4096 .f32} {harg12 : arg12.IsWhole} {arg13 : Memref sig .tc .vmem S1024x4096 .f32} {harg13 : arg13.IsWhole} {arg14 : Memref sig .tc .vmem S1024x4096 .bf16} {harg14 : arg14.IsWhole}

/-- What the first loop has left in the scratch after `k` trips. -/
theorem scr (k0_h1 : k0_cond1 i = 1#1) (X_arg2 : BufTy.Contents (Elt Ideal) arg2.view.ty) (X_arg5 : BufTy.Contents (Elt Ideal) arg5.view.ty) (X_arg6 : BufTy.Contents (Elt Ideal) arg6.view.ty) {sp : Space} (v : View sig .tc sp S1024x4096 .bf16) (f : v.ty.Contents (Elt Ideal)) :
    ∀ k : ℕ, k ≤ 16 → ∀ (p : Fin 1024) (j : Fin 4096), p.val < 64 * k →
      v.read (Elt Ideal) (v.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h1 X_arg2 X_arg5 X_arg6 k).2) (ix2 p j)
        = hid (fun l => arg2.view.read (Elt Ideal) X_arg2 (ix2 p l)) (fun l => arg6.view.read (Elt Ideal) X_arg6 (ix3 0 0 l))
            (fun l => arg5.view.read (Elt Ideal) X_arg5 (ix3 0 0 l)) j
  | 0, _, _, _, h => absurd h (by omega)
  | k + 1, hk, p, j, h => by
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h1 X_arg2 X_arg5 X_arg6 ⟨k, lt_of_lt_of_eq hk trips1.symm⟩
    rw [congrArg Prod.snd hs]
    unfold tripL_k0_t1
    unfold trip_k0_t1
    dsimp only
    rw [List.singleton_append]
    by_cases hp : p.val < 64 * k
    · rw [View.read_writes_cons_rows_of_not_mem (o := 64 * k) (W := 64) _ _ _ _ _ _ (k0_off1_eq _) rfl (Or.inl hp)]
      exact scr _ _ _ _ v f k (by omega) p j hp
    · refine (View.read_writes_cons_rows_of_mem (o := 64 * k) _ _ _ _ _ (ix2 p j) (ix2 (⟨p.val - 64 * k, by omega⟩ : Fin 64) j) (k0_off1_eq _) ?_ rfl).trans ?_
      · show p.val = 64 * k + (p.val - 64 * k)
        omega
      refine (pay1 _ _ _ _ _).trans ?_
      have hr : ∀ l : Fin 4096, _ := fun l => rows arg2.view X_arg2 (k0_off1_inb i ⟨k, lt_of_lt_of_eq hk trips1.symm⟩ k0_h1) (64 * k) (k0_off1_eq _) ⟨p.val - 64 * k, by omega⟩ p (by show p.val = 64 * k + (p.val - 64 * k); omega) l
      rw [funext hr]
      rw [View.readAt_full _ _ _, View.readAt_full _ _ _]

/-- What the first loop has left in the output after `k` trips: zeros. -/
theorem zer (k0_h1 : k0_cond1 i = 1#1) (X_arg2 : BufTy.Contents (Elt Ideal) arg2.view.ty) (X_arg5 : BufTy.Contents (Elt Ideal) arg5.view.ty) (X_arg6 : BufTy.Contents (Elt Ideal) arg6.view.ty) {sp : Space} (v : View sig .tc sp S1024x4096 .f32) (f : v.ty.Contents (Elt Ideal)) :
    ∀ k : ℕ, k ≤ 16 → ∀ (p : Fin 1024) (j : Fin 4096), p.val < 64 * k →
      v.read (Elt Ideal) (v.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h1 X_arg2 X_arg5 X_arg6 k).1) (ix2 p j) = 0
  | 0, _, _, _, h => absurd h (by omega)
  | k + 1, hk, p, j, h => by
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h1 X_arg2 X_arg5 X_arg6 ⟨k, lt_of_lt_of_eq hk trips1.symm⟩
    rw [congrArg Prod.fst hs]
    unfold tripL_k0_t1
    unfold trip_k0_t1
    dsimp only
    rw [List.singleton_append]
    by_cases hp : p.val < 64 * k
    · rw [View.read_writes_cons_rows_of_not_mem (o := 64 * k) (W := 64) _ _ _ _ _ _ (k0_off1_eq _) rfl (Or.inl hp)]
      exact zer _ _ _ _ v f k (by omega) p j hp
    · refine (View.read_writes_cons_rows_of_mem (o := 64 * k) _ _ _ _ _ (ix2 p j) (ix2 (⟨p.val - 64 * k, by omega⟩ : Fin 64) j) (k0_off1_eq _) ?_ rfl).trans (pay2 _)
      show p.val = 64 * k + (p.val - 64 * k)
      omega

/-- What the second loop has left in the output after `k` trips: the norm of the half-step in the rows it has passed,
the sums it found in the others. -/
theorem outp (k0_h2 : k0_cond2 i = 1#1) (X_arg2 : BufTy.Contents (Elt Ideal) arg2.view.ty) (X_arg7 : BufTy.Contents (Elt Ideal) arg7.view.ty) (X_arg11 : BufTy.Contents (Elt Ideal) arg11.view.ty) (X_arg12 : BufTy.Contents (Elt Ideal) arg12.view.ty) (G : BufTy.Contents (Elt Ideal) arg13.view.ty) :
    ∀ k : ℕ, k ≤ 16 → ∀ (p : Fin 1024) (j : Fin 4096),
      arg13.view.read (Elt Ideal) (arg13.view.writes (Elt Ideal) G (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h2 X_arg2 X_arg7 X_arg11 X_arg12 G k)) (ix2 p j)
        = if p.val < 64 * k then
            stream (half (fun l => arg2.view.read (Elt Ideal) X_arg2 (ix2 p l)) (fun l => arg7.view.read (Elt Ideal) X_arg7 (ix3 0 0 l))
              (fun l => arg13.view.read (Elt Ideal) G (ix2 p l)))
              (fun l => arg11.view.read (Elt Ideal) X_arg11 (ix2 0 l)) (fun l => arg12.view.read (Elt Ideal) X_arg12 (ix2 0 l)) j
          else arg13.view.read (Elt Ideal) G (ix2 p j)
  | 0, _, p, j => by
    rw [if_neg (by omega)]
    rfl
  | k + 1, hk, p, j => by
    rw [pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h2 X_arg2 X_arg7 X_arg11 X_arg12 G ⟨k, lt_of_lt_of_eq hk trips2.symm⟩]
    unfold tripL_k0_t2
    unfold trip_k0_t2
    dsimp only
    rw [List.singleton_append]
    by_cases hp : p.val < 64 * k ∨ 64 * k + 64 ≤ p.val
    · rw [View.read_writes_cons_rows_of_not_mem (o := 64 * k) (W := 64) _ _ _ _ _ _ (k0_off2_eq _) rfl hp]
      rw [outp _ _ _ _ _ G k (by omega) p j]
      rcases hp with hp | hp
      · rw [if_pos hp, if_pos (by omega)]
      · rw [if_neg (by omega), if_neg (by omega)]
    · rw [if_pos (by omega)]
      refine (View.read_writes_cons_rows_of_mem (o := 64 * k) _ _ _ _ _ (ix2 p j) (ix2 (⟨p.val - 64 * k, by omega⟩ : Fin 64) j) (k0_off2_eq _) ?_ rfl).trans ?_
      · show p.val = 64 * k + (p.val - 64 * k)
        omega
      have hr : ∀ l : Fin 4096, _ := fun l => rows arg2.view X_arg2 (k0_off2_inb i ⟨k, lt_of_lt_of_eq hk trips2.symm⟩ k0_h2) (64 * k) (k0_off2_eq _) ⟨p.val - 64 * k, by omega⟩ p (by show p.val = 64 * k + (p.val - 64 * k); omega) l
      have hg : ∀ l : Fin 4096, _ := fun l => rows arg13.view (arg13.view.writes (Elt Ideal) G (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h2 X_arg2 X_arg7 X_arg11 X_arg12 G k)) (k0_off2_inb i ⟨k, lt_of_lt_of_eq hk trips2.symm⟩ k0_h2) (64 * k) (k0_off2_eq _) ⟨p.val - 64 * k, by omega⟩ p (by show p.val = 64 * k + (p.val - 64 * k); omega) l
      have hh : ∀ l : Fin 4096, _ := fun l => (hg l).trans ((outp _ _ _ _ _ G k (by omega) p l).trans (if_neg (by omega)))
      refine (pay4 _ _ _ _ _ _ _).trans ?_
      rw [funext hr, View.readAt_full, View.readAt_full, View.readAt_full]
      refine congrArg (fun o => stream (half (fun l => arg2.view.read (Elt Ideal) X_arg2 (ix2 p l)) (fun l => arg7.view.read (Elt Ideal) X_arg7 (ix3 0 0 l)) o) (fun l => arg11.view.read (Elt Ideal) X_arg11 (ix2 0 l)) (fun l => arg12.view.read (Elt Ideal) X_arg12 (ix2 0 l)) j) (funext fun l => ?_)
      exact hh l

end

end Cert.Ffnc

end
-- ==== Proof.FfncCase.lean ====
module

public import proofs.«01_k».proof.Proof.Gen.Kernel3Ideal.Value
public import Idealize.ShloMosaic.Lib.Pipeline.ValueKit
public import Idealize.ShloMosaic.Lib.Pipeline.ReadBack
public import proofs.«01_k».proof.Proof.FfncLoops

@[expose] public section

set_option maxRecDepth 16384

noncomputable section

open Idealize.ShloMosaic Idealize.ShloMosaic.TcCoe Idealize.SL.Sem Cert.Ffn

namespace Cert.Ffnc

open Cert.Kernel3Ideal Cert.Kernel3Ideal.Gen Cert.Kernel3Ideal.Value

variable {m : (ℓ : Loc nD τ sig) → Buf (Elt Ideal) ℓ} {c : Dev nD}

theorem trips16 : Scf.trips (0#32) (Scalar.addi 0#32 16#32) 1#32 = 16 := by decide +kernel

/-- After a first point the scratch holds the modulated rows. -/
theorem s_A (t : Fin cfg0.N) (h0 : t.val % 43 = 0) (h1 : ¬t.val % 43 = 42) (p : Fin 1024) (j : Fin 4096) :
    (outsAt0 m c t.val t.isLt).2 (ix2 p j) = hid (fun l => iblk m c 0 t (ix2 p l)) (fun l => iblk m c 4 t (ix3 0 0 l)) (fun l => iblk m c 3 t (ix3 0 0 l)) j := by
  rw [outsAt0_A m c t h0 h1]
  dsimp only
  unfold sout0_A_0
  unfold kernelRun0_A
  dsimp only
  refine (scr _ _ _ _ VS0_0 _ _ (le_of_eq trips16) p j ?_).trans ?_
  · rw [trips16]
    omega
  · simp only [Memref.IsWhole.read_unread]

/-- After a first point the output holds the first 256 columns' part. -/
theorem o_A (t : Fin cfg0.N) (h0 : t.val % 43 = 0) (h1 : ¬t.val % 43 = 42) (p : Fin 1024) (j : Fin 4096) :
    (outsAt0 m c t.val t.isLt).1 (ix2 p j) = 0 + part (hid (fun l => iblk m c 0 t (ix2 p l)) (fun l => iblk m c 4 t (ix3 0 0 l)) (fun l => iblk m c 3 t (ix3 0 0 l)))
      (iblk m c 6 t) (iblk m c 7 t) (iblk m c 8 t) j := by
  rw [outsAt0_A m c t h0 h1]
  dsimp only
  unfold out0_A_11
  unfold kernelRun0_A
  dsimp only
  sl_unfold_words
  refine (congrFun (View.read_writes_full VO0_11 _ _ _ _) (ix2 p j)).trans ?_
  refine (pay3 _ _ _ _ _ p j).trans ?_
  unfold View.readCov
  rw [View.readAt_full, View.readAt_full, View.readAt_full, View.readAt_full, View.readAt_full]
  simp only [Memref.IsWhole.read_unread]
  refine congrArg₂ (· + ·) (zer _ _ _ _ _ _ _ (le_of_eq trips16) p j (by rw [trips16]; omega)) ?_
  refine congrArg (fun h => part h (iblk m c 6 t) (iblk m c 7 t) (iblk m c 8 t) j) (funext fun l => ?_)
  refine (scr _ _ _ _ (View.whole cc0_scratch0) _ _ (le_of_eq trips16) p l (by rw [trips16]; omega)).trans ?_
  simp only [Memref.IsWhole.read_unread]

/-- A later point keeps the scratch, and adds its 256 columns' part to the output. -/
theorem s_B (t : Fin cfg0.N) (h0 : ¬t.val % 43 = 0) (h1 : ¬t.val % 43 = 42) :
    (outsAt0 m c t.val t.isLt).2 = (outsAt0 m c (t.val - 1) (Nat.lt_of_le_of_lt (Nat.sub_le _ _) t.isLt)).2 := by
  rw [outsAt0_B m c t h0 h1]
  rfl

theorem o_B (t : Fin cfg0.N) (h0 : ¬t.val % 43 = 0) (h1 : ¬t.val % 43 = 42) (p : Fin 1024) (j : Fin 4096) :
    (outsAt0 m c t.val t.isLt).1 (ix2 p j) = (outsAt0 m c (t.val - 1) (Nat.lt_of_le_of_lt (Nat.sub_le _ _) t.isLt)).1 (ix2 p j)
      + part (fun l => (outsAt0 m c (t.val - 1) (Nat.lt_of_le_of_lt (Nat.sub_le _ _) t.isLt)).2 (ix2 p l))
        (iblk m c 6 t) (iblk m c 7 t) (iblk m c 8 t) j := by
  rw [outsAt0_B m c t h0 h1]
  dsimp only
  unfold out0_B_11
  unfold kernelRun0_B
  dsimp only
  sl_unfold_words
  refine (congrFun (View.read_writes_full VO0_11 _ _ _ _) (ix2 p j)).trans ?_
  refine (pay3 _ _ _ _ _ p j).trans ?_
  rw [View.readAt_full, View.readAt_full, View.readAt_full, View.readAt_full, View.readAt_full]
  simp only [Memref.IsWhole.read_unread, read_unread_whole]

/-- The last point adds its part, and leaves the norm of the half-step. -/
theorem o_C (t : Fin cfg0.N) (h0 : ¬t.val % 43 = 0) (h1 : t.val % 43 = 42) (p : Fin 1024) (j : Fin 4096) :
    (outsAt0 m c t.val t.isLt).1 (ix2 p j) = stream (half (fun l => iblk m c 0 t (ix2 p l)) (fun l => iblk m c 5 t (ix3 0 0 l))
      (fun q => (outsAt0 m c (t.val - 1) (Nat.lt_of_le_of_lt (Nat.sub_le _ _) t.isLt)).1 (ix2 p q)
        + part (fun l => (outsAt0 m c (t.val - 1) (Nat.lt_of_le_of_lt (Nat.sub_le _ _) t.isLt)).2 (ix2 p l))
          (iblk m c 6 t) (iblk m c 7 t) (iblk m c 8 t) q))
      (fun l => iblk m c 9 t (ix2 0 l)) (fun l => iblk m c 10 t (ix2 0 l)) j := by
  have hc := fun y => cover0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).1 (outsAt0 m c (t.val - 1) (Nat.lt_of_le_of_lt (Nat.sub_le _ _) t.isLt)).2 y
  rw [outsAt0_C m c t h0 h1]
  dsimp only
  unfold out0_C_11
  rw [View.read_writes_eq_canon _ _ _ hc, ← View.read_writes_eq_canon (ms0_11 t).view (ms0_11 t).view.junk _ hc]
  clear hc
  unfold kernelRun0_C
  dsimp only
  sl_unfold_words
  rw [View.writes_append]
  refine (outp _ _ _ _ _ _ _ (le_of_eq trips16) p j).trans ((if_pos (by rw [trips16]; omega)).trans ?_)
  rw [View.read_writes_full]
  rw [View.readAt_full, View.readAt_full, View.readAt_full, View.readAt_full, View.readAt_full]
  simp only [Memref.IsWhole.read_unread, read_unread_whole, pay3]

end Cert.Ffnc

end
-- ==== Proof.FfncSpec.lean ====
module

public import proofs.«01_k».proof.Proof.FfncPay

@[expose] public section

set_option maxRecDepth 16384

noncomputable section

open Idealize.ShloMosaic Idealize.ShloMosaic.TcCoe Idealize.SL.Sem Cert.Ffn

namespace Cert.Ffnc

/-- Row `r`'s batch and its place in it. -/
def bat (r : Fin 1024) : Fin 4 := ⟨r.val / 256, by omega⟩
def pos (r : Fin 1024) : Fin 256 := ⟨r.val % 256, by omega⟩

section spec

variable (x : FVec Ideal ⟨3, ![4, 256, 4096]⟩ .f32) (lg lb : FVec Ideal ⟨3, ![1, 3, 4096]⟩ .f32) (mm : FVec Ideal ⟨3, ![1, 9, 4096]⟩ .f32)
  (wi : FVec Ideal ⟨3, ![1, 4096, 22016]⟩ .f32) (wo : FVec Ideal ⟨3, ![1, 11008, 4096]⟩ .f32)

/-- The unit's input row. -/
def hrow (r : Fin 1024) : Fin 4096 → EReal :=
  hid (fun l => x (ix3 (bat r) (pos r) l)) (fun l => mm (ix3 0 1 l)) (fun l => mm (ix3 0 0 l))

/-- The layer's first half-step: the normed input, half its gate times the unit of it, normed. -/
def out (r : Fin 1024) (j : Fin 4096) : EReal :=
  stream (half (fun l => x (ix3 (bat r) (pos r) l)) (fun l => mm (ix3 0 2 l))
    (fun q => ∑ k : Fin 11008, act wi wo (hrow x mm r) q k)) (fun l => lg (ix3 0 0 l)) (fun l => lb (ix3 0 0 l)) j

end spec

end Cert.Ffnc

end
-- ==== Proof.FfncFold.lean ====
module

public import proofs.«01_k».proof.Proof.FfncCase
public import proofs.«01_k».proof.Proof.FfncSpec

@[expose] public section

set_option maxRecDepth 16384

noncomputable section

open Idealize.ShloMosaic Idealize.ShloMosaic.TcCoe Idealize.SL.Sem Cert.Ffn

namespace Cert.Ffnc

section kernel

open Cert.Kernel3Ideal Cert.Kernel3Ideal.Gen Cert.Kernel3Ideal.Value

theorem idx : ∀ t : Fin cfg0.N, win0_0.index t = ![t.val / 43, 0] ∧ win0_1.index t = ![0, 0] ∧ win0_2.index t = ![0, 0]
    ∧ win0_3.index t = ![t.val / 43 / 4, 0, 0] ∧ win0_4.index t = ![t.val / 43 / 4, 0, 0] ∧ win0_5.index t = ![t.val / 43 / 4, 0, 0]
    ∧ win0_6.index t = ![0, t.val % 43] ∧ win0_7.index t = ![0, 43 + t.val % 43] ∧ win0_8.index t = ![t.val % 43, 0]
    ∧ win0_9.index t = ![0, 0] ∧ win0_10.index t = ![0, 0] ∧ win0_11.index t = ![t.val / 43, 0] :=
  (by decide +kernel : ∀ t : Fin grid0.N, _)

theorem t_lt (t : Fin cfg0.N) : t.val < 43 := lt_of_lt_of_eq t.isLt (show cfg0.N = 43 from N_0)

variable (m : (ℓ : Loc nD τ sig) → Buf (Elt Ideal) ℓ) (c : Dev nD) (t : Fin cfg0.N)

/-- The array's row of a point's block's. -/
def row (p : Fin 1024) : Fin 1024 := ⟨1024 * (t.val / 43) + p.val, by have := t_lt t; omega⟩

theorem r0 (p : Fin 1024) (l : Fin 4096) : iblk m c 0 t (ix2 p l) = m ((c : Thread nD τ).loc main_arg0) (ix3 (bat (row t p)) (pos (row t p)) l) := by
  unfold row bat pos
  blk_simp [iblk, idx t]
  entry_read
  pointwise
  blk_ext [idx t]
theorem r3 (l : Fin 4096) : iblk m c 3 t (ix3 0 0 l) = m ((c : Thread nD τ).loc main_arg3) (ix3 0 0 l) := by
  blk_simp [iblk, idx t]
  entry_read
  pointwise
  blk_ext [idx t]
theorem r4 (l : Fin 4096) : iblk m c 4 t (ix3 0 0 l) = m ((c : Thread nD τ).loc main_arg3) (ix3 0 1 l) := by
  blk_simp [iblk, idx t]
  entry_read
  pointwise
  blk_ext [idx t]
theorem r5 (l : Fin 4096) : iblk m c 5 t (ix3 0 0 l) = m ((c : Thread nD τ).loc main_arg3) (ix3 0 2 l) := by
  blk_simp [iblk, idx t]
  entry_read
  pointwise
  blk_ext [idx t]
theorem r6 (l : Fin 4096) (k : Fin 256) : iblk m c 6 t (ix2 l k) = m ((c : Thread nD τ).loc main_arg4) (ix3 0 l ⟨(256 * (t.val % 43) + k.val) % 11008, by omega⟩) := by
  blk_simp [iblk, idx t]
  entry_read
  pointwise
  blk_ext [idx t]
theorem r7 (l : Fin 4096) (k : Fin 256) : iblk m c 7 t (ix2 l k) = m ((c : Thread nD τ).loc main_arg4) (ix3 0 l ⟨11008 + (256 * (t.val % 43) + k.val) % 11008, by omega⟩) := by
  blk_simp [iblk, idx t]
  entry_read
  pointwise
  blk_ext [idx t]
theorem r8 (k : Fin 256) (j : Fin 4096) : iblk m c 8 t (ix2 k j) = m ((c : Thread nD τ).loc main_arg5) (ix3 0 ⟨(256 * (t.val % 43) + k.val) % 11008, by omega⟩ j) := by
  blk_simp [iblk, idx t]
  entry_read
  pointwise
  blk_ext [idx t]
theorem r9 (l : Fin 4096) : iblk m c 9 t (ix2 0 l) = m ((c : Thread nD τ).loc main_arg1) (ix3 0 0 l) := by
  blk_simp [iblk, idx t]
  entry_read
  pointwise
  blk_ext [idx t]
theorem r10 (l : Fin 4096) : iblk m c 10 t (ix2 0 l) = m ((c : Thread nD τ).loc main_arg2) (ix3 0 0 l) := by
  blk_simp [iblk, idx t]
  entry_read
  pointwise
  blk_ext [idx t]

end kernel

end Cert.Ffnc

end
-- ==== Proof.FfncArr.lean ====
module

public import proofs.«01_k».proof.Proof.FfncFold

@[expose] public section

set_option maxRecDepth 16384

noncomputable section

open Idealize.ShloMosaic Idealize.ShloMosaic.TcCoe Idealize.SL.Sem Cert.Ffn

namespace Cert.Ffnc

open Cert.Kernel3Ideal Cert.Kernel3Ideal.Gen Cert.Kernel3Ideal.Value

variable (m : (ℓ : Loc nD τ sig) → Buf (Elt Ideal) ℓ) (c : Dev nD) (t : Fin cfg0.N)

/-- The unit's input row, at the arrays the call finds. -/
def hR (r : Fin 1024) : Fin 4096 → EReal :=
  hrow (m ((c : Thread nD τ).loc main_arg0)) (m ((c : Thread nD τ).loc main_arg3)) r

/-- The first `n` blocks of 256 columns, at the arrays the call finds. -/
def aR (r : Fin 1024) (n : ℕ) : Fin 4096 → EReal :=
  acc (m ((c : Thread nD τ).loc main_arg4)) (m ((c : Thread nD τ).loc main_arg5)) (hR m c r) n

theorem hid_at (p : Fin 1024) : hid (fun l => iblk m c 0 t (ix2 p l)) (fun l => iblk m c 4 t (ix3 0 0 l)) (fun l => iblk m c 3 t (ix3 0 0 l)) = hR m c (row t p) := by
  rw [funext (r0 m c t p), funext (r3 m c t), funext (r4 m c t)]
  rfl

theorem part_at (h : Fin 4096 → EReal) (j : Fin 4096) :
    part h (iblk m c 6 t) (iblk m c 7 t) (iblk m c 8 t) j
      = ∑ k : Fin 256, act (m ((c : Thread nD τ).loc main_arg4)) (m ((c : Thread nD τ).loc main_arg5)) h j ⟨(256 * (t.val % 43) + k.val) % 11008, Nat.mod_lt _ (by norm_num)⟩ := by
  unfold part act
  refine Finset.sum_congr rfl fun k _ => ?_
  rw [r8]
  simp only [r6, r7]

/-- What the scratch and the output hold after the `f`-th point of a tile that has more to come. -/
theorem inv : ∀ (f : ℕ) (t : Fin cfg0.N), t.val % 43 = f → f < 42 → ∀ p : Fin 1024,
    (∀ j, (outsAt0 m c t.val t.isLt).2 (ix2 p j) = hR m c (row t p) j)
      ∧ ∀ j, (outsAt0 m c t.val t.isLt).1 (ix2 p j) = aR m c (row t p) (f + 1) j
  | 0, t, h0, _, p => by
    refine ⟨fun j => ?_, fun j => ?_⟩
    · rw [s_A t h0 (by omega) p j, hid_at]
    · rw [o_A t h0 (by omega) p j, hid_at, part_at, h0, zero_add]
      unfold aR acc
      rw [Finset.sum_range_one]
  | f + 1, t, hf, hlt, p => by
    have h0 : ¬t.val % 43 = 0 := by omega
    have h1 : ¬t.val % 43 = 42 := by omega
    have ih := inv f ⟨t.val - 1, Nat.lt_of_le_of_lt (Nat.sub_le _ _) t.isLt⟩ (by show (t.val - 1) % 43 = f; omega) (by omega) p
    have hr : row ⟨t.val - 1, Nat.lt_of_le_of_lt (Nat.sub_le _ _) t.isLt⟩ p = row t p := Fin.ext (by
      show 1024 * ((t.val - 1) / 43) + p.val = 1024 * (t.val / 43) + p.val
      omega)
    rw [hr] at ih
    refine ⟨fun j => ?_, fun j => ?_⟩
    · rw [s_B t h0 h1]
      exact ih.1 j
    · rw [o_B t h0 h1 p j, part_at, ih.2 j, funext ih.1, hf]
      unfold aR acc
      rw [Finset.sum_range_succ _ (f + 1)]

/-- What the output holds after the last point of a tile. -/
theorem last (t : Fin cfg0.N) (h1 : t.val % 43 = 42) (p : Fin 1024) (j : Fin 4096) :
    (outsAt0 m c t.val t.isLt).1 (ix2 p j) = out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (row t p) j := by
  have h0 : ¬t.val % 43 = 0 := by omega
  have ih := inv m c 41 ⟨t.val - 1, Nat.lt_of_le_of_lt (Nat.sub_le _ _) t.isLt⟩ (by show (t.val - 1) % 43 = 41; omega) (by omega) p
  have hr : row ⟨t.val - 1, Nat.lt_of_le_of_lt (Nat.sub_le _ _) t.isLt⟩ p = row t p := Fin.ext (by
    show 1024 * ((t.val - 1) / 43) + p.val = 1024 * (t.val / 43) + p.val
    omega)
  rw [hr] at ih
  rw [o_C t h0 h1 p j, funext (r0 m c t p), funext (r5 m c t), funext (r9 m c t), funext (r10 m c t), funext ih.1]
  unfold out
  refine congrArg (fun o => stream (half _ _ o) _ _ j) (funext fun q => ?_)
  rw [part_at, ih.2 q, h1, ← acc_all]
  unfold aR acc
  rw [Finset.sum_range_succ _ 42]
  rfl

/-- The kernel's array. -/
theorem arr : (dats m 0 c).arrAt 11 cfg0.N = fun y => out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (y 0) (y 1) := by
  refine (dats m 0 c).arrAt_eq_of_covers 11 _ (by decide +kernel) fun t hf y => ?_
  obtain ⟨p, j, rfl⟩ : ∃ p j, y = ix2 p j := ⟨y 0, y 1, idx2 y⟩
  blk_simp
  rw [after0_11]
  refine (last m c t ((flush0_11 t).mp hf) p j).trans ?_
  have e0 : (win0_11.blk t).view.emb (ix2 p j) 0 = row t p := Fin.ext (by
    show ((win0_11.blk t).view.emb (ix2 p j) 0).val = 1024 * (t.val / 43) + p.val
    blk_simp [idx t] <;> try omega)
  have e1 : (win0_11.blk t).view.emb (ix2 p j) 1 = j := Fin.ext (by
    show ((win0_11.blk t).view.emb (ix2 p j) 1).val = j.val
    blk_simp [idx t] <;> try omega)
  rw [e0, e1]

end Cert.Ffnc

end
-- ==== Proof.FfncRef.lean ====
module

public import proofs.«01_k».proof.Proof.Gen.Reference3Ideal.Run
public import Idealize.ShloMosaic.Lib.Pointwise
public import proofs.«01_k».proof.Proof.FfncSpec
public import proofs.«01_k».proof.Proof.FfnRef

@[expose] public section

set_option maxRecDepth 16384

noncomputable section

open Idealize.ShloMosaic Idealize.ShloMosaic.TcCoe Idealize.SL.Sem Cert.Ffn

namespace Cert.Ffnc

open Cert.Reference3Ideal Cert.Reference3Ideal.Gen Cert.Reference3Ideal.Value

variable (X : FVec Ideal S4x256x4096 .f32) (LG LB : FVec Ideal S1x3x4096 .f32) (MM : FVec Ideal S1x9x4096 .f32)
  (WI : FVec Ideal S1x4096x22016 .f32) (WO : FVec Ideal S1x11008x4096 .f32)

/-- The reference's values, a step at a time. -/
def tC : FVec Ideal S4x256x4096 .f32 :=
  subf X (broadcastInDim S4x256x4096 ![0, 1, 2] bcast_S4x256x1_S4x256x4096_0_1_2 (Host.divf (broadcastInDim S4x256x1 ![0, 1] bcast_S4x256_S4x256x1_0_1 (Host.reduceAdd X (constant S_ .f32 0x00000000#32) reducesTo_S4x256x4096_S4x256_d2 h_S_)) (broadcastInDim S4x256x1 ![] bcast_S_S4x256x1 (constant S_ .f32 0x45800000#32))))

def tN : FVec Ideal S4x256x4096 .f32 :=
  mulf (tC X) (broadcastInDim S4x256x4096 ![0, 1, 2] bcast_S4x256x1_S4x256x4096_0_1_2 (Host.rsqrt (addf (Host.divf (broadcastInDim S4x256x1 ![0, 1] bcast_S4x256_S4x256x1_0_1 (Host.reduceAdd (mulf (tC X) (tC X)) (constant S_ .f32 0x00000000#32) reducesTo_S4x256x4096_S4x256_d2 h_S_)) (broadcastInDim S4x256x1 ![] bcast_S_S4x256x1 (constant S_ .f32 0x45800000#32))) (broadcastInDim S4x256x1 ![] bcast_S_S4x256x1 (constant S_ .f32 0x3727C5AC#32)))))

def tF : FVec Ideal S4x256x4096 .f32 :=
  addf (mulf (tN X) (broadcastInDim S4x256x4096 ![0, 1, 2] bcast_S1x1x4096_S4x256x4096_0_1_2 (broadcastInDim S1x1x4096 ![2] bcast_S4096_S1x1x4096_2 (shapeCast _ (extractStridedSlice S1x1x4096 ![0, 0, 0] LG slices_S1x3x4096_S1x1x4096_0_0_0) shapeCasts_S1x1x4096_S4096)))) (broadcastInDim S4x256x4096 ![0, 1, 2] bcast_S1x1x4096_S4x256x4096_0_1_2 (broadcastInDim S1x1x4096 ![2] bcast_S4096_S1x1x4096_2 (shapeCast _ (extractStridedSlice S1x1x4096 ![0, 0, 0] LB slices_S1x3x4096_S1x1x4096_0_0_0) shapeCasts_S1x1x4096_S4096)))

def tH : FVec Ideal S4x256x4096 .f32 :=
  addf (mulf X (broadcastInDim S4x256x4096 ![0, 1, 2] bcast_S1x1x4096_S4x256x4096_0_1_2 (addf (broadcastInDim S1x1x4096 ![] bcast_S_S1x1x4096 (constant S_ .f32 0x3F800000#32)) (broadcastInDim S1x1x4096 ![0, 2] bcast_S1x4096_S1x1x4096_0_2 (shapeCast _ (extractStridedSlice S1x1x4096 ![0, 1, 0] MM slices_S1x9x4096_S1x1x4096_0_1_0) shapeCasts_S1x1x4096_S1x4096))))) (broadcastInDim S4x256x4096 ![0, 1, 2] bcast_S1x1x4096_S4x256x4096_0_1_2 (broadcastInDim S1x1x4096 ![0, 2] bcast_S1x4096_S1x1x4096_0_2 (shapeCast _ (extractStridedSlice S1x1x4096 ![0, 0, 0] MM slices_S1x9x4096_S1x1x4096_0_0_0) shapeCasts_S1x1x4096_S1x4096)))

def tG : FVec Ideal S4x256x22016 .f32 :=
  Host.dotGeneral dot_S4x256x4096_S4096x22016_S4x256x22016_2_0_01_1_n_n none X (shapeCast _ WI shapeCasts_S1x4096x22016_S4096x22016)

def tA (G : FVec Ideal S4x256x22016 .f32) : FVec Ideal S4x256x11008 .f32 :=
  mulf (mulf (extractStridedSlice S4x256x11008 ![0, 0, 0] G slices_S4x256x22016_S4x256x11008_0_0_0) (Host.divf (broadcastInDim S4x256x11008 ![] bcast_S_S4x256x11008 (constant S_ .f32 0x3F800000#32)) (addf (broadcastInDim S4x256x11008 ![] bcast_S_S4x256x11008 (constant S_ .f32 0x3F800000#32)) (Host.exp (Host.negf (extractStridedSlice S4x256x11008 ![0, 0, 0] G slices_S4x256x22016_S4x256x11008_0_0_0)))))) (extractStridedSlice S4x256x11008 ![0, 0, 11008] G slices_S4x256x22016_S4x256x11008_0_0_11008)

def tO (A : FVec Ideal S4x256x11008 .f32) : FVec Ideal S4x256x4096 .f32 :=
  Host.dotGeneral dot_S4x256x11008_S11008x4096_S4x256x4096_2_0_01_1_n_n none A (shapeCast _ WO shapeCasts_S1x11008x4096_S11008x4096)

def tP (O : FVec Ideal S4x256x4096 .f32) : FVec Ideal S4x256x4096 .f32 :=
  addf (mulf (broadcastInDim S4x256x4096 ![] bcast_S_S4x256x4096 (constant S_ .f32 0x3F9837F0#32)) X) (mulf (broadcastInDim S4x256x4096 ![0, 1, 2] bcast_S1x1x4096_S4x256x4096_0_1_2 (mulf (broadcastInDim S1x1x4096 ![] bcast_S_S1x1x4096 (constant S_ .f32 0x3F000000#32)) (broadcastInDim S1x1x4096 ![0, 2] bcast_S1x4096_S1x1x4096_0_2 (shapeCast _ (extractStridedSlice S1x1x4096 ![0, 2, 0] MM slices_S1x9x4096_S1x1x4096_0_2_0) shapeCasts_S1x1x4096_S1x4096)))) O)

variable (b : Fin 4) (s : Fin 256)

theorem tC_at (j : Fin 4096) : tC X (ix3 b s j) = X (ix3 b s j) - mean (fun k => X (ix3 b s k)) := by
  pointwise [tC]
  rfl
theorem tN_at (j : Fin 4096) : tN X (ix3 b s j) = ln (fun k => X (ix3 b s k)) j := by
  pointwise [tN]
  simp only [tC_at]
  rfl
theorem tF_at (j : Fin 4096) : tF X LG LB (ix3 b s j) = stream (fun k => X (ix3 b s k)) (fun l => LG (ix3 0 0 l)) (fun l => LB (ix3 0 0 l)) j := by
  pointwise [tF]
  rw [tN_at]
  rfl
theorem tH_at (j : Fin 4096) : tH X MM (ix3 b s j) = X (ix3 b s j) * (1 + MM (ix3 0 1 j)) + MM (ix3 0 0 j) := by
  pointwise [tH]
theorem tG_at (k : Fin 22016) : tG X WI (ix3 b s k) = ∑ l : Fin 4096, X (ix3 b s l) * WI (ix3 0 l k) := by
  pointwise [tG]
theorem tA_at (G : FVec Ideal S4x256x22016 .f32) (k : Fin 11008) : tA G (ix3 b s k) = silu (G (ix3 b s ⟨k.val, by omega⟩)) * G (ix3 b s ⟨11008 + k.val, by omega⟩) := by
  pointwise [tA]
  rfl
theorem tO_at (A : FVec Ideal S4x256x11008 .f32) (j : Fin 4096) : tO WO A (ix3 b s j) = ∑ k : Fin 11008, A (ix3 b s k) * WO (ix3 0 k j) := by
  pointwise [tO]
theorem tP_at (O : FVec Ideal S4x256x4096 .f32) (j : Fin 4096) : tP X MM O (ix3 b s j) = cA * X (ix3 b s j) + cH * MM (ix3 0 2 j) * O (ix3 b s j) := by
  pointwise [tP]
  rfl

/-- The reference's array. -/
def tR : FVec Ideal S1024x4096 .f32 :=
  shapeCast _ (tF (tP (tN X) MM (tO WO (tA (tG (tH (tN X) MM) WI)))) LG LB) shapeCasts_S4x256x4096_S1024x4096

theorem tR_eq : tR X LG LB MM WI WO = fun i => out X LG LB MM WI WO (i 0) (i 1) := by
  funext i
  obtain ⟨r, j, rfl⟩ : ∃ r j, i = ix2 r j := ⟨i 0, i 1, idx2 i⟩
  have e : tR X LG LB MM WI WO (ix2 r j) = tF (tP (tN X) MM (tO WO (tA (tG (tH (tN X) MM) WI)))) LG LB (ix3 (bat r) (pos r) j) := by
    unfold tR
    generalize tF (tP (tN X) MM (tO WO (tA (tG (tH (tN X) MM) WI)))) LG LB = v
    pointwise
    rfl
  rw [e, tF_at]
  unfold out
  refine congrArg (fun o => stream o _ _ j) (funext fun k => ?_)
  rw [tP_at, tN_at, tO_at]
  unfold half
  refine congrArg (fun o => _ + _ * o) (Finset.sum_congr rfl fun q _ => ?_)
  rw [tA_at, tG_at, tG_at]
  simp only [tH_at, tN_at]
  rfl

theorem ref {m : (ℓ : Loc nD τ sig) → Buf (Elt Ideal) ℓ} {c : Dev nD} {X : FVec Ideal S4x256x4096 .f32} {LG LB : FVec Ideal S1x3x4096 .f32}
    {MM : FVec Ideal S1x9x4096 .f32} {WI : FVec Ideal S1x4096x22016 .f32} {WO : FVec Ideal S1x11008x4096 .f32}
    (h0 : m ((c : Thread nD τ).loc main_arg0) = X) (h1 : m ((c : Thread nD τ).loc main_arg1) = LG) (h2 : m ((c : Thread nD τ).loc main_arg2) = LB)
    (h3 : m ((c : Thread nD τ).loc main_arg3) = MM) (h4 : m ((c : Thread nD τ).loc main_arg4) = WI) (h5 : m ((c : Thread nD τ).loc main_arg5) = WO) :
    res_main_v76 m c = fun i : S1024x4096.Idx => out X LG LB MM WI WO (i 0) (i 1) := by
  subst h0 h1 h2 h3 h4 h5
  exact Eq.trans (by unfold res_main_v76; rfl) (tR_eq _ _ _ _ _ _)

end Cert.Ffnc

end
-- ==== Proof.OutpFold.lean ====
/- The output projection's kernel: what a point leaves in the scratch and the output, and what the blocks hold. -/
module

public import proofs.«01_k».proof.Proof.Gen.Kernel4Ideal.Value
public import Idealize.ShloMosaic.Lib.Pointwise
public import Idealize.ShloMosaic.Lib.VecWindow
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem

namespace Cert.Outp

theorem idx2 {n0 n1 : ℕ} (y : (⟨2, ![n0, n1]⟩ : Shape).Idx) : y = ix2 (y 0) (y 1) := by
  funext a
  fin_cases a <;> rfl

/-- Row `r`'s batch and its place in it. -/
def bat (r : Fin 16384) : Fin 4 := ⟨r.val / 4096, by omega⟩
def pos (r : Fin 16384) : Fin 4096 := ⟨r.val % 4096, by omega⟩

/-- Two rows of 2048 one after the other. -/
def join (a b : Fin 2048 → EReal) (k : Fin 4096) : EReal :=
  if h : k.val < 2048 then a ⟨k.val, h⟩ else b ⟨k.val - 2048, by omega⟩

/-- A row of the stream times its weight, and a row of the mixers' outputs times `w` at the gate. -/
def comb (a : Fin 4096 → EReal) (w : Fin 4096 → EReal) (x g : EReal) : EReal :=
  Scalar.ofBits (F := Ideal) .f32 0x3F9837F0#32 * x + g * ∑ k : Fin 4096, a k * w k

theorem comb_congr {a a' w w' : Fin 4096 → EReal} {x x' g g' : EReal} (ha : a = a') (hw : w = w') (hx : x = x') (hg : g = g') :
    comb a w x g = comb a' w' x' g' := by
  subst ha hw hx hg
  rfl

/-- The output projection and the gated residual. -/
def out (hy : FVec Ideal ⟨3, ![4, 4096, 2048]⟩ .f32) (ml : FVec Ideal ⟨3, ![4, 4096, 2048]⟩ .bf16) (w : FVec Ideal ⟨3, ![1, 4096, 4096]⟩ .f32)
    (x : FVec Ideal ⟨3, ![4, 4096, 4096]⟩ .f32) (mm : FVec Ideal ⟨3, ![4, 9, 4096]⟩ .f32) (r : Fin 16384) (j : Fin 4096) : EReal :=
  comb (join (fun k => hy (ix3 (bat r) (pos r) k)) (fun k => ml (ix3 (bat r) (pos r) k))) (fun k => w (ix3 0 k j))
    (x (ix3 (bat r) (pos r) j)) (mm (ix3 (bat r) 5 j))

section kernel

open Cert.Kernel4Ideal Cert.Kernel4Ideal.Gen Cert.Kernel4Ideal.Value

theorem pay1 (v : FVec Ideal S512x2048 .f32) (y : S512x2048.Idx) : k0_pay1 (F := Ideal) v y = v y := by
  obtain ⟨p, k, rfl⟩ : ∃ p k, y = ix2 p k := ⟨y 0, y 1, idx2 y⟩
  pointwise [k0_pay1]
theorem pay2 (v : FVec Ideal S512x2048 .bf16) (y : S512x2048.Idx) : k0_pay2 (F := Ideal) v y = v y := by
  obtain ⟨p, k, rfl⟩ : ∃ p k, y = ix2 p k := ⟨y 0, y 1, idx2 y⟩
  pointwise [k0_pay2]
theorem pay3 (v3 : FVec Ideal S512x4096 .bf16) (v4 : FVec Ideal S4096x1024 .bf16) (v7 : FVec Ideal S512x1024 .f32) (v11 : FVec Ideal S1x1x1024 .f32)
    (p : Fin 512) (q : Fin 1024) : k0_pay3 (F := Ideal) v3 v4 v7 v11 (ix2 p q) = comb (fun k => v3 (ix2 p k)) (fun k => v4 (ix2 k q)) (v7 (ix2 p q)) (v11 (ix3 0 0 q)) := by
  pointwise [k0_pay3]
  rfl

/-- Two stores side by side, read back. -/
theorem two {sp : Space} (v : View Cert.Kernel4Ideal.sig .tc sp S512x4096 .bf16) (f : v.ty.Contents (Elt Ideal)) (a b : S512x2048.Idx → EReal)
    (ia : ∀ d, (![0, 0] : Fin 2 → ℕ) d + S512x2048.size d ≤ S512x4096.size d) (ib : ∀ d, (![0, 2048] : Fin 2 → ℕ) d + S512x2048.size d ≤ S512x4096.size d)
    (p : Fin 512) (k : Fin 4096) :
    v.read (Elt Ideal) (v.writes (Elt Ideal) f [⟨Rect.unit (s := S512x4096) ![0, 2048] S512x2048.size ib, b⟩, ⟨Rect.unit (s := S512x4096) ![0, 0] S512x2048.size ia, a⟩]) (ix2 p k)
      = join (fun k => a (ix2 p k)) (fun k => b (ix2 p k)) k := by
  unfold join
  by_cases h : k.val < 2048
  · rw [dif_pos h, View.read_writes_cons_miss_of_axis v f _ _ (ix2 p k) 1 2048 2048 rfl rfl rfl (Or.inl h)]
    refine View.read_writes_cons_hit_of_coords v f (Rect.unit (s := S512x4096) ![0, 0] S512x2048.size ia) a _ (ix2 p (⟨k.val, h⟩ : Fin 2048)) _ fun d => ?_
    fin_cases d
    · show p.val = 0 + 1 * p.val
      omega
    · show k.val = 0 + 1 * k.val
      omega
  · rw [dif_neg h]
    refine View.read_writes_cons_hit_of_coords v f (Rect.unit (s := S512x4096) ![0, 2048] S512x2048.size ib) b _ (ix2 p (⟨k.val - 2048, by omega⟩ : Fin 2048)) _ fun d => ?_
    fin_cases d
    · show p.val = 0 + 1 * p.val
      omega
    · show k.val = 2048 + 1 * (k.val - 2048)
      omega

variable {m : (ℓ : Loc nD τ sig) → Buf (Elt Ideal) ℓ} {c : Dev nD}

/-- After a row tile's first point the scratch holds the mixers' outputs side by side. -/
theorem s_A (t : Fin cfg0.N) (h0 : t.val % 4 = 0) (p : Fin 512) (k : Fin 4096) :
    (outsAt0 m c t.val t.isLt).2 (ix2 p k) = join (fun k => iblk m c 0 t (ix2 p k)) (fun k => iblk m c 1 t (ix2 p k)) k := by
  rw [outsAt0_A m c t h0]
  dsimp only
  unfold sout0_A_0
  unfold kernelRun0_A
  dsimp only
  sl_unfold_words
  refine (two VS0_0 _ _ _ _ _ p k).trans ?_
  rw [View.readAt_full, View.readAt_full]
  simp only [Memref.IsWhole.read_unread, pay1, pay2]

theorem s_B (t : Fin cfg0.N) (h0 : ¬t.val % 4 = 0) :
    (outsAt0 m c t.val t.isLt).2 = (outsAt0 m c (t.val - 1) (Nat.lt_of_le_of_lt (Nat.sub_le _ _) t.isLt)).2 := by
  rw [outsAt0_B m c t h0]
  rfl

/-- What a point leaves in the output. -/
theorem o_A (t : Fin cfg0.N) (h0 : t.val % 4 = 0) (p : Fin 512) (q : Fin 1024) :
    (outsAt0 m c t.val t.isLt).1 (ix2 p q) = comb (join (fun k => iblk m c 0 t (ix2 p k)) (fun k => iblk m c 1 t (ix2 p k)))
      (fun k => iblk m c 2 t (ix2 k q)) (iblk m c 3 t (ix2 p q)) (iblk m c 4 t (ix3 0 0 q)) := by
  rw [outsAt0_A m c t h0]
  dsimp only
  unfold out0_A_5
  unfold kernelRun0_A
  dsimp only
  sl_unfold_words
  refine (congrFun (View.read_writes_full VO0_5 _ _ _ _) (ix2 p q)).trans ?_
  refine (pay3 _ _ _ _ p q).trans (comb_congr (funext fun k => ?_) (funext fun k => ?_) ?_ ?_)
  · unfold View.readCov
    rw [View.readAt_full]
    refine (two (View.whole cc0_scratch0) _ _ _ _ _ p k).trans ?_
    rw [View.readAt_full, View.readAt_full]
    simp only [Memref.IsWhole.read_unread, pay1, pay2]
  · rw [View.readAt_full, Memref.IsWhole.read_unread]
  · rw [View.readAt_full, Memref.IsWhole.read_unread]
  · rw [View.readAt_full, Memref.IsWhole.read_unread]

theorem o_B (t : Fin cfg0.N) (h0 : ¬t.val % 4 = 0) (p : Fin 512) (q : Fin 1024) :
    (outsAt0 m c t.val t.isLt).1 (ix2 p q) = comb (fun k => (outsAt0 m c (t.val - 1) (Nat.lt_of_le_of_lt (Nat.sub_le _ _) t.isLt)).2 (ix2 p k))
      (fun k => iblk m c 2 t (ix2 k q)) (iblk m c 3 t (ix2 p q)) (iblk m c 4 t (ix3 0 0 q)) := by
  rw [outsAt0_B m c t h0]
  dsimp only
  unfold out0_B_5
  unfold kernelRun0_B
  dsimp only
  sl_unfold_words
  refine (congrFun (View.read_writes_full VO0_5 _ _ _ _) (ix2 p q)).trans ?_
  refine (pay3 _ _ _ _ p q).trans ?_
  rw [View.readAt_full, View.readAt_full, View.readAt_full, View.readAt_full]
  simp only [Memref.IsWhole.read_unread, read_unread_whole]

theorem idx : ∀ t : Fin cfg0.N, win0_0.index t = ![t.val / 4, 0] ∧ win0_1.index t = ![t.val / 4, 0] ∧ win0_2.index t = ![0, t.val % 4]
    ∧ win0_3.index t = ![t.val / 4, t.val % 4] ∧ win0_4.index t = ![t.val / 4 / 8, 0, t.val % 4] ∧ win0_5.index t = ![t.val / 4, t.val % 4] :=
  (by decide +kernel : ∀ t : Fin grid0.N, _)

theorem t_lt (t : Fin cfg0.N) : t.val < 128 := lt_of_lt_of_eq t.isLt (show cfg0.N = 128 from N_0)

variable (m : (ℓ : Loc nD τ sig) → Buf (Elt Ideal) ℓ) (c : Dev nD) (t : Fin cfg0.N)

/-- The array's row and column of a point's block's. -/
def row (p : Fin 512) : Fin 16384 := ⟨512 * (t.val / 4) + p.val, by have := t_lt t; omega⟩
def col (q : Fin 1024) : Fin 4096 := ⟨1024 * (t.val % 4) + q.val, by omega⟩

theorem r0 (p : Fin 512) (k : Fin 2048) : iblk m c 0 t (ix2 p k) = m ((c : Thread nD τ).loc main_arg0) (ix3 (bat (row t p)) (pos (row t p)) k) := by
  unfold row bat pos
  blk_simp [iblk, idx t]
  entry_read
  pointwise
  blk_ext [idx t]
theorem r1 (p : Fin 512) (k : Fin 2048) : iblk m c 1 t (ix2 p k) = m ((c : Thread nD τ).loc main_arg1) (ix3 (bat (row t p)) (pos (row t p)) k) := by
  unfold row bat pos
  blk_simp [iblk, idx t]
  entry_read
  pointwise
  blk_ext [idx t]
theorem r2 (k : Fin 4096) (q : Fin 1024) : iblk m c 2 t (ix2 k q) = m ((c : Thread nD τ).loc main_arg2) (ix3 0 k (col t q)) := by
  unfold col
  blk_simp [iblk, idx t]
  entry_read
  pointwise
  blk_ext [idx t]
theorem r3 (p : Fin 512) (q : Fin 1024) : iblk m c 3 t (ix2 p q) = m ((c : Thread nD τ).loc main_arg3) (ix3 (bat (row t p)) (pos (row t p)) (col t q)) := by
  unfold row col bat pos
  blk_simp [iblk, idx t]
  entry_read
  pointwise
  blk_ext [idx t]
theorem r4 (p : Fin 512) (q : Fin 1024) : iblk m c 4 t (ix3 0 0 q) = m ((c : Thread nD τ).loc main_arg4) (ix3 (bat (row t p)) 5 (col t q)) := by
  unfold row col bat
  blk_simp [iblk, idx t]
  entry_read
  pointwise
  blk_ext [idx t]

end kernel

end Cert.Outp

end
-- ==== Proof.OutpArr.lean ====
/- The output projection's kernel: its array. -/
module

public import proofs.«01_k».proof.Proof.OutpFold

@[expose] public section

set_option maxRecDepth 16384

noncomputable section

open Idealize.ShloMosaic Idealize.ShloMosaic.TcCoe Idealize.SL.Sem

namespace Cert.Outp

open Cert.Kernel4Ideal Cert.Kernel4Ideal.Gen Cert.Kernel4Ideal.Value

variable (m : (ℓ : Loc nD τ sig) → Buf (Elt Ideal) ℓ) (c : Dev nD)

/-- A row of the mixers' outputs, at the arrays the call finds. -/
def mix (r : Fin 16384) : Fin 4096 → EReal :=
  join (fun k => m ((c : Thread nD τ).loc main_arg0) (ix3 (bat r) (pos r) k)) (fun k => m ((c : Thread nD τ).loc main_arg1) (ix3 (bat r) (pos r) k))

theorem mix_at (t : Fin cfg0.N) (p : Fin 512) : join (fun k => iblk m c 0 t (ix2 p k)) (fun k => iblk m c 1 t (ix2 p k)) = mix m c (row t p) := by
  rw [funext (r0 m c t p), funext (r1 m c t p)]
  rfl

/-- What the scratch holds after the `f`-th column tile. -/
theorem held : ∀ (f : ℕ) (t : Fin cfg0.N), t.val % 4 = f → ∀ (p : Fin 512) (k : Fin 4096), (outsAt0 m c t.val t.isLt).2 (ix2 p k) = mix m c (row t p) k
  | 0, t, h0, p, k => by rw [s_A t h0 p k, mix_at]
  | f + 1, t, hf, p, k => by
    have ih := held f ⟨t.val - 1, Nat.lt_of_le_of_lt (Nat.sub_le _ _) t.isLt⟩ (by show (t.val - 1) % 4 = f; omega) p k
    have hr : row ⟨t.val - 1, Nat.lt_of_le_of_lt (Nat.sub_le _ _) t.isLt⟩ p = row t p := Fin.ext (by
      show 512 * ((t.val - 1) / 4) + p.val = 512 * (t.val / 4) + p.val
      omega)
    rw [hr] at ih
    rw [s_B t (by omega)]
    exact ih

/-- What a point leaves in the output. -/
theorem left (t : Fin cfg0.N) (p : Fin 512) (q : Fin 1024) :
    (outsAt0 m c t.val t.isLt).1 (ix2 p q) = out (m ((c : Thread nD τ).loc main_arg0)) (m ((c : Thread nD τ).loc main_arg1)) (m ((c : Thread nD τ).loc main_arg2))
      (m ((c : Thread nD τ).loc main_arg3)) (m ((c : Thread nD τ).loc main_arg4)) (row t p) (col t q) := by
  by_cases h0 : t.val % 4 = 0
  · rw [o_A t h0 p q, mix_at, r3, r4 m c t p, funext fun k => r2 m c t k q]
    rfl
  · have h := held m c (t.val % 4 - 1) ⟨t.val - 1, Nat.lt_of_le_of_lt (Nat.sub_le _ _) t.isLt⟩ (by show (t.val - 1) % 4 = t.val % 4 - 1; omega) p
    have hr : row ⟨t.val - 1, Nat.lt_of_le_of_lt (Nat.sub_le _ _) t.isLt⟩ p = row t p := Fin.ext (by
      show 512 * ((t.val - 1) / 4) + p.val = 512 * (t.val / 4) + p.val
      omega)
    rw [hr] at h
    rw [o_B t h0 p q, funext h, r3, r4 m c t p, funext fun k => r2 m c t k q]
    rfl

/-- The kernel's array. -/
theorem arr : (dats m 0 c).arrAt 5 cfg0.N = fun y => out (m ((c : Thread nD τ).loc main_arg0)) (m ((c : Thread nD τ).loc main_arg1)) (m ((c : Thread nD τ).loc main_arg2))
      (m ((c : Thread nD τ).loc main_arg3)) (m ((c : Thread nD τ).loc main_arg4)) (y 0) (y 1) := by
  refine (dats m 0 c).arrAt_eq_of_covers 5 _ (by decide +kernel) fun t hf y => ?_
  obtain ⟨p, q, rfl⟩ : ∃ p q, y = ix2 p q := ⟨y 0, y 1, idx2 y⟩
  blk_simp
  rw [after0_5]
  refine (left m c t p q).trans ?_
  have e0 : (win0_5.blk t).view.emb (ix2 p q) 0 = row t p := Fin.ext (by
    show ((win0_5.blk t).view.emb (ix2 p q) 0).val = 512 * (t.val / 4) + p.val
    blk_simp [idx t] <;> try omega)
  have e1 : (win0_5.blk t).view.emb (ix2 p q) 1 = col t q := Fin.ext (by
    show ((win0_5.blk t).view.emb (ix2 p q) 1).val = 1024 * (t.val % 4) + q.val
    blk_simp [idx t] <;> try omega)
  rw [e0, e1]

end Cert.Outp

end
-- ==== Proof.OutpRef.lean ====
/- The output projection's reference at an index. -/
module

public import proofs.«01_k».proof.Proof.Gen.Reference4Ideal.Run
public import Idealize.ShloMosaic.Lib.Pointwise
public import proofs.«01_k».proof.Proof.OutpFold

@[expose] public section

set_option maxRecDepth 16384

noncomputable section

open Idealize.ShloMosaic Idealize.ShloMosaic.TcCoe Idealize.SL.Sem

namespace Cert.Outp

open Cert.Reference4Ideal Cert.Reference4Ideal.Gen Cert.Reference4Ideal.Value

section steps

variable (HY : FVec Ideal S4x4096x2048 .f32) (ML : FVec Ideal S4x4096x2048 .bf16) (W : FVec Ideal S1x4096x4096 .f32)
  (X : FVec Ideal S4x4096x4096 .f32) (MM : FVec Ideal S4x9x4096 .f32)

/-- The reference's values, a step at a time. -/
def tY : FVec Ideal S4x4096x4096 .f32 :=
  concatenate S4x4096x4096 2 [⟨S4x4096x2048, HY⟩, ⟨S4x4096x2048, (extf .f32 ML bitsLt_bf16_f32 : FVec Ideal S4x4096x2048 .f32)⟩] concatenates_S4x4096x2048_S4x4096x2048_S4x4096x4096_d2

def tZ (Y : FVec Ideal S4x4096x4096 .f32) : FVec Ideal S4x4096x4096 .f32 :=
  addf (mulf (broadcastInDim S4x4096x4096 ![] bcast_S_S4x4096x4096 (constant S_ .f32 0x3F9837F0#32)) X) (mulf (broadcastInDim S4x4096x4096 ![0, 1, 2] bcast_S4x1x4096_S4x4096x4096_0_1_2 (broadcastInDim S4x1x4096 ![0, 2] bcast_S4x4096_S4x1x4096_0_2 (shapeCast _ (extractStridedSlice S4x1x4096 ![0, 5, 0] MM slices_S4x9x4096_S4x1x4096_0_5_0) shapeCasts_S4x1x4096_S4x4096))) (Host.dotGeneral dot_S4x4096x4096_S4096x4096_S4x4096x4096_2_0_01_1_n_n none Y (shapeCast _ W shapeCasts_S1x4096x4096_S4096x4096)))

theorem tY_at (b : Fin 4) (s k : Fin 4096) : tY HY ML (ix3 b s k) = join (fun k => HY (ix3 b s k)) (fun k => ML (ix3 b s k)) k := by
  unfold join
  pointwise [tY]

theorem tZ_at (Y : FVec Ideal S4x4096x4096 .f32) (b : Fin 4) (s j : Fin 4096) :
    tZ W X MM Y (ix3 b s j) = comb (fun k => Y (ix3 b s k)) (fun k => W (ix3 0 k j)) (X (ix3 b s j)) (MM (ix3 b 5 j)) := by
  pointwise [tZ]
  rfl

theorem tR_eq : (shapeCast S16384x4096 (tZ W X MM (tY HY ML)) shapeCasts_S4x4096x4096_S16384x4096 : FVec Ideal S16384x4096 .f32)
    = fun i => out HY ML W X MM (i 0) (i 1) := by
  funext i
  obtain ⟨r, j, rfl⟩ : ∃ r j, i = ix2 r j := ⟨i 0, i 1, idx2 i⟩
  have e : (shapeCast S16384x4096 (tZ W X MM (tY HY ML)) shapeCasts_S4x4096x4096_S16384x4096 : FVec Ideal S16384x4096 .f32) (ix2 r j)
      = tZ W X MM (tY HY ML) (ix3 (bat r) (pos r) j) := by
    generalize tZ W X MM (tY HY ML) = v
    pointwise
    rfl
  rw [e, tZ_at, funext (tY_at HY ML (bat r) (pos r))]
  rfl

end steps

/-- The reference's array. -/
theorem ref {m : (ℓ : Loc nD τ sig) → Buf (Elt Ideal) ℓ} {c : Dev nD} {HY : FVec Ideal S4x4096x2048 .f32} {ML : FVec Ideal S4x4096x2048 .bf16}
    {W : FVec Ideal S1x4096x4096 .f32} {X : FVec Ideal S4x4096x4096 .f32} {MM : FVec Ideal S4x9x4096 .f32}
    (h0 : m ((c : Thread nD τ).loc main_arg0) = HY) (h1 : m ((c : Thread nD τ).loc main_arg1) = ML) (h2 : m ((c : Thread nD τ).loc main_arg2) = W)
    (h3 : m ((c : Thread nD τ).loc main_arg3) = X) (h4 : m ((c : Thread nD τ).loc main_arg4) = MM) :
    (shapeCast S16384x4096 (tZ (m ((c : Thread nD τ).loc main_arg2)) (m ((c : Thread nD τ).loc main_arg3)) (m ((c : Thread nD τ).loc main_arg4))
      (tY (m ((c : Thread nD τ).loc main_arg0)) (m ((c : Thread nD τ).loc main_arg1)))) shapeCasts_S4x4096x4096_S16384x4096 : FVec Ideal S16384x4096 .f32)
      = fun i : S16384x4096.Idx => out HY ML W X MM (i 0) (i 1) := by
  subst h0 h1 h2 h3 h4
  exact tR_eq _ _ _ _ _

end Cert.Outp

end
-- ==== Proof.MlMath.lean ====
/- The mathematics of the claim: the stabilised matrix-memory recurrence over one sequence of tokens, of real numbers,
   and what one chunk of any length makes of it. -/
module

public import Idealize.ShloMosaic.Lib.Pointwise

@[expose] public section

noncomputable section

open Idealize.ShloMosaic

namespace Cert.Mlstm

/-- One head's sequence: input gates, log forget gates, keys, queries and values by token. -/
structure Seq where
  ig : ℕ → ℝ
  lf : ℕ → ℝ
  k : ℕ → Fin 256 → ℝ
  q : ℕ → Fin 256 → ℝ
  v : ℕ → Fin 512 → ℝ

namespace Seq
variable (S : Seq)

/-- The sum of the first `n` log forget gates. -/
def F (n : ℕ) : ℝ := ∑ s ∈ Finset.range n, S.lf s
/-- Token `s`'s log weight, less the decay up to the reader. -/
def a (s : ℕ) : ℝ := S.ig s - S.F (s + 1)
/-- The running maximum of `0` and the log weights of the first `n` tokens. -/
def A : ℕ → ℝ
  | 0 => 0
  | n + 1 => max (A n) (S.a n)
/-- The stabiliser after `n` tokens. -/
def M (n : ℕ) : ℝ := S.F n + S.A n
/-- A column `w` of the stabilised memory after `n` tokens, at key coordinate `d`. -/
def acc (w : ℕ → ℝ) (n : ℕ) (d : Fin 256) : ℝ :=
  Real.exp (-S.A n) * ∑ s ∈ Finset.range n, Real.exp (S.a s) * (S.k s d * w s)
/-- Token `t`'s query against token `s`'s key. -/
def qk (t s : ℕ) : ℝ := ∑ d, S.q t d * S.k s d
/-- Token `t`'s stabilised reading of column `w`. -/
def rd (w : ℕ → ℝ) (t : ℕ) : ℝ :=
  Real.exp (-S.A (t + 1)) * ∑ s ∈ Finset.range (t + 1), Real.exp (S.a s) * (S.qk t s * w s)
/-- Token `t`'s output at value coordinate `e`. -/
def H (t : ℕ) (e : Fin 512) : ℝ :=
  S.rd (fun s => S.v s e) t / max |S.rd (fun _ => 1) t| (Real.exp (-S.M (t + 1)))
/-- Cumulative log forget gate inside a chunk that starts at token `n`, up to and with its token `j`. -/
def b (n j : ℕ) : ℝ := S.F (n + j + 1) - S.F n

theorem A_mono {n n' : ℕ} (h : n ≤ n') : S.A n ≤ S.A n' := by
  induction n', h using Nat.le_induction with
  | base => exact le_rfl
  | succ n' _ ih => exact ih.trans (le_max_left _ _)

theorem a_le {s n : ℕ} (h : s < n) : S.a s ≤ S.A n :=
  (le_max_right (S.A s) (S.a s)).trans (S.A_mono (n := s + 1) h)

theorem A_attained (n T : ℕ) : S.A (n + T) = S.A n ∨ ∃ s, s < T ∧ S.A (n + T) = S.a (n + s) := by
  induction T with
  | zero => exact .inl rfl
  | succ T ih =>
    rcases max_choice (S.A (n + T)) (S.a (n + T)) with h | h
    · rcases ih with h' | ⟨s, hs, h'⟩
      · exact .inl (h.trans h')
      · exact .inr ⟨s, by omega, h.trans h'⟩
    · exact .inr ⟨T, by omega, h⟩

theorem sum_chunk (f : ℕ → ℝ) (n T : ℕ) (σ : Fin T ≃ Fin T) :
    ∑ s ∈ Finset.range (n + T), f s = ∑ s ∈ Finset.range n, f s + ∑ p : Fin T, f (n + σ p) := by
  rw [Finset.sum_range_add, Finset.sum_range (fun x => f (n + x)),
    ← Equiv.sum_comp σ (fun i : Fin T => f (n + i))]

theorem sum_masked (f : ℕ → ℝ) {T : ℕ} (σ : Fin T ≃ Fin T) (j : Fin T) :
    ∑ p : Fin T, (if σ p ≤ σ j then f (σ p) else 0) = ∑ s ∈ Finset.range ((σ j : ℕ) + 1), f s := by
  rw [Equiv.sum_comp σ (fun i : Fin T => if i ≤ σ j then f i else 0)]
  have h : ∀ i : Fin T, (if i ≤ σ j then f i else 0) = (fun x : ℕ => if x ≤ (σ j : ℕ) then f x else 0) i := fun i => by
    simp only [Fin.le_def]
  rw [Finset.sum_congr rfl fun i _ => h i, ← Finset.sum_range (fun x : ℕ => if x ≤ (σ j : ℕ) then f x else 0), ← Finset.sum_filter]
  congr 1
  ext x
  have := (σ j).isLt
  simp only [Finset.mem_filter, Finset.mem_range]
  omega

theorem b_eq {T : ℕ} (n : ℕ) (σ : Fin T ≃ Fin T) (j : Fin T) :
    ∑ p : Fin T, (if σ p ≤ σ j then S.lf (n + σ p) else 0) = S.b n (σ j) := by
  rw [sum_masked (fun x => S.lf (n + x)) σ j, b, F, F, add_assoc n, Finset.sum_range_add _ n, add_sub_cancel_left]

theorem bend_eq {T : ℕ} (n : ℕ) (σ : Fin T ≃ Fin T) :
    ∑ p : Fin T, S.lf (n + σ p) = S.F (n + T) - S.F n := by
  rw [F, F, sum_chunk S.lf n T σ, add_sub_cancel_left]

/-- A column of the memory over one chunk. -/
theorem acc_step {T : ℕ} (n : ℕ) (σ : Fin T ≃ Fin T) (w : ℕ → ℝ) (d : Fin 256) :
    Real.exp (S.F (n + T) - S.F n + S.M n - S.M (n + T)) * S.acc w n d
      + ∑ p : Fin T, S.k (n + σ p) d
        * (w (n + σ p) * Real.exp (S.F (n + T) - S.F n - S.b n (σ p) + S.ig (n + σ p) - S.M (n + T)))
      = S.acc w (n + T) d := by
  have e1 : S.F (n + T) - S.F n + S.M n - S.M (n + T) = -S.A (n + T) + S.A n := by simp only [M]; ring
  have e2 : ∀ p : Fin T, S.F (n + T) - S.F n - S.b n (σ p) + S.ig (n + σ p) - S.M (n + T)
      = -S.A (n + T) + S.a (n + σ p) := fun p => by simp only [M, b, a]; ring
  rw [acc, acc, sum_chunk _ n T σ, e1, mul_add, Finset.mul_sum (s := Finset.univ), ← mul_assoc, ← Real.exp_add]
  congr 1
  · congr 2; ring
  · refine Finset.sum_congr rfl fun p _ => ?_
    rw [e2, Real.exp_add]; ring

/-- A query's reading of a column over one chunk: the chunk's own tokens, and the memory at the chunk's start. -/
theorem rd_step {T : ℕ} (n : ℕ) (σ : Fin T ≃ Fin T) (w : ℕ → ℝ) (j : Fin T) :
    ∑ p : Fin T, (if σ p ≤ σ j then S.qk (n + σ j) (n + σ p)
          * Real.exp (S.b n (σ j) - S.b n (σ p) + S.ig (n + σ p) - S.M (n + σ j + 1)) else 0) * w (n + σ p)
      + Real.exp (S.b n (σ j) + S.M n - S.M (n + σ j + 1)) * ∑ d, S.q (n + σ j) d * S.acc w n d
      = S.rd w (n + σ j) := by
  have e1 : S.b n (σ j) + S.M n - S.M (n + σ j + 1) = -S.A (n + σ j + 1) + S.A n := by simp only [M, b]; ring
  have e2 : ∀ p : Fin T, S.b n (σ j) - S.b n (σ p) + S.ig (n + σ p) - S.M (n + σ j + 1)
      = -S.A (n + σ j + 1) + S.a (n + σ p) := fun p => by simp only [M, b, a]; ring
  have e3 : ∑ d, S.q (n + σ j) d * S.acc w n d
      = Real.exp (-S.A n) * ∑ s ∈ Finset.range n, Real.exp (S.a s) * (S.qk (n + σ j) s * w s) := by
    simp only [acc, qk, Finset.mul_sum, Finset.sum_mul]
    rw [Finset.sum_comm]
    refine Finset.sum_congr rfl fun s _ => Finset.sum_congr rfl fun d _ => ?_
    ring
  have e4 : ∀ p : Fin T, (if σ p ≤ σ j then S.qk (n + σ j) (n + σ p)
          * Real.exp (S.b n (σ j) - S.b n (σ p) + S.ig (n + σ p) - S.M (n + σ j + 1)) else 0) * w (n + σ p)
      = if σ p ≤ σ j then (fun x : ℕ => Real.exp (-S.A (n + σ j + 1))
          * (Real.exp (S.a (n + x)) * (S.qk (n + σ j) (n + x) * w (n + x)))) (σ p) else 0 := fun p => by
    split
    · rw [e2, Real.exp_add]; ring
    · exact zero_mul _
  rw [Finset.sum_congr rfl fun p _ => e4 p, sum_masked (fun x : ℕ => Real.exp (-S.A (n + σ j + 1))
          * (Real.exp (S.a (n + x)) * (S.qk (n + σ j) (n + x) * w (n + x)))) σ j, e3, e1, rd, add_assoc n (σ j : ℕ) 1,
    Finset.sum_range_add _ n, mul_add, add_comm, ← Finset.mul_sum, ← mul_assoc, ← Real.exp_add, add_neg_cancel_right]

end Seq

/-! The same over the extended reals, where the programs' values live. -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert x s hx ih => rw [Finset.sum_insert hx, Finset.sum_insert hx, ih, EReal.coe_add]

theorem coe_max (x y : ℝ) : max (x : EReal) (y : EReal) = ((max x y : ℝ) : EReal) :=
  ((EReal.coe_strictMono.monotone.map_max (a := x) (b := y))).symm

theorem max_fold_eq {T : ℕ} (g : Fin T → EReal) (x r : EReal) (h1 : x ≤ r) (h2 : ∀ s, g s ≤ r)
    (h3 : r ≤ x ∨ ∃ s, r ≤ g s) : max x (Finset.univ.fold max ⊥ g) = r := by
  have hf : (Finset.univ.fold max ⊥ g : EReal) = Finset.univ.sup g := rfl
  rw [hf]
  refine le_antisymm (max_le h1 (Finset.sup_le fun s _ => h2 s)) ?_
  rcases h3 with h | ⟨s, h⟩
  · exact h.trans (le_max_left _ _)
  · exact h.trans ((Finset.le_sup (f := g) (Finset.mem_univ s)).trans (le_max_right _ _))

namespace Seq
variable (S : Seq)

theorem mnew_E {T : ℕ} (n : ℕ) (σ : Fin T ≃ Fin T) :
    max (((S.F (n + T) - S.F n : ℝ) : EReal) + ((S.M n : ℝ) : EReal))
      (Finset.univ.fold max ⊥ fun p : Fin T =>
        ((S.F (n + T) - S.F n : ℝ) : EReal) - ((S.b n (σ p) : ℝ) : EReal) + ((S.ig (n + σ p) : ℝ) : EReal))
      = ((S.M (n + T) : ℝ) : EReal) := by
  have e : ∀ p : Fin T, ((S.F (n + T) - S.F n : ℝ) : EReal) - ((S.b n (σ p) : ℝ) : EReal) + ((S.ig (n + σ p) : ℝ) : EReal)
      = ((S.F (n + T) + S.a (n + σ p) : ℝ) : EReal) := fun p => by
    rw [← EReal.coe_sub, ← EReal.coe_add]; congr 1; simp only [b, a]; ring
  refine max_fold_eq _ _ _ ?_ (fun p => ?_) ?_
  · rw [← EReal.coe_add, EReal.coe_le_coe_iff]; simp only [M]
    have := S.A_mono (Nat.le_add_right n T); linarith
  · rw [e, EReal.coe_le_coe_iff]; simp only [M]
    have := S.a_le (s := n + σ p) (n := n + T) (by have := (σ p).isLt; omega); linarith
  · rcases S.A_attained n T with h | ⟨s, hs, h⟩
    · left; rw [← EReal.coe_add, EReal.coe_le_coe_iff]; simp only [M, h]; linarith
    · right; refine ⟨σ.symm ⟨s, hs⟩, ?_⟩
      rw [e, EReal.coe_le_coe_iff]; simp only [M, h, Equiv.apply_symm_apply]; exact le_rfl

theorem mj_E {T : ℕ} (n : ℕ) (σ : Fin T ≃ Fin T) (j : Fin T) :
    max (((S.b n (σ j) : ℝ) : EReal) + ((S.M n : ℝ) : EReal))
      (Finset.univ.fold max ⊥ fun p : Fin T => if σ p ≤ σ j then
        ((S.b n (σ j) : ℝ) : EReal) - ((S.b n (σ p) : ℝ) : EReal) + ((S.ig (n + σ p) : ℝ) : EReal) else ⊥)
      = ((S.M (n + σ j + 1) : ℝ) : EReal) := by
  have e : ∀ p : Fin T, ((S.b n (σ j) : ℝ) : EReal) - ((S.b n (σ p) : ℝ) : EReal) + ((S.ig (n + σ p) : ℝ) : EReal)
      = ((S.F (n + σ j + 1) + S.a (n + σ p) : ℝ) : EReal) := fun p => by
    rw [← EReal.coe_sub, ← EReal.coe_add]; congr 1; simp only [b, a]; ring
  refine max_fold_eq _ _ _ ?_ (fun p => ?_) ?_
  · rw [← EReal.coe_add, EReal.coe_le_coe_iff]; simp only [M, b]
    have := S.A_mono (show n ≤ n + σ j + 1 by omega); linarith
  · split
    · rename_i hp
      rw [e, EReal.coe_le_coe_iff]; simp only [M]
      have := S.a_le (s := n + σ p) (n := n + σ j + 1) (by have := Fin.le_def.mp hp; omega); linarith
    · exact bot_le
  · rcases S.A_attained n (σ j + 1) with h | ⟨s, hs, h⟩
    · left; rw [← EReal.coe_add, EReal.coe_le_coe_iff]; simp only [M, b, ← add_assoc] at h ⊢; rw [h]; linarith
    · right
      have hsT : s < T := by have := (σ j).isLt; omega
      refine ⟨σ.symm ⟨s, hsT⟩, ?_⟩
      rw [Equiv.apply_symm_apply, if_pos (show (⟨s, hsT⟩ : Fin T) ≤ σ j from Fin.le_def.mpr (by show s ≤ (σ j : ℕ); omega))]
      have e' := e (σ.symm ⟨s, hsT⟩)
      rw [Equiv.apply_symm_apply] at e'
      rw [e', EReal.coe_le_coe_iff]; simp only [M, ← add_assoc] at h ⊢; rw [h]

/-- The weight of the chunk's token `p` in token `j`'s reading: nothing above the diagonal. -/
theorem wt_E {T : ℕ} (n : ℕ) (σ : Fin T ≃ Fin T) (j p : Fin T) (x : ℝ) :
    ((x : ℝ) : EReal) * Ideal.exp ((if σ p ≤ σ j then
        ((S.b n (σ j) : ℝ) : EReal) - ((S.b n (σ p) : ℝ) : EReal) + ((S.ig (n + σ p) : ℝ) : EReal) else ⊥)
          - ((S.M (n + σ j + 1) : ℝ) : EReal))
      = ((if σ p ≤ σ j then x * Real.exp (S.b n (σ j) - S.b n (σ p) + S.ig (n + σ p) - S.M (n + σ j + 1)) else 0 : ℝ) : EReal) := by
  split
  · rw [← EReal.coe_sub, ← EReal.coe_add, ← EReal.coe_sub, Ideal.exp_coe, ← EReal.coe_mul]
  · rw [EReal.bot_sub, Ideal.exp_bot, mul_zero, EReal.coe_zero]

theorem H_E (t : ℕ) (e : Fin 512) :
    Ideal.div ((S.rd (fun s => S.v s e) t : ℝ) : EReal)
      (max ((|S.rd (fun _ => 1) t| : ℝ) : EReal) (Ideal.exp (-((S.M (t + 1) : ℝ) : EReal)))) = ((S.H t e : ℝ) : EReal) := by
  rw [← EReal.coe_neg, Ideal.exp_coe, coe_max, H, Ideal.div, if_neg, ← EReal.coe_inv, ← EReal.coe_mul, div_eq_mul_inv]
  rw [← EReal.coe_zero, EReal.coe_eq_coe_iff]
  exact ne_of_gt ((Real.exp_pos _).trans_le (le_max_right _ _))

end Seq
end Cert.Mlstm

end
-- ==== Proof.MlHead.lean ====
/- One head's chunk in the kernel's body, as functions of the columns and blocks it reads, and what they are on a
   sequence of real numbers. -/
module

public import proofs.«01_k».proof.Proof.MlMath
public import proofs.«01_k».proof.Proof.Gen.Kernel5Ideal.Skeleton
public import Idealize.ShloMosaic.Lib.Pipeline.ValueKit

@[expose] public section

set_option maxRecDepth 16384

noncomputable section

open Idealize.ShloMosaic Idealize.ShloMosaic.TcCoe Idealize.SL.Sem
open Cert.Kernel5Ideal Cert.Kernel5Ideal.Gen

namespace Cert.Mlstm

/-- The stabiliser after the chunk. -/
def hM (bend : FVec Ideal S1x1 .f32) (brow igrow : FVec Ideal S1x256 .f32) (m : Vec Ideal S1x1x1 .f32) : FVec Ideal S1x1 .f32 :=
  maximumf (addf bend (shapeCast S1x1 m shapeCasts_S1x1x1_S1x1))
    (shapeCast S1x1 (multiReduction .maximumf [1] S1
      (addf (subf (broadcastTo S1x256 bend broadcasts_S1x1_S1x256) brow) igrow) 0xFF800000#32 reduces_S1x256_S1 (.inl rfl) rfl)
      shapeCasts_S1_S1x1)

/-- The values with the ones columns behind them. -/
def hV (v : Vec Ideal S1x256x512 .f32) : FVec Ideal S256x640 .bf16 :=
  concatenate S256x640 1 [⟨S256x512, truncf .bf16 (shapeCast S256x512 v shapeCasts_S1x256x512_S256x512) bitsLt_bf16_f32⟩,
    ⟨S256x128, k0_pay5⟩] concatenates_S256x512_S256x128_S256x640_d1

/-- The memory after the chunk. -/
def hC (k : Vec Ideal S1x256x256 .f32) (v : Vec Ideal S1x256x512 .f32) (bend : FVec Ideal S1x1 .f32)
    (bcol igcol : FVec Ideal S256x1 .f32) (m : Vec Ideal S1x1x1 .f32) (ct : Vec Ideal S1x256x640 .f32)
    (mn : FVec Ideal S1x1 .f32) : FVec Ideal S1x256x640 .f32 :=
  k0_pay129 (k0_pay128 (k0_pay115 k) (hV v) bend (shapeCast S1x1 m shapeCasts_S1x1x1_S1x1)
    (shapeCast S256x640 ct shapeCasts_S1x256x640_S256x640)
    (addf (subf (broadcastTo S256x1 bend broadcasts_S1x1_S256x1) bcol) igcol) mn)

/-- The chunk's outputs. -/
def hH (keep : IVec S256x256 1) (q k : Vec Ideal S1x256x256 .f32) (v : Vec Ideal S1x256x512 .f32)
    (bcol : FVec Ideal S256x1 .f32) (brow igrow : FVec Ideal S1x256 .f32) (m : Vec Ideal S1x1x1 .f32)
    (ct : Vec Ideal S1x256x640 .f32) : FVec Ideal S256x512 .f32 :=
  k0_pay127 keep (k0_pay115 k) (hV v) (k0_pay115 q) bcol igrow brow (shapeCast S1x1 m shapeCasts_S1x1x1_S1x1)
    (shapeCast S256x640 ct shapeCasts_S1x256x640_S256x640)
    (broadcastTo S256x256 bcol broadcasts_S256x1_S256x256)

theorem neg_inf : Ideal.ofBits .f32 0xFF800000#32 = ⊥ := by
  show Ideal.ieee 8 23 0xFF800000#32 = ⊥
  unfold Ideal.ieee
  simp

/-- The log of the logistic function of a real number, in the form both programs compute it. -/
def lsg (x : ℝ) : ℝ := 0 - (max (0 - x) 0 + Real.log (1 + Real.exp (0 - max (0 - x) (-(0 - x)))))

theorem log1p_exp (x : ℝ) : Ideal.log1p (Ideal.exp ((x : ℝ) : EReal)) = ((Real.log (1 + Real.exp x) : ℝ) : EReal) := by
  rw [Ideal.exp_coe, Ideal.log1p, ← EReal.coe_one, ← EReal.coe_add, Ideal.log_coe, if_neg]
  have := Real.exp_pos x
  linarith

theorem lsg_E (x : ℝ) : (0 : EReal) - (if (0 : EReal) - x ≠ 0 - x then 0 - (x : EReal)
    else max (0 - (x : EReal)) 0 + Ideal.log1p (Ideal.exp (0 - max (0 - (x : EReal)) (-(0 - (x : EReal)))))) = ((lsg x : ℝ) : EReal) := by
  rw [if_neg (fun h => h rfl)]
  have h0 : (0 : EReal) = ((0 : ℝ) : EReal) := rfl
  rw [h0, ← EReal.coe_sub, ← EReal.coe_neg, coe_max, coe_max, ← EReal.coe_sub, log1p_exp, ← EReal.coe_add, ← EReal.coe_sub, lsg]

theorem word_toInt (d : Fin 256) : (BitVec.ofNat 32 (d : ℕ)).toInt = (d : ℕ) := by
  have := d.isLt
  rw [BitVec.toInt_eq_toNat_of_lt (by rw [BitVec.toNat_ofNat]; omega), BitVec.toNat_ofNat, Nat.mod_eq_of_lt (by omega)]

theorem mask_of {c : BitVec 1} {p : Prop} [Decidable p] (h : c = 1#1 ↔ p) : c = if p then 1#1 else 0#1 := by
  split
  · exact h.mpr ‹_›
  · rcases BitVec.eq_zero_or_eq_one c with h' | h'
    · exact h'
    · exact absurd (h.mp h') ‹_›

theorem mask_sge (d e : Fin 256) : IntOp.cmpi .sge (BitVec.ofNat 32 (d : ℕ)) (BitVec.ofNat 32 (e : ℕ)) = if e ≤ d then 1#1 else 0#1 :=
  mask_of (by rw [IntOp.cmpi_sge, word_toInt, word_toInt, Fin.le_def]; omega)

theorem mask_sle (d e : Fin 256) : IntOp.cmpi .sle (BitVec.ofNat 32 (d : ℕ)) (BitVec.ofNat 32 (e : ℕ)) = if d ≤ e then 1#1 else 0#1 :=
  mask_of (by rw [IntOp.cmpi_sle, word_toInt, word_toInt, Fin.le_def]; omega)

theorem mask_real (p : Prop) [Decidable p] :
    FloatOps.sitofp (F := Ideal) FTy.f32 (BitVec.setWidth 32 (if p then 1#1 else 0#1)) = ((if p then 1 else 0 : ℝ) : EReal) := by
  split <;> simp [FloatOps.sitofp]

theorem select_mask {α : Type} (p : Prop) [Decidable p] (x y : α) : Scalar.select (if p then 1#1 else 0#1) x y = if p then x else y := by
  split <;> rfl

theorem absf_E (x : EReal) : FloatOps.absf (F := Ideal) (φ := .f32) x = max x (-x) := rfl

/-- The column of weights that column `e` of the kernel's memory carries: the values' own, ones behind them. -/
def Seq.wcol (S : Seq) (e : Fin 640) : ℕ → ℝ := if h : (e : ℕ) < 512 then (fun s => S.v s ⟨e, h⟩) else (fun _ => 1)

variable (S : Seq) (n : ℕ) (σ : Fin 256 ≃ Fin 256)

theorem hM_val (bend : FVec Ideal S1x1 .f32) (brow igrow : FVec Ideal S1x256 .f32) (m : Vec Ideal S1x1x1 .f32)
    (hbe : bend (ix2 0 0) = ((S.F (n + 256) - S.F n : ℝ) : EReal))
    (hbr : ∀ p : Fin 256, brow (ix2 0 p) = ((S.b n (σ p) : ℝ) : EReal))
    (hig : ∀ p : Fin 256, igrow (ix2 0 p) = ((S.ig (n + σ p) : ℝ) : EReal))
    (hm : m (ix3 0 0 0) = ((S.M n : ℝ) : EReal)) :
    hM bend brow igrow m (ix2 0 0) = ((S.M (n + 256) : ℝ) : EReal) := by
  pointwise [hM]
  simp only [hbe, hbr, hig, hm]
  rw [show Ideal.ofBits FTy.f32 4286578688#32 = ⊥ from neg_inf]
  exact S.mnew_E n σ

theorem hC_val (w : ℕ → ℝ) (k : Vec Ideal S1x256x256 .f32) (v : Vec Ideal S1x256x512 .f32) (bend : FVec Ideal S1x1 .f32)
    (bcol igcol : FVec Ideal S256x1 .f32) (m : Vec Ideal S1x1x1 .f32) (ct : Vec Ideal S1x256x640 .f32)
    (mn : FVec Ideal S1x1 .f32) (d : Fin 256) (e : Fin 640)
    (hbe : bend (ix2 0 0) = ((S.F (n + 256) - S.F n : ℝ) : EReal))
    (hbc : ∀ p : Fin 256, bcol (ix2 p 0) = ((S.b n (σ p) : ℝ) : EReal))
    (hic : ∀ p : Fin 256, igcol (ix2 p 0) = ((S.ig (n + σ p) : ℝ) : EReal))
    (hm : m (ix3 0 0 0) = ((S.M n : ℝ) : EReal))
    (hmn : mn (ix2 0 0) = ((S.M (n + 256) : ℝ) : EReal))
    (hk : ∀ p x : Fin 256, k (ix3 0 p x) = ((S.k (n + σ p) x : ℝ) : EReal))
    (hv : ∀ p : Fin 256, hV v (ix2 p e) = ((w (n + σ p) : ℝ) : EReal))
    (hct : ct (ix3 0 d e) = ((S.acc w n d : ℝ) : EReal)) :
    hC k v bend bcol igcol m ct mn (ix3 0 d e) = ((S.acc w (n + 256) d : ℝ) : EReal) := by
  pointwise [hC, k0_pay129, k0_pay128, k0_pay115]
  simp only [hbe, hbc, hic, hm, hmn, hk, hv, hct, ← EReal.coe_sub, ← EReal.coe_add, Ideal.exp_coe, ← EReal.coe_mul, coe_sum]
  rw [S.acc_step n σ w d]

theorem hH_val (keep : IVec S256x256 1) (q k : Vec Ideal S1x256x256 .f32) (v : Vec Ideal S1x256x512 .f32)
    (bcol : FVec Ideal S256x1 .f32) (brow igrow : FVec Ideal S1x256 .f32) (m : Vec Ideal S1x1x1 .f32)
    (ct : Vec Ideal S1x256x640 .f32) (j : Fin 256) (e : Fin 512)
    (hkeep : ∀ j p : Fin 256, keep (ix2 j p) = if σ p ≤ σ j then 1#1 else 0#1)
    (hbc : ∀ p : Fin 256, bcol (ix2 p 0) = ((S.b n (σ p) : ℝ) : EReal))
    (hbr : ∀ p : Fin 256, brow (ix2 0 p) = ((S.b n (σ p) : ℝ) : EReal))
    (hig : ∀ p : Fin 256, igrow (ix2 0 p) = ((S.ig (n + σ p) : ℝ) : EReal))
    (hm : m (ix3 0 0 0) = ((S.M n : ℝ) : EReal))
    (hq : ∀ p x : Fin 256, q (ix3 0 p x) = ((S.q (n + σ p) x : ℝ) : EReal))
    (hk : ∀ p x : Fin 256, k (ix3 0 p x) = ((S.k (n + σ p) x : ℝ) : EReal))
    (hv : ∀ (p : Fin 256) (e : Fin 640), hV v (ix2 p e)
      = (((if h : (e : ℕ) < 512 then S.v (n + σ p) ⟨e, h⟩ else 1) : ℝ) : EReal))
    (hct : ∀ (d : Fin 256) (e : Fin 640), ct (ix3 0 d e)
      = ((S.acc (if h : (e : ℕ) < 512 then (fun s => S.v s ⟨e, h⟩) else (fun _ => 1)) n d : ℝ) : EReal)) :
    hH keep q k v bcol brow igrow m ct (ix2 j e) = ((S.H (n + σ j) e : ℝ) : EReal) := by
  pointwise [hH, k0_pay127, k0_pay115]
  simp only [hkeep, hbc, hbr, hig, hm, hq, hk, hv, hct]
  rw [show Ideal.ofBits FTy.f32 4286578688#32 = ⊥ from neg_inf]
  simp only [select_mask, absf_E, zero_sub]
  rw [← S.H_E (n + σ j) e, ← S.rd_step n σ (fun s => S.v s e) j, ← S.rd_step n σ (fun _ => 1) j]
  have hmj := S.mj_E n σ j
  simp only [hmj]
  have he : (e : ℕ) < 512 := e.isLt
  have hq' : ∀ x : Fin 256, ∑ y : Fin 256, ((S.q (n + σ j) y : ℝ) : EReal) * ((S.k (n + σ x) y : ℝ) : EReal)
      = ((S.qk (n + σ j) (n + σ x) : ℝ) : EReal) := fun x => by
    simp only [← EReal.coe_mul, coe_sum]; rfl
  simp only [hq', S.wt_E n σ j, dif_pos he]
  have h512 : ¬ (((512 : Fin 640) : ℕ) < 512) := by decide
  simp only [dif_neg h512, ← EReal.coe_sub, ← EReal.coe_add, Ideal.exp_coe, ← EReal.coe_mul, coe_sum, ← EReal.coe_neg, coe_max, abs]

theorem hV_val (v : Vec Ideal S1x256x512 .f32)
    (hv : ∀ (p : Fin 256) (e : Fin 512), v (ix3 0 p e) = ((S.v (n + σ p) e : ℝ) : EReal)) (p : Fin 256) (e : Fin 640) :
    hV v (ix2 p e) = (((if h : (e : ℕ) < 512 then S.v (n + σ p) ⟨e, h⟩ else 1) : ℝ) : EReal) := by
  pointwise [hV, k0_pay5]
  split
  · exact hv p _
  · exact EReal.coe_one.symm

theorem lower_val (d e : Fin 256) : k0_pay1 (ix2 d e) = if e ≤ d then 1#1 else 0#1 := by
  pointwise [k0_pay1]
  exact mask_sge d e
theorem upper_val (d e : Fin 256) : k0_pay2 (ix2 d e) = if d ≤ e then 1#1 else 0#1 := by
  pointwise [k0_pay2]
  exact mask_sle d e

theorem trilo_val (d e : Fin 256) : k0_pay3 (F := Ideal) (ix2 d e) = ((if e ≤ d then 1 else 0 : ℝ) : EReal) := by
  pointwise [k0_pay3]
  rw [lower_val]
  exact mask_real _
theorem triup_val (d e : Fin 256) : k0_pay4 (F := Ideal) (ix2 d e) = ((if d ≤ e then 1 else 0 : ℝ) : EReal) := by
  pointwise [k0_pay4]
  rw [upper_val]
  exact mask_real _

/-! The gates' columns and rows over one chunk. -/

def bC (tc : FVec Ideal S256x256 .f32) (g : Vec Ideal S1x256x128 .f32) (bi : Vec Ideal S1x16 .f32) : FVec Ideal S256x16 .f32 :=
  k0_pay112 tc (k0_pay107 g bi) (k0_pay109 g bi) (k0_pay110 g bi) (k0_pay111 g bi)
def bR (tr : FVec Ideal S256x256 .f32) (gt : Vec Ideal S1x16x256 .f32) (bt : Vec Ideal S16x1 .f32) : FVec Ideal S16x256 .f32 :=
  k0_pay113 tr (k0_pay105 gt bt)
def bE (gt : Vec Ideal S1x16x256 .f32) (bt : Vec Ideal S16x1 .f32) : FVec Ideal S16x1 .f32 :=
  k0_pay114 (k0_pay105 gt bt)

theorem lft_val (gt : Vec Ideal S1x16x256 .f32) (bt : Vec Ideal S16x1 .f32) (c : Fin 16) (p : Fin 256) (x : ℝ)
    (h : k0_pay104 gt bt (ix2 c p) = (x : EReal)) : k0_pay105 gt bt (ix2 c p) = ((lsg x : ℝ) : EReal) := by
  pointwise [k0_pay105]
  simp only [h, absf_E]
  exact lsg_E x

theorem bC_val (tc : FVec Ideal S256x256 .f32) (g : Vec Ideal S1x256x128 .f32) (bi : Vec Ideal S1x16 .f32) (c : Fin 16) (x : ℕ → ℝ)
    (ht : ∀ j p : Fin 256, tc (ix2 j p) = ((if σ p ≤ σ j then 1 else 0 : ℝ) : EReal))
    (hx : ∀ s, S.lf s = lsg (x s))
    (hg : ∀ p : Fin 256, k0_pay103 g bi (ix2 p c) = ((x (n + σ p) : ℝ) : EReal)) (j : Fin 256) :
    bC tc g bi (ix2 j c) = ((S.b n (σ j) : ℝ) : EReal) := by
  pointwise [bC, k0_pay112, k0_pay107, k0_pay109, k0_pay110, k0_pay111, k0_pay106,k0_pay108]
  simp only [hg, absf_E, lsg_E, ht, ← EReal.coe_mul, coe_sum, ← hx]
  rw [← S.b_eq n σ j]
  simp only [ite_mul, one_mul, zero_mul]

theorem bR_val (tr : FVec Ideal S256x256 .f32) (gt : Vec Ideal S1x16x256 .f32) (bt : Vec Ideal S16x1 .f32) (c : Fin 16) (x : ℕ → ℝ)
    (ht : ∀ j p : Fin 256, tr (ix2 p j) = ((if σ p ≤ σ j then 1 else 0 : ℝ) : EReal))
    (hx : ∀ s, S.lf s = lsg (x s))
    (hg : ∀ p : Fin 256, k0_pay104 gt bt (ix2 c p) = ((x (n + σ p) : ℝ) : EReal)) (j : Fin 256) :
    bR tr gt bt (ix2 c j) = ((S.b n (σ j) : ℝ) : EReal) := by
  have h := fun p => lft_val gt bt c p _ (hg p)
  pointwise [bR, k0_pay113]
  simp only [h, ht, ← EReal.coe_mul, coe_sum, ← hx]
  rw [← S.b_eq n σ j]
  simp only [mul_ite, mul_one, mul_zero]

theorem bE_val (gt : Vec Ideal S1x16x256 .f32) (bt : Vec Ideal S16x1 .f32) (c : Fin 16) (x : ℕ → ℝ)
    (hx : ∀ s, S.lf s = lsg (x s))
    (hg : ∀ p : Fin 256, k0_pay104 gt bt (ix2 c p) = ((x (n + σ p) : ℝ) : EReal)) :
    bE gt bt (ix2 c 0) = ((S.F (n + 256) - S.F n : ℝ) : EReal) := by
  have h := fun p => lft_val gt bt c p _ (hg p)
  pointwise [bE, k0_pay114]
  simp only [h, coe_sum, ← hx]
  rw [S.bend_eq n σ]

/-! The head's columns and rows of them. -/

def colOf (c : ℕ) (x : FVec Ideal S256x16 .f32) (h : S256x16.Slices ![0, c] S256x1) : FVec Ideal S256x1 .f32 :=
  extractStridedSlice S256x1 ![0, c] x h
def rowOf (c : ℕ) (x : FVec Ideal S16x256 .f32) (h : S16x256.Slices ![c, 0] S1x256) : FVec Ideal S1x256 .f32 :=
  extractStridedSlice S1x256 ![c, 0] x h
def endOf (c : ℕ) (x : FVec Ideal S16x1 .f32) (h : S16x1.Slices ![c, 0] S1x1) : FVec Ideal S1x1 .f32 :=
  extractStridedSlice S1x1 ![c, 0] x h

theorem colOf_val (c : ℕ) (hc : c < 16) (x : FVec Ideal S256x16 .f32) (h) (p : Fin 256) :
    colOf c x h (ix2 p 0) = x (ix2 p ⟨c, hc⟩) := by
  pointwise [colOf]
theorem rowOf_val (c : ℕ) (hc : c < 16) (x : FVec Ideal S16x256 .f32) (h) (p : Fin 256) :
    rowOf c x h (ix2 0 p) = x (ix2 ⟨c, hc⟩ p) := by
  pointwise [rowOf]
theorem endOf_val (c : ℕ) (hc : c < 16) (x : FVec Ideal S16x1 .f32) (h) :
    endOf c x h (ix2 0 0) = x (ix2 ⟨c, hc⟩ 0) := by
  pointwise [endOf]

/-- What one head reads at the start of a chunk, of the sequence `S` from token `n` on, its lines in the order `σ`. -/
structure HIn (tc tr : FVec Ideal S256x256 .f32) (g : Vec Ideal S1x256x128 .f32) (gt : Vec Ideal S1x16x256 .f32)
    (bi : Vec Ideal S1x16 .f32) (bt : Vec Ideal S16x1 .f32) (ci cf : ℕ) (hi : ci < 16) (hf : cf < 16)
    (k : Vec Ideal S1x256x256 .f32) (v : Vec Ideal S1x256x512 .f32) (m : Vec Ideal S1x1x1 .f32)
    (ct : Vec Ideal S1x256x640 .f32) : Prop where
  tc : ∀ j p : Fin 256, tc (ix2 j p) = ((if σ p ≤ σ j then 1 else 0 : ℝ) : EReal)
  tr : ∀ j p : Fin 256, tr (ix2 p j) = ((if σ p ≤ σ j then 1 else 0 : ℝ) : EReal)
  igc : ∀ p : Fin 256, k0_pay103 g bi (ix2 p ⟨ci, hi⟩) = ((S.ig (n + σ p) : ℝ) : EReal)
  igr : ∀ p : Fin 256, k0_pay104 gt bt (ix2 ⟨ci, hi⟩ p) = ((S.ig (n + σ p) : ℝ) : EReal)
  lf : ∃ x : ℕ → ℝ, (∀ s, S.lf s = lsg (x s))
    ∧ (∀ p : Fin 256, k0_pay103 g bi (ix2 p ⟨cf, hf⟩) = ((x (n + σ p) : ℝ) : EReal))
    ∧ (∀ p : Fin 256, k0_pay104 gt bt (ix2 ⟨cf, hf⟩ p) = ((x (n + σ p) : ℝ) : EReal))
  k : ∀ p x : Fin 256, k (ix3 0 p x) = ((S.k (n + σ p) x : ℝ) : EReal)
  v : ∀ (p : Fin 256) (e : Fin 512), v (ix3 0 p e) = ((S.v (n + σ p) e : ℝ) : EReal)
  m : m (ix3 0 0 0) = ((S.M n : ℝ) : EReal)
  ct : ∀ (d : Fin 256) (e : Fin 640), ct (ix3 0 d e) = ((S.acc (S.wcol e) n d : ℝ) : EReal)

variable {S n σ}
variable {tc tr : FVec Ideal S256x256 .f32} {g : Vec Ideal S1x256x128 .f32} {gt : Vec Ideal S1x16x256 .f32}
    {bi : Vec Ideal S1x16 .f32} {bt : Vec Ideal S16x1 .f32} {ci cf : ℕ} {hi : ci < 16} {hf : cf < 16}
    {k : Vec Ideal S1x256x256 .f32} {v : Vec Ideal S1x256x512 .f32} {m : Vec Ideal S1x1x1 .f32}
    {ct : Vec Ideal S1x256x640 .f32} (I : HIn S n σ tc tr g gt bi bt ci cf hi hf k v m ct)
include I

theorem HIn.end_ (h) : endOf cf (bE gt bt) h (ix2 0 0) = ((S.F (n + 256) - S.F n : ℝ) : EReal) := by
  obtain ⟨x, hx, -, hr⟩ := I.lf
  rw [endOf_val cf hf, bE_val S n σ gt bt _ x hx hr]
theorem HIn.bcol (h) (p : Fin 256) : colOf cf (bC tc g bi) h (ix2 p 0) = ((S.b n (σ p) : ℝ) : EReal) := by
  obtain ⟨x, hx, hc, -⟩ := I.lf
  rw [colOf_val cf hf, bC_val S n σ tc g bi _ x I.tc hx hc]
theorem HIn.brow (h) (p : Fin 256) : rowOf cf (bR tr gt bt) h (ix2 0 p) = ((S.b n (σ p) : ℝ) : EReal) := by
  obtain ⟨x, hx, -, hr⟩ := I.lf
  rw [rowOf_val cf hf, bR_val S n σ tr gt bt _ x I.tr hx hr]

theorem HIn.M_val (h1 h2 h3) (a b c : Fin 1) :
    shapeCast S1x1x1 (hM (endOf cf (bE gt bt) h1) (rowOf cf (bR tr gt bt) h2) (rowOf ci (k0_pay104 gt bt) h3) m)
      shapeCasts_S1x1_S1x1x1 (ix3 a b c) = ((S.M (n + 256) : ℝ) : EReal) := by
  have h := hM_val S n σ _ _ _ m (I.end_ h1) (I.brow h2) (fun p => (rowOf_val ci hi _ h3 p).trans (I.igr p)) I.m
  pointwise
  exact h

theorem HIn.C_val (h1 h2 h3 h4 h5) (a : Fin 1) (d : Fin 256) (e : Fin 640) :
    hC k v (endOf cf (bE gt bt) h1) (colOf cf (bC tc g bi) h2) (colOf ci (k0_pay103 g bi) h3) m ct
      (hM (endOf cf (bE gt bt) h1) (rowOf cf (bR tr gt bt) h4) (rowOf ci (k0_pay104 gt bt) h5) m) (ix3 a d e)
      = ((S.acc (S.wcol e) (n + 256) d : ℝ) : EReal) := by
  have h := hM_val S n σ _ _ _ m (I.end_ h1) (I.brow h4) (fun p => (rowOf_val ci hi _ h5 p).trans (I.igr p)) I.m
  rw [Subsingleton.elim a 0]
  refine hC_val S n σ (S.wcol e) k v _ _ _ m ct _ d e (I.end_ h1) (I.bcol h2)
    (fun p => (colOf_val ci hi _ h3 p).trans (I.igc p)) I.m h I.k (fun p => ?_) (I.ct d e)
  rw [hV_val S n σ v I.v, Seq.wcol]
  split <;> rfl

theorem HIn.H_val (keep : IVec S256x256 1) (q : Vec Ideal S1x256x256 .f32)
    (hkeep : ∀ j p : Fin 256, keep (ix2 j p) = if σ p ≤ σ j then 1#1 else 0#1)
    (hq : ∀ p x : Fin 256, q (ix3 0 p x) = ((S.q (n + σ p) x : ℝ) : EReal)) (h2 h4 h5)
    (a : Fin 1) (j : Fin 256) (e : Fin 512) :
    shapeCast S1x256x512 (hH keep q k v (colOf cf (bC tc g bi) h2) (rowOf cf (bR tr gt bt) h4)
      (rowOf ci (k0_pay104 gt bt) h5) m ct) shapeCasts_S256x512_S1x256x512 (ix3 a j e) = ((S.H (n + σ j) e : ℝ) : EReal) := by
  have h := hH_val S n σ keep q k v _ _ _ m ct j e hkeep (I.bcol h2) (I.brow h4)
    (fun p => (rowOf_val ci hi _ h5 p).trans (I.igr p)) I.m hq I.k (hV_val S n σ v I.v) I.ct
  pointwise
  exact h

end Cert.Mlstm

end
-- ==== Proof.MlIns.lean ====
/- The sequences the layer's arguments make: one for each direction, batch and head. -/
module

public import proofs.«01_k».proof.Proof.MlHead

@[expose] public section

set_option maxRecDepth 16384

noncomputable section

open Idealize.ShloMosaic

namespace Cert.Mlstm

/-- The arguments as real numbers: the latent and context projections and gates, and the gates' bias. -/
structure Ins where
  P : ℕ → ℕ → ℕ → ℝ
  G : ℕ → ℕ → ℕ → ℝ
  PC : ℕ → ℕ → ℕ → ℝ
  GC : ℕ → ℕ → ℕ → ℝ
  B : ℕ → ℝ

namespace Ins
variable (X : Ins)

/-- Where token `n` of direction `d` lies: among the context's 256 lines, or among the latent's 4096. -/
def cpos (d n : ℕ) : ℕ := if d = 0 then n else 255 - n
def lpos (d n : ℕ) : ℕ := if d = 0 then n - 256 else 4351 - n

/-- A gate's value at token `n`. -/
def gate (d b n c : ℕ) : ℝ := (if n < 256 then X.GC b (cpos d n) c else X.G b (lpos d n) c) + X.B c

/-- The sequence of direction `d`, batch `b`, head `h`: the context's tokens, then the latent's, each flipped in
    direction 1. The context asks nothing. -/
def seq (d b h : ℕ) : Seq where
  ig n := X.gate d b n (8 * d + h)
  lf n := lsg (X.gate d b n (8 * d + 4 + h))
  k n x := if n < 256 then X.PC b (cpos d n) (2048 + (256 * h + x)) else X.P b (lpos d n) (9216 + (256 * h + x))
  q n x := if n < 256 then 0 else X.P b (lpos d n) (6144 + (256 * h + x))
  v n e := if n < 256 then X.PC b (cpos d n) (512 * h + e) else X.P b (lpos d n) (10240 + (512 * h + e))

end Ins
end Cert.Mlstm

end
-- ==== Proof.MlBlk.lean ====
/- One grid point of the kernel: what its blocks hold of the sequences, and each head's chunk from them. -/
module

public import proofs.«01_k».proof.Proof.MlIns

@[expose] public section

set_option maxRecDepth 16384

noncomputable section

open Idealize.ShloMosaic Idealize.ShloMosaic.TcCoe Idealize.SL.Sem
open Cert.Kernel5Ideal Cert.Kernel5Ideal.Gen

namespace Cert.Mlstm

/-- The order of a chunk's lines in direction `d`. -/
def ord (d : ℕ) : Fin 256 ≃ Fin 256 := if d = 0 then Equiv.refl _ else Fin.revPerm

theorem ord_le (d : ℕ) (p j : Fin 256) : ord d p ≤ ord d j ↔ (if d = 0 then p ≤ j else j ≤ p) := by
  unfold ord
  split
  · exact Iff.rfl
  · exact Fin.rev_le_rev

/-- What a grid point reads for direction `d` at chunk `i` of batch `b`: `xk`, `xv`, `g`, `gt` the chunk's blocks, `mp` and
   `cp` what the chunk before left. -/
structure Blk (X : Ins) (d b i : ℕ) (g : Vec Ideal S1x256x128 .f32) (gt : Vec Ideal S1x16x256 .f32)
    (bi : Vec Ideal S1x16 .f32) (bt : Vec Ideal S16x1 .f32) (xk : Vec Ideal S1x256x1024 .f32) (xv : Vec Ideal S1x256x2048 .f32)
    (mp : Vec Ideal S8x1x1 .f32) (cp : Vec Ideal S8x256x640 .f32) : Prop where
  gc : ∀ (p : Fin 256) (c : Fin 16), k0_pay103 g bi (ix2 p c) = ((X.gate d b (256 * i + ord d p) c : ℝ) : EReal)
  gr : ∀ (p : Fin 256) (c : Fin 16), k0_pay104 gt bt (ix2 c p) = ((X.gate d b (256 * i + ord d p) c : ℝ) : EReal)
  k : ∀ (h : ℕ) (p x : Fin 256) (y : Fin 1024), (y : ℕ) = 256 * h + x → h < 4 →
    xk (ix3 0 p y) = (((X.seq d b h).k (256 * i + ord d p) x : ℝ) : EReal)
  v : ∀ (h : ℕ) (p : Fin 256) (e : Fin 512) (y : Fin 2048), (y : ℕ) = 512 * h + e → h < 4 →
    xv (ix3 0 p y) = (((X.seq d b h).v (256 * i + ord d p) e : ℝ) : EReal)
  m : ∀ (h : ℕ) (y : Fin 8), (y : ℕ) = 4 * d + h → h < 4 → mp (ix3 y 0 0) = (((X.seq d b h).M (256 * i) : ℝ) : EReal)
  c : ∀ (h : ℕ) (y : Fin 8) (x : Fin 256) (e : Fin 640), (y : ℕ) = 4 * d + h → h < 4 →
    cp (ix3 y x e) = (((X.seq d b h).acc ((X.seq d b h).wcol e) (256 * i) x : ℝ) : EReal)

variable {X : Ins} {d b i : ℕ} {g : Vec Ideal S1x256x128 .f32} {gt : Vec Ideal S1x16x256 .f32}
    {bi : Vec Ideal S1x16 .f32} {bt : Vec Ideal S16x1 .f32} {xk : Vec Ideal S1x256x1024 .f32} {xv : Vec Ideal S1x256x2048 .f32}
    {mp : Vec Ideal S8x1x1 .f32} {cp : Vec Ideal S8x256x640 .f32}

/-- The triangles of direction `d`. -/
def tcol (d : ℕ) : FVec Ideal S256x256 .f32 := if d = 0 then k0_pay3 else k0_pay4
def trow (d : ℕ) : FVec Ideal S256x256 .f32 := if d = 0 then k0_pay4 else k0_pay3
def tkeep (d : ℕ) : IVec S256x256 1 := if d = 0 then k0_pay1 else k0_pay2

theorem tcol_val (d : ℕ) (j p : Fin 256) : tcol d (ix2 j p) = ((if ord d p ≤ ord d j then 1 else 0 : ℝ) : EReal) := by
  simp only [ord_le]; unfold tcol
  by_cases h : d = 0
  · simp only [if_pos h]; exact trilo_val j p
  · simp only [if_neg h]; exact triup_val j p
theorem trow_val (d : ℕ) (j p : Fin 256) : trow d (ix2 p j) = ((if ord d p ≤ ord d j then 1 else 0 : ℝ) : EReal) := by
  simp only [ord_le]; unfold trow
  by_cases h : d = 0
  · simp only [if_pos h]; exact triup_val p j
  · simp only [if_neg h]; exact trilo_val p j
theorem tkeep_val (d : ℕ) (j p : Fin 256) : tkeep d (ix2 j p) = if ord d p ≤ ord d j then 1#1 else 0#1 := by
  simp only [ord_le]; unfold tkeep
  by_cases h : d = 0
  · simp only [if_pos h]; exact lower_val j p
  · simp only [if_neg h]; exact upper_val j p

theorem inbk (h : ℕ) (hh : h < 4) : ∀ a, (![0, 0, 256 * h] : Fin 3 → ℕ) a + (![1, 256, 256] : Fin 3 → ℕ) a ≤ S1x256x1024.size a := by
  intro a; fin_cases a
  · exact Nat.le_refl 1
  · exact Nat.le_refl 256
  · show 256 * h + 256 ≤ 1024
    omega
theorem inbv (h : ℕ) (hh : h < 4) : ∀ a, (![0, 0, 512 * h] : Fin 3 → ℕ) a + (![1, 256, 512] : Fin 3 → ℕ) a ≤ S1x256x2048.size a := by
  intro a; fin_cases a
  · exact Nat.le_refl 1
  · exact Nat.le_refl 256
  · show 512 * h + 512 ≤ 2048
    omega
theorem inbm (j : ℕ) (hj : j < 8) : ∀ a, (![j, 0, 0] : Fin 3 → ℕ) a + (![1, 1, 1] : Fin 3 → ℕ) a ≤ S8x1x1.size a := by
  intro a; fin_cases a
  · show j + 1 ≤ 8
    omega
  · exact Nat.le_refl 1
  · exact Nat.le_refl 1
theorem inbc (j : ℕ) (hj : j < 8) : ∀ a, (![j, 0, 0] : Fin 3 → ℕ) a + (![1, 256, 640] : Fin 3 → ℕ) a ≤ S8x256x640.size a := by
  intro a; fin_cases a
  · show j + 1 ≤ 8
    omega
  · exact Nat.le_refl 256
  · exact Nat.le_refl 640

def ldk (xk : Vec Ideal S1x256x1024 .f32) (h : ℕ) (hh : h < 4) : Vec Ideal S1x256x256 .f32 :=
  View.ld xk (Rect.unit ![0, 0, 256 * h] ![1, 256, 256] (inbk h hh))
def ldv (xv : Vec Ideal S1x256x2048 .f32) (h : ℕ) (hh : h < 4) : Vec Ideal S1x256x512 .f32 :=
  View.ld xv (Rect.unit ![0, 0, 512 * h] ![1, 256, 512] (inbv h hh))
def ldm (mp : Vec Ideal S8x1x1 .f32) (j : ℕ) (hj : j < 8) : Vec Ideal S1x1x1 .f32 :=
  View.ld mp (Rect.unit ![j, 0, 0] ![1, 1, 1] (inbm j hj))
def ldc (cp : Vec Ideal S8x256x640 .f32) (j : ℕ) (hj : j < 8) : Vec Ideal S1x256x640 .f32 :=
  View.ld cp (Rect.unit ![j, 0, 0] ![1, 256, 640] (inbc j hj))

theorem ldk_val (h : ℕ) (hh : h < 4) (p x : Fin 256) :
    ldk xk h hh (ix3 0 p x) = xk (ix3 0 p ⟨256 * h + x, by omega⟩) := by
  show xk (Rect.emb _ _) = _
  blk_ext
theorem ldv_val (h : ℕ) (hh : h < 4) (p : Fin 256) (e : Fin 512) :
    ldv xv h hh (ix3 0 p e) = xv (ix3 0 p ⟨512 * h + e, by omega⟩) := by
  show xv (Rect.emb _ _) = _
  blk_ext
theorem ldm_val (j : ℕ) (hj : j < 8) : ldm mp j hj (ix3 0 0 0) = mp (ix3 ⟨j, hj⟩ 0 0) := by
  show mp (Rect.emb _ _) = _
  blk_ext
theorem ldc_val (j : ℕ) (hj : j < 8) (x : Fin 256) (e : Fin 640) : ldc cp j hj (ix3 0 x e) = cp (ix3 ⟨j, hj⟩ x e) := by
  show cp (Rect.emb _ _) = _
  blk_ext

theorem Blk.hin (B : Blk X d b i g gt bi bt xk xv mp cp) (h : ℕ) (hh : h < 4) (hd : d < 2) :
    HIn (X.seq d b h) (256 * i) (ord d) (tcol d) (trow d) g gt bi bt (8 * d + h) (8 * d + 4 + h) (by omega) (by omega)
      (ldk xk h hh) (ldv xv h hh) (ldm mp (4 * d + h) (by omega)) (ldc cp (4 * d + h) (by omega)) where
  tc := tcol_val d
  tr := trow_val d
  igc p := B.gc p _
  igr p := B.gr p _
  lf := ⟨fun s => X.gate d b s (8 * d + 4 + h), fun s => rfl, fun p => B.gc p _, fun p => B.gr p _⟩
  k p x := (ldk_val h hh p x).trans (B.k h p x _ rfl hh)
  v p e := (ldv_val h hh p e).trans (B.v h p e _ rfl hh)
  m := (ldm_val _ _).trans (B.m h _ rfl hh)
  ct x e := (ldc_val _ _ x e).trans (B.c h _ x e rfl hh)

/-! What a grid point leaves: the memories, the stabilisers and the outputs. -/

def cT (X : Ins) (b n : ℕ) (y : S8x256x640.Idx) : EReal :=
  (((X.seq ((y 0 : ℕ) / 4) b ((y 0 : ℕ) % 4)).acc ((X.seq ((y 0 : ℕ) / 4) b ((y 0 : ℕ) % 4)).wcol (y 2)) n (y 1) : ℝ) : EReal)
def mT (X : Ins) (b n : ℕ) (y : S8x1x1.Idx) : EReal :=
  (((X.seq ((y 0 : ℕ) / 4) b ((y 0 : ℕ) % 4)).M n : ℝ) : EReal)
def hT (X : Ins) (d b n : ℕ) (y : S1x256x2048.Idx) : EReal :=
  (((X.seq d b ((y 2 : ℕ) / 512)).H (n + ord d (y 1)) ⟨(y 2 : ℕ) % 512, Nat.mod_lt _ (by decide)⟩ : ℝ) : EReal)

theorem Blk.c_at (B : Blk X d b i g gt bi bt xk xv mp cp) (h : ℕ) (hh : h < 4) (hd : d < 2) (h1 h2 h3 h4 h5)
    (x : S1x256x640.Idx) (y : S8x256x640.Idx) (e0 : (y 0 : ℕ) = 4 * d + h) (e1 : (y 1 : ℕ) = x 1) (e2 : (y 2 : ℕ) = x 2) :
    hC (ldk xk h hh) (ldv xv h hh) (endOf (8 * d + 4 + h) (bE gt bt) h1) (colOf (8 * d + 4 + h) (bC (tcol d) g bi) h2)
      (colOf (8 * d + h) (k0_pay103 g bi) h3) (ldm mp (4 * d + h) (by omega)) (ldc cp (4 * d + h) (by omega))
      (hM (endOf (8 * d + 4 + h) (bE gt bt) h1) (rowOf (8 * d + 4 + h) (bR (trow d) gt bt) h4)
        (rowOf (8 * d + h) (k0_pay104 gt bt) h5) (ldm mp (4 * d + h) (by omega))) x = cT X b (256 * i + 256) y := by
  have e := (B.hin h hh hd).C_val h1 h2 h3 h4 h5 (x 0) (x 1) (x 2)
  rw [← eq_ix3 x] at e
  rw [e, cT, show (y 0 : ℕ) / 4 = d by omega, show (y 0 : ℕ) % 4 = h by omega, show y 1 = x 1 from Fin.ext e1,
    show y 2 = x 2 from Fin.ext e2]

theorem Blk.m_at (B : Blk X d b i g gt bi bt xk xv mp cp) (h : ℕ) (hh : h < 4) (hd : d < 2) (h1 h2 h3)
    (x : S1x1x1.Idx) (y : S8x1x1.Idx) (e0 : (y 0 : ℕ) = 4 * d + h) :
    shapeCast S1x1x1 (hM (endOf (8 * d + 4 + h) (bE gt bt) h1) (rowOf (8 * d + 4 + h) (bR (trow d) gt bt) h2)
        (rowOf (8 * d + h) (k0_pay104 gt bt) h3) (ldm mp (4 * d + h) (by omega))) shapeCasts_S1x1_S1x1x1 x
      = mT X b (256 * i + 256) y := by
  have e := (B.hin h hh hd).M_val h1 h2 h3 (x 0) (x 1) (x 2)
  rw [← eq_ix3 x] at e
  rw [e, mT, show (y 0 : ℕ) / 4 = d by omega, show (y 0 : ℕ) % 4 = h by omega]

theorem Blk.h_at (B : Blk X d b i g gt bi bt xk xv mp cp) (h : ℕ) (hh : h < 4) (hd : d < 2) (xq : Vec Ideal S1x256x1024 .f32)
    (hq : ∀ (h : ℕ) (p x : Fin 256) (y : Fin 1024), (y : ℕ) = 256 * h + x → h < 4 →
      xq (ix3 0 p y) = (((X.seq d b h).q (256 * i + ord d p) x : ℝ) : EReal)) (h2 h4 h5)
    (x : S1x256x512.Idx) (y : S1x256x2048.Idx) (e1 : (y 1 : ℕ) = x 1) (e2 : (y 2 : ℕ) = 512 * h + x 2) :
    shapeCast S1x256x512 (hH (tkeep d) (ldk xq h hh) (ldk xk h hh) (ldv xv h hh) (colOf (8 * d + 4 + h) (bC (tcol d) g bi) h2)
      (rowOf (8 * d + 4 + h) (bR (trow d) gt bt) h4) (rowOf (8 * d + h) (k0_pay104 gt bt) h5)
      (ldm mp (4 * d + h) (by omega)) (ldc cp (4 * d + h) (by omega))) shapeCasts_S256x512_S1x256x512 x
      = hT X d b (256 * i) y := by
  have e := (B.hin h hh hd).H_val (tkeep d) (ldk xq h hh) (tkeep_val d)
    (fun p x => (ldk_val h hh p x).trans (hq h p x _ rfl hh)) h2 h4 h5 (x 0) (x 1) (x 2)
  rw [← eq_ix3 x] at e
  have hx : ((x 2 : Fin 512) : ℕ) < 512 := (x 2).isLt
  have f1 : (y 2 : ℕ) / 512 = h := by omega
  have f2 : (⟨(y 2 : ℕ) % 512, Nat.mod_lt _ (by decide)⟩ : Fin 512) = x 2 := Fin.ext (by show (y 2 : ℕ) % 512 = _; omega)
  rw [e, hT, f1, f2, show y 1 = x 1 from Fin.ext e1]

end Cert.Mlstm

end
-- ==== Proof.MlKernel.lean ====
/- What each grid point of the kernel leaves, by its case, from what it reads. -/
module

public import proofs.«01_k».proof.Proof.MlBlk
public import proofs.«01_k».proof.Proof.Gen.Kernel5Ideal.Value
public import Idealize.ShloMosaic.Lib.Pipeline.ReadBack

@[expose] public section

set_option maxRecDepth 16384

noncomputable section

open Idealize.ShloMosaic Idealize.ShloMosaic.TcCoe Idealize.SL.Sem
open Cert.Kernel5Ideal Cert.Kernel5Ideal.Gen Cert.Kernel5Ideal.Value

namespace Cert.Mlstm

/-- A fill under eight stores that tile the buffer is not seen. -/
theorem canon_drop8 {s : Shape} {e : EltTy} {Val : EltTy → Type} [∀ e, Nonempty (Val e)] {p0 p1 p2 p3 p4 p5 p6 p7 q : View.Piece Val s e}
    (size : Fin s.rank → ℕ) (h : View.Piece.tiledL [p0, p1, p2, p3, p4, p5, p6, p7] size = true) (y : s.Idx) :
    View.canon [p0, p1, p2, p3, p4, p5, p6, p7, q] y = View.canon [p0, p1, p2, p3, p4, p5, p6, p7] y := by
  have key : ∀ L : List (View.Piece Val s e), (∃ p ∈ L, y ∈ p.1.set) → View.canon (L ++ [q]) y = View.canon L y := by
    intro L
    induction L with
    | nil => rintro ⟨p, hp, _⟩; simp at hp
    | cons p L ih =>
      intro hy
      by_cases hm : y ∈ p.1.set
      · obtain ⟨x, rfl⟩ := p.1.exists_idx_of_mem hm
        obtain ⟨r, w⟩ := p
        exact (View.canon_cons_emb r w (L ++ [q]) x).trans (View.canon_cons_emb r w L x).symm
      · rw [List.cons_append, View.canon_cons_of_not_mem _ _ hm, View.canon_cons_of_not_mem _ _ hm]
        refine ih ?_
        obtain ⟨p', hp', hy'⟩ := hy
        rcases List.mem_cons.mp hp' with rfl | h'
        · exact absurd hy' hm
        · exact ⟨p', h', hy'⟩
  exact key _ (View.cover_of_tiledL _ size h y)

variable (m : (ℓ : Loc nD τ sig) → Buf (Elt Ideal) ℓ) (c : Dev nD)
variable {X : Ins} {b i : ℕ}

theorem c_B (t : Fin cfg0.N) (h0 : ¬t.val % 17 = 0) (h1 : 1 ≤ t.val % 17) (hp : t.val - 1 < cfg0.N)
    (B0 : Blk X 0 b i (iblk m c 3 t) (iblk m c 4 t) (iblk m c 14 t) (iblk m c 15 t) (iblk m c 1 t) (iblk m c 2 t)
      (outsAt0 m c (t.val - 1) hp).2.2.2 (outsAt0 m c (t.val - 1) hp).2.2.1)
    (B1 : Blk X 1 b i (iblk m c 8 t) (iblk m c 9 t) (iblk m c 14 t) (iblk m c 15 t) (iblk m c 6 t) (iblk m c 7 t)
      (outsAt0 m c (t.val - 1) hp).2.2.2 (outsAt0 m c (t.val - 1) hp).2.2.1) :
    ∀ y, (outsAt0 m c t.val t.isLt).2.2.1 y = cT X b (256 * i + 256) y := by
  intro y
  rw [outsAt0_B m c t h0 h1]
  frame_out
  simp only [read_unread_whole]
  canon_tiles x h
  · exact B1.c_at 3 (by decide) (by decide) (by decide) (by decide) (by decide) (by decide) (by decide) x y (by omega) h1 h2
  · exact B1.c_at 2 (by decide) (by decide) (by decide) (by decide) (by decide) (by decide) (by decide) x y (by omega) h1 h2
  · exact B1.c_at 1 (by decide) (by decide) (by decide) (by decide) (by decide) (by decide) (by decide) x y (by omega) h1 h2
  · exact B1.c_at 0 (by decide) (by decide) (by decide) (by decide) (by decide) (by decide) (by decide) x y (by omega) h1 h2
  · exact B0.c_at 3 (by decide) (by decide) (by decide) (by decide) (by decide) (by decide) (by decide) x y (by omega) h1 h2
  · exact B0.c_at 2 (by decide) (by decide) (by decide) (by decide) (by decide) (by decide) (by decide) x y (by omega) h1 h2
  · exact B0.c_at 1 (by decide) (by decide) (by decide) (by decide) (by decide) (by decide) (by decide) x y (by omega) h1 h2
  · exact B0.c_at 0 (by decide) (by decide) (by decide) (by decide) (by decide) (by decide) (by decide) x y (by omega) h1 h2

theorem m_B (t : Fin cfg0.N) (h0 : ¬t.val % 17 = 0) (h1 : 1 ≤ t.val % 17) (hp : t.val - 1 < cfg0.N)
    (B0 : Blk X 0 b i (iblk m c 3 t) (iblk m c 4 t) (iblk m c 14 t) (iblk m c 15 t) (iblk m c 1 t) (iblk m c 2 t)
      (outsAt0 m c (t.val - 1) hp).2.2.2 (outsAt0 m c (t.val - 1) hp).2.2.1)
    (B1 : Blk X 1 b i (iblk m c 8 t) (iblk m c 9 t) (iblk m c 14 t) (iblk m c 15 t) (iblk m c 6 t) (iblk m c 7 t)
      (outsAt0 m c (t.val - 1) hp).2.2.2 (outsAt0 m c (t.val - 1) hp).2.2.1) :
    ∀ y, (outsAt0 m c t.val t.isLt).2.2.2 y = mT X b (256 * i + 256) y := by
  intro y
  rw [outsAt0_B m c t h0 h1]
  frame_out
  simp only [read_unread_whole]
  canon_tiles x h
  · exact B1.m_at 3 (by decide) (by decide) (by decide) (by decide) (by decide) x y (by omega)
  · exact B1.m_at 2 (by decide) (by decide) (by decide) (by decide) (by decide) x y (by omega)
  · exact B1.m_at 1 (by decide) (by decide) (by decide) (by decide) (by decide) x y (by omega)
  · exact B1.m_at 0 (by decide) (by decide) (by decide) (by decide) (by decide) x y (by omega)
  · exact B0.m_at 3 (by decide) (by decide) (by decide) (by decide) (by decide) x y (by omega)
  · exact B0.m_at 2 (by decide) (by decide) (by decide) (by decide) (by decide) x y (by omega)
  · exact B0.m_at 1 (by decide) (by decide) (by decide) (by decide) (by decide) x y (by omega)
  · exact B0.m_at 0 (by decide) (by decide) (by decide) (by decide) (by decide) x y (by omega)

theorem hf_B (t : Fin cfg0.N) (h0 : ¬t.val % 17 = 0) (h1 : 1 ≤ t.val % 17) (hp : t.val - 1 < cfg0.N)
    (B0 : Blk X 0 b i (iblk m c 3 t) (iblk m c 4 t) (iblk m c 14 t) (iblk m c 15 t) (iblk m c 1 t) (iblk m c 2 t)
      (outsAt0 m c (t.val - 1) hp).2.2.2 (outsAt0 m c (t.val - 1) hp).2.2.1)
    (B1 : Blk X 1 b i (iblk m c 8 t) (iblk m c 9 t) (iblk m c 14 t) (iblk m c 15 t) (iblk m c 6 t) (iblk m c 7 t)
      (outsAt0 m c (t.val - 1) hp).2.2.2 (outsAt0 m c (t.val - 1) hp).2.2.1)
    (hq : ∀ (h : ℕ) (p x : Fin 256) (y : Fin 1024), (y : ℕ) = 256 * h + x → h < 4 →
      iblk m c 0 t (ix3 0 p y) = (((X.seq 0 b h).q (256 * i + ord 0 p) x : ℝ) : EReal)) :
    ∀ y, (outsAt0 m c t.val t.isLt).1 y = hT X 0 b (256 * i) y := by
  intro y
  rw [outsAt0_B m c t h0 h1]
  frame_out
  simp only [read_unread_whole]
  canon_tiles x h
  · exact B0.h_at 3 (by decide) (by decide) _ hq (by decide) (by decide) (by decide) x y h1 (by omega)
  · exact B0.h_at 2 (by decide) (by decide) _ hq (by decide) (by decide) (by decide) x y h1 (by omega)
  · exact B0.h_at 1 (by decide) (by decide) _ hq (by decide) (by decide) (by decide) x y h1 (by omega)
  · exact B0.h_at 0 (by decide) (by decide) _ hq (by decide) (by decide) (by decide) x y h1 (by omega)

theorem hb_B (t : Fin cfg0.N) (h0 : ¬t.val % 17 = 0) (h1 : 1 ≤ t.val % 17) (hp : t.val - 1 < cfg0.N)
    (B0 : Blk X 0 b i (iblk m c 3 t) (iblk m c 4 t) (iblk m c 14 t) (iblk m c 15 t) (iblk m c 1 t) (iblk m c 2 t)
      (outsAt0 m c (t.val - 1) hp).2.2.2 (outsAt0 m c (t.val - 1) hp).2.2.1)
    (B1 : Blk X 1 b i (iblk m c 8 t) (iblk m c 9 t) (iblk m c 14 t) (iblk m c 15 t) (iblk m c 6 t) (iblk m c 7 t)
      (outsAt0 m c (t.val - 1) hp).2.2.2 (outsAt0 m c (t.val - 1) hp).2.2.1)
    (hq : ∀ (h : ℕ) (p x : Fin 256) (y : Fin 1024), (y : ℕ) = 256 * h + x → h < 4 →
      iblk m c 5 t (ix3 0 p y) = (((X.seq 1 b h).q (256 * i + ord 1 p) x : ℝ) : EReal)) :
    ∀ y, (outsAt0 m c t.val t.isLt).2.1 y = hT X 1 b (256 * i) y := by
  intro y
  rw [outsAt0_B m c t h0 h1]
  frame_out
  simp only [read_unread_whole]
  canon_tiles x h
  · exact B1.h_at 3 (by decide) (by decide) _ hq (by decide) (by decide) (by decide) x y h1 (by omega)
  · exact B1.h_at 2 (by decide) (by decide) _ hq (by decide) (by decide) (by decide) x y h1 (by omega)
  · exact B1.h_at 1 (by decide) (by decide) _ hq (by decide) (by decide) (by decide) x y h1 (by omega)
  · exact B1.h_at 0 (by decide) (by decide) _ hq (by decide) (by decide) (by decide) x y h1 (by omega)

theorem c_A (t : Fin cfg0.N) (h0 : t.val % 17 = 0) (h1 : ¬1 ≤ t.val % 17)
    (B0 : Blk X 0 b 0 (iblk m c 12 t) (iblk m c 13 t) (iblk m c 14 t) (iblk m c 15 t) (iblk m c 11 t) (X0_10 m c t)
      (k0_pay8 (F := Ideal)) (k0_pay7 (F := Ideal)))
    (B1 : Blk X 1 b 0 (iblk m c 12 t) (iblk m c 13 t) (iblk m c 14 t) (iblk m c 15 t) (iblk m c 11 t) (X0_10 m c t)
      (k0_pay8 (F := Ideal)) (k0_pay7 (F := Ideal))) :
    ∀ y, (outsAt0 m c t.val t.isLt).2.2.1 y = cT X b 256 y := by
  intro y
  rw [outsAt0_A m c t h0 h1]
  frame_open
  simp (disch := decide) only [↓ View.readCov_skip, ↓ View.readCov_fill]
  frame_out
  refine (canon_drop8 ![1, 256, 640] rfl y).trans ?_
  canon_tiles x h
  · exact B1.c_at 3 (by decide) (by decide) (by decide) (by decide) (by decide) (by decide) (by decide) x y (by omega) h1 h2
  · exact B1.c_at 2 (by decide) (by decide) (by decide) (by decide) (by decide) (by decide) (by decide) x y (by omega) h1 h2
  · exact B1.c_at 1 (by decide) (by decide) (by decide) (by decide) (by decide) (by decide) (by decide) x y (by omega) h1 h2
  · exact B1.c_at 0 (by decide) (by decide) (by decide) (by decide) (by decide) (by decide) (by decide) x y (by omega) h1 h2
  · exact B0.c_at 3 (by decide) (by decide) (by decide) (by decide) (by decide) (by decide) (by decide) x y (by omega) h1 h2
  · exact B0.c_at 2 (by decide) (by decide) (by decide) (by decide) (by decide) (by decide) (by decide) x y (by omega) h1 h2
  · exact B0.c_at 1 (by decide) (by decide) (by decide) (by decide) (by decide) (by decide) (by decide) x y (by omega) h1 h2
  · exact B0.c_at 0 (by decide) (by decide) (by decide) (by decide) (by decide) (by decide) (by decide) x y (by omega) h1 h2

theorem m_A (t : Fin cfg0.N) (h0 : t.val % 17 = 0) (h1 : ¬1 ≤ t.val % 17)
    (B0 : Blk X 0 b 0 (iblk m c 12 t) (iblk m c 13 t) (iblk m c 14 t) (iblk m c 15 t) (iblk m c 11 t) (X0_10 m c t)
      (k0_pay8 (F := Ideal)) (k0_pay7 (F := Ideal)))
    (B1 : Blk X 1 b 0 (iblk m c 12 t) (iblk m c 13 t) (iblk m c 14 t) (iblk m c 15 t) (iblk m c 11 t) (X0_10 m c t)
      (k0_pay8 (F := Ideal)) (k0_pay7 (F := Ideal))) :
    ∀ y, (outsAt0 m c t.val t.isLt).2.2.2 y = mT X b 256 y := by
  intro y
  rw [outsAt0_A m c t h0 h1]
  frame_open
  simp (disch := decide) only [↓ View.readCov_skip, ↓ View.readCov_fill]
  frame_out
  refine (canon_drop8 ![1, 1, 1] rfl y).trans ?_
  canon_tiles x h
  · exact B1.m_at 3 (by decide) (by decide) (by decide) (by decide) (by decide) x y (by omega)
  · exact B1.m_at 2 (by decide) (by decide) (by decide) (by decide) (by decide) x y (by omega)
  · exact B1.m_at 1 (by decide) (by decide) (by decide) (by decide) (by decide) x y (by omega)
  · exact B1.m_at 0 (by decide) (by decide) (by decide) (by decide) (by decide) x y (by omega)
  · exact B0.m_at 3 (by decide) (by decide) (by decide) (by decide) (by decide) x y (by omega)
  · exact B0.m_at 2 (by decide) (by decide) (by decide) (by decide) (by decide) x y (by omega)
  · exact B0.m_at 1 (by decide) (by decide) (by decide) (by decide) (by decide) x y (by omega)
  · exact B0.m_at 0 (by decide) (by decide) (by decide) (by decide) (by decide) x y (by omega)

end Cert.Mlstm

end
-- ==== Proof.MlReads.lean ====
/- What the kernel's blocks are of the arguments. -/
module

public import proofs.«01_k».proof.Proof.MlKernel
public import Idealize.ShloMosaic.Lib.Claim

@[expose] public section

set_option maxRecDepth 16384

noncomputable section

open Idealize.ShloMosaic Idealize.ShloMosaic.TcCoe Idealize.SL.Sem
open Cert.Kernel5Ideal Cert.Kernel5Ideal.Gen Cert.Kernel5Ideal.Value

namespace Cert.Mlstm

theorem idx : ∀ t : Fin cfg0.N, win0_0.index t = ![t.val / 17, t.val % 17 - 1, 6] ∧ win0_1.index t = ![t.val / 17, t.val % 17 - 1, 9]
    ∧ win0_2.index t = ![t.val / 17, t.val % 17 - 1, 5] ∧ win0_3.index t = ![t.val / 17, t.val % 17 - 1, 0]
    ∧ win0_4.index t = ![t.val / 17, 0, t.val % 17 - 1]
    ∧ win0_5.index t = ![t.val / 17, 16 - max (t.val % 17) 1, 6] ∧ win0_6.index t = ![t.val / 17, 16 - max (t.val % 17) 1, 9]
    ∧ win0_7.index t = ![t.val / 17, 16 - max (t.val % 17) 1, 5] ∧ win0_8.index t = ![t.val / 17, 16 - max (t.val % 17) 1, 0]
    ∧ win0_9.index t = ![t.val / 17, 0, 16 - max (t.val % 17) 1]
    ∧ win0_10.index t = ![t.val / 17, 0, 0] ∧ win0_11.index t = ![t.val / 17, 0, 2] ∧ win0_12.index t = ![t.val / 17, 0, 0]
    ∧ win0_13.index t = ![t.val / 17, 0, 0] ∧ win0_14.index t = ![0, 0] ∧ win0_15.index t = ![0, 0]
    ∧ win0_16.index t = ![t.val / 17, t.val % 17 - 1, 0] ∧ win0_17.index t = ![t.val / 17, 16 - max (t.val % 17) 1, 0] :=
  (by decide +kernel : ∀ t : Fin grid0.N, _)

theorem t_lt (t : Fin cfg0.N) : t.val < 68 := lt_of_lt_of_eq t.isLt (show cfg0.N = 68 from N_0)

variable (m : (ℓ : Loc nD τ sig) → Buf (Elt Ideal) ℓ) (c : Dev nD) (t : Fin cfg0.N)

/-- The batch, and the latent chunks of both directions, of a grid point. -/
def tb : Fin 4 := ⟨t.val / 17, by have := t_lt t; omega⟩
def lf (p : Fin 256) : Fin 4096 := ⟨256 * (t.val % 17 - 1) + p, by omega⟩
def lb (p : Fin 256) : Fin 4096 := ⟨256 * (16 - max (t.val % 17) 1) + p, by omega⟩

theorem r0 (p : Fin 256) (x : Fin 1024) :
    iblk m c 0 t (ix3 0 p x) = m ((c : Thread nD τ).loc main_arg0) (ix3 (tb t) (lf t p) ⟨6144 + x, by omega⟩) := by
  unfold tb lf
  blk_ext [iblk, V, idx t]
theorem r1 (p : Fin 256) (x : Fin 1024) :
    iblk m c 1 t (ix3 0 p x) = m ((c : Thread nD τ).loc main_arg0) (ix3 (tb t) (lf t p) ⟨9216 + x, by omega⟩) := by
  unfold tb lf
  blk_ext [iblk, V, idx t]
theorem r2 (p : Fin 256) (x : Fin 2048) :
    iblk m c 2 t (ix3 0 p x) = m ((c : Thread nD τ).loc main_arg0) (ix3 (tb t) (lf t p) ⟨10240 + x, by omega⟩) := by
  unfold tb lf
  blk_ext [iblk, V, idx t]
theorem r3 (p : Fin 256) (x : Fin 16) :
    iblk m c 3 t (ix3 0 p (⟨x, by omega⟩ : Fin 128)) = m ((c : Thread nD τ).loc main_arg1) (ix3 (tb t) (lf t p) (⟨x, by omega⟩ : Fin 128)) := by
  unfold tb lf
  blk_ext [iblk, V, idx t]
theorem r4 (p : Fin 256) (x : Fin 16) :
    iblk m c 4 t (ix3 0 x p) = m ((c : Thread nD τ).loc main_arg1) (ix3 (tb t) (lf t p) (⟨x, by omega⟩ : Fin 128)) := by
  unfold tb lf
  blk_simp [iblk, idx t]
  entry_read
  pointwise
  blk_ext [idx t]
theorem r5 (p : Fin 256) (x : Fin 1024) :
    iblk m c 5 t (ix3 0 p x) = m ((c : Thread nD τ).loc main_arg0) (ix3 (tb t) (lb t p) ⟨6144 + x, by omega⟩) := by
  unfold tb lb
  blk_ext [iblk, V, idx t]
theorem r6 (p : Fin 256) (x : Fin 1024) :
    iblk m c 6 t (ix3 0 p x) = m ((c : Thread nD τ).loc main_arg0) (ix3 (tb t) (lb t p) ⟨9216 + x, by omega⟩) := by
  unfold tb lb
  blk_ext [iblk, V, idx t]
theorem r7 (p : Fin 256) (x : Fin 2048) :
    iblk m c 7 t (ix3 0 p x) = m ((c : Thread nD τ).loc main_arg0) (ix3 (tb t) (lb t p) ⟨10240 + x, by omega⟩) := by
  unfold tb lb
  blk_ext [iblk, V, idx t]
theorem r8 (p : Fin 256) (x : Fin 16) :
    iblk m c 8 t (ix3 0 p (⟨x, by omega⟩ : Fin 128)) = m ((c : Thread nD τ).loc main_arg1) (ix3 (tb t) (lb t p) (⟨x, by omega⟩ : Fin 128)) := by
  unfold tb lb
  blk_ext [iblk, V, idx t]
theorem r9 (p : Fin 256) (x : Fin 16) :
    iblk m c 9 t (ix3 0 x p) = m ((c : Thread nD τ).loc main_arg1) (ix3 (tb t) (lb t p) (⟨x, by omega⟩ : Fin 128)) := by
  unfold tb lb
  blk_simp [iblk, idx t]
  entry_read
  pointwise
  blk_ext [idx t]
theorem r10 (p : Fin 256) (x : Fin 2048) :
    X0_10 m c t (ix3 0 p x) = m ((c : Thread nD τ).loc main_arg2) (ix3 (tb t) p ⟨x, by omega⟩) := by
  unfold tb X0_10 Pipeline.Window.fill
  rw [dif_pos (moved0_10 t _)]
  blk_ext [iblk, V, idx t]
theorem r11 (p : Fin 256) (x : Fin 1024) :
    iblk m c 11 t (ix3 0 p x) = m ((c : Thread nD τ).loc main_arg2) (ix3 (tb t) p ⟨2048 + x, by omega⟩) := by
  unfold tb
  blk_ext [iblk, V, idx t]
theorem r12 (p : Fin 256) (x : Fin 16) :
    iblk m c 12 t (ix3 0 p (⟨x, by omega⟩ : Fin 128)) = m ((c : Thread nD τ).loc main_arg3) (ix3 (tb t) p (⟨x, by omega⟩ : Fin 128)) := by
  unfold tb
  blk_ext [iblk, V, idx t]
theorem r13 (p : Fin 256) (x : Fin 16) :
    iblk m c 13 t (ix3 0 x p) = m ((c : Thread nD τ).loc main_arg3) (ix3 (tb t) p (⟨x, by omega⟩ : Fin 128)) := by
  unfold tb
  blk_simp [iblk, idx t]
  entry_read
  pointwise
  blk_ext [idx t]
theorem r14 (x : Fin 16) : iblk m c 14 t (ix2 0 x) = m ((c : Thread nD τ).loc main_arg4) (ix2 0 x) := by
  blk_simp [iblk, idx t]
  entry_read
  pointwise
  blk_ext [idx t]
theorem r15 (x : Fin 16) : iblk m c 15 t (ix2 x 0) = m ((c : Thread nD τ).loc main_arg4) (ix2 0 x) := by
  blk_simp [iblk, idx t]
  entry_read
  pointwise
  blk_ext [idx t]

/-- The arguments are the real numbers of `X`. -/
structure Real_ (X : Ins) : Prop where
  P : ∀ (b : Fin 4) (l : Fin 4096) (x : Fin 12288), m ((c : Thread nD τ).loc main_arg0) (ix3 b l x) = ((X.P b l x : ℝ) : EReal)
  G : ∀ (b : Fin 4) (l : Fin 4096) (x : Fin 128), m ((c : Thread nD τ).loc main_arg1) (ix3 b l x) = ((X.G b l x : ℝ) : EReal)
  PC : ∀ (b : Fin 4) (l : Fin 256) (x : Fin 3072), m ((c : Thread nD τ).loc main_arg2) (ix3 b l x) = ((X.PC b l x : ℝ) : EReal)
  GC : ∀ (b : Fin 4) (l : Fin 256) (x : Fin 128), m ((c : Thread nD τ).loc main_arg3) (ix3 b l x) = ((X.GC b l x : ℝ) : EReal)
  B : ∀ x : Fin 16, m ((c : Thread nD τ).loc main_arg4) (ix2 0 x) = ((X.B x : ℝ) : EReal)

variable {m c} {X : Ins} (R : Real_ m c X)

theorem gcol (g : Vec Ideal S1x256x128 .f32) (bi : Vec Ideal S1x16 .f32) (p : Fin 256) (x : Fin 16) :
    k0_pay103 g bi (ix2 p x) = g (ix3 0 p (⟨x, by omega⟩ : Fin 128)) + bi (ix2 0 x) := by
  pointwise [k0_pay103]
theorem grow (g : Vec Ideal S1x16x256 .f32) (bi : Vec Ideal S16x1 .f32) (p : Fin 256) (x : Fin 16) :
    k0_pay104 g bi (ix2 x p) = g (ix3 0 x p) + bi (ix2 x 0) := by
  pointwise [k0_pay104]

theorem ord0 (p : Fin 256) : (ord 0 p : ℕ) = p := rfl
theorem ord1 (p : Fin 256) : (ord 1 p : ℕ) = 255 - p := by
  show ((Fin.rev p : Fin 256) : ℕ) = _
  rw [Fin.val_rev]; omega

/-- Where the tokens of a point's chunk lie. -/
theorem lpos0 (h : 1 ≤ t.val % 17) (p : Fin 256) : Ins.lpos 0 (256 * (t.val % 17) + ord 0 p) = lf t p := by
  show (256 * (t.val % 17) + (ord 0 p : ℕ)) - 256 = 256 * (t.val % 17 - 1) + (p : ℕ)
  rw [ord0]; omega
theorem lpos1 (h : 1 ≤ t.val % 17) (p : Fin 256) : Ins.lpos 1 (256 * (t.val % 17) + ord 1 p) = lb t p := by
  show 4351 - (256 * (t.val % 17) + (ord 1 p : ℕ)) = 256 * (16 - max (t.val % 17) 1) + (p : ℕ)
  rw [ord1]; omega
theorem cpos0 (p : Fin 256) : Ins.cpos 0 (256 * 0 + ord 0 p) = p := by
  show 256 * 0 + (ord 0 p : ℕ) = (p : ℕ)
  rw [ord0]; omega
theorem cpos1 (p : Fin 256) : Ins.cpos 1 (256 * 0 + ord 1 p) = p := by
  show 255 - (256 * 0 + (ord 1 p : ℕ)) = (p : ℕ)
  rw [ord1]; omega

include R in
theorem blk0 (h : 1 ≤ t.val % 17) (mp cp)
    (hm : ∀ (h : ℕ) (y : Fin 8), (y : ℕ) = 4 * 0 + h → h < 4 → mp (ix3 y 0 0) = (((X.seq 0 (tb t) h).M (256 * (t.val % 17)) : ℝ) : EReal))
    (hc : ∀ (h : ℕ) (y : Fin 8) (x : Fin 256) (e : Fin 640), (y : ℕ) = 4 * 0 + h → h < 4 →
      cp (ix3 y x e) = (((X.seq 0 (tb t) h).acc ((X.seq 0 (tb t) h).wcol e) (256 * (t.val % 17)) x : ℝ) : EReal)) :
    Blk X 0 (tb t) (t.val % 17) (iblk m c 3 t) (iblk m c 4 t) (iblk m c 14 t) (iblk m c 15 t) (iblk m c 1 t) (iblk m c 2 t) mp cp where
  gc p x := by
    rw [gcol, r3, r14, R.G, R.B, ← EReal.coe_add, Ins.gate, lpos0 t h, if_neg (by omega)]
  gr p x := by
    rw [grow, r4, r15, R.G, R.B, ← EReal.coe_add, Ins.gate, lpos0 t h, if_neg (by omega)]
  k h' p x y hy hh := by
    rw [r1, R.P]
    simp only [Ins.seq]
    rw [lpos0 t h, if_neg (by omega), hy]
  v h' p x y hy hh := by
    rw [r2, R.P]
    simp only [Ins.seq]
    rw [lpos0 t h, if_neg (by omega), hy]
  m := hm
  c := hc

include R in
theorem blk1 (h : 1 ≤ t.val % 17) (mp cp)
    (hm : ∀ (h : ℕ) (y : Fin 8), (y : ℕ) = 4 * 1 + h → h < 4 → mp (ix3 y 0 0) = (((X.seq 1 (tb t) h).M (256 * (t.val % 17)) : ℝ) : EReal))
    (hc : ∀ (h : ℕ) (y : Fin 8) (x : Fin 256) (e : Fin 640), (y : ℕ) = 4 * 1 + h → h < 4 →
      cp (ix3 y x e) = (((X.seq 1 (tb t) h).acc ((X.seq 1 (tb t) h).wcol e) (256 * (t.val % 17)) x : ℝ) : EReal)) :
    Blk X 1 (tb t) (t.val % 17) (iblk m c 8 t) (iblk m c 9 t) (iblk m c 14 t) (iblk m c 15 t) (iblk m c 6 t) (iblk m c 7 t) mp cp where
  gc p x := by
    rw [gcol, r8, r14, R.G, R.B, ← EReal.coe_add, Ins.gate, lpos1 t h, if_neg (by omega)]
  gr p x := by
    rw [grow, r9, r15, R.G, R.B, ← EReal.coe_add, Ins.gate, lpos1 t h, if_neg (by omega)]
  k h' p x y hy hh := by
    rw [r6, R.P]
    simp only [Ins.seq]
    rw [lpos1 t h, if_neg (by omega), hy]
  v h' p x y hy hh := by
    rw [r7, R.P]
    simp only [Ins.seq]
    rw [lpos1 t h, if_neg (by omega), hy]
  m := hm
  c := hc

theorem M_zero (S : Seq) : S.M (256 * 0) = 0 := by
  simp [Seq.M, Seq.F, Seq.A]
theorem acc_zero (S : Seq) (w : ℕ → ℝ) (x : Fin 256) : S.acc w (256 * 0) x = 0 := by
  simp [Seq.acc]

theorem zm (y : Fin 8) (a b : Fin 1) : k0_pay8 (F := Ideal) (ix3 y a b) = 0 := by
  pointwise [k0_pay8]
theorem zc (y : Fin 8) (a : Fin 256) (b : Fin 640) : k0_pay7 (F := Ideal) (ix3 y a b) = 0 := by
  pointwise [k0_pay7]

include R in
theorem blkA (d : ℕ) (hd : d < 2) :
    Blk X d (tb t) 0 (iblk m c 12 t) (iblk m c 13 t) (iblk m c 14 t) (iblk m c 15 t) (iblk m c 11 t) (X0_10 m c t)
      (k0_pay8 (F := Ideal)) (k0_pay7 (F := Ideal)) where
  gc p x := by
    have e : Ins.cpos d (256 * 0 + ord d p) = p := by
      rcases (by omega : d = 0 ∨ d = 1) with rfl | rfl
      · exact cpos0 p
      · exact cpos1 p
    rw [gcol, r12, r14, R.GC, R.B, ← EReal.coe_add, Ins.gate, e, if_pos (by omega)]
  gr p x := by
    have e : Ins.cpos d (256 * 0 + ord d p) = p := by
      rcases (by omega : d = 0 ∨ d = 1) with rfl | rfl
      · exact cpos0 p
      · exact cpos1 p
    rw [grow, r13, r15, R.GC, R.B, ← EReal.coe_add, Ins.gate, e, if_pos (by omega)]
  k h' p x y hy hh := by
    have e : Ins.cpos d (256 * 0 + ord d p) = p := by
      rcases (by omega : d = 0 ∨ d = 1) with rfl | rfl
      · exact cpos0 p
      · exact cpos1 p
    rw [r11, R.PC]
    simp only [Ins.seq]
    rw [e, if_pos (by omega), hy]
  v h' p x y hy hh := by
    have e : Ins.cpos d (256 * 0 + ord d p) = p := by
      rcases (by omega : d = 0 ∨ d = 1) with rfl | rfl
      · exact cpos0 p
      · exact cpos1 p
    rw [r10, R.PC]
    simp only [Ins.seq]
    rw [e, if_pos (by omega), hy]
  m h y hy hh := by rw [zm, M_zero]; rfl
  c h y x e hy hh := by rw [zc, acc_zero]; rfl

end Cert.Mlstm

end
-- ==== Proof.MlFold.lean ====
/- The carried memories of the kernel after each grid point, and its two results. -/
module

public import proofs.«01_k».proof.Proof.MlReads

@[expose] public section

set_option maxRecDepth 16384

noncomputable section

open Idealize.ShloMosaic Idealize.ShloMosaic.TcCoe Idealize.SL.Sem
open Cert.Kernel5Ideal Cert.Kernel5Ideal.Gen Cert.Kernel5Ideal.Value

namespace Cert.Mlstm

variable {m : (ℓ : Loc nD τ sig) → Buf (Elt Ideal) ℓ} {c : Dev nD} {X : Ins}

/-- The memory as a point finds it, head by head. -/
theorem mT_at {mp : S8x1x1.Idx → EReal} {b n : ℕ} (H : ∀ y, mp y = mT X b n y) (d : ℕ) (h : ℕ) (y : Fin 8)
    (hy : (y : ℕ) = 4 * d + h) (hh : h < 4) : mp (ix3 y 0 0) = (((X.seq d b h).M n : ℝ) : EReal) := by
  have e1 : (y : ℕ) / 4 = d := by omega
  have e2 : (y : ℕ) % 4 = h := by omega
  rw [H]
  show (((X.seq ((y : ℕ) / 4) b ((y : ℕ) % 4)).M n : ℝ) : EReal) = _
  rw [e1, e2]
theorem cT_at {cp : S8x256x640.Idx → EReal} {b n : ℕ} (H : ∀ y, cp y = cT X b n y) (d : ℕ) (h : ℕ) (y : Fin 8) (x : Fin 256)
    (e : Fin 640) (hy : (y : ℕ) = 4 * d + h) (hh : h < 4) :
    cp (ix3 y x e) = (((X.seq d b h).acc ((X.seq d b h).wcol e) n x : ℝ) : EReal) := by
  have e1 : (y : ℕ) / 4 = d := by omega
  have e2 : (y : ℕ) % 4 = h := by omega
  rw [H]
  show (((X.seq ((y : ℕ) / 4) b ((y : ℕ) % 4)).acc ((X.seq ((y : ℕ) / 4) b ((y : ℕ) % 4)).wcol e) n x : ℝ) : EReal) = _
  rw [e1, e2]

/-- What the point before a latent chunk left. -/
structure Left (m : (ℓ : Loc nD τ sig) → Buf (Elt Ideal) ℓ) (c : Dev nD) (X : Ins) (t : ℕ) (ht : t < cfg0.N) : Prop where
  cc : ∀ y, (outsAt0 m c t ht).2.2.1 y = cT X (t / 17) (256 * (t % 17) + 256) y
  mm : ∀ y, (outsAt0 m c t ht).2.2.2 y = mT X (t / 17) (256 * (t % 17) + 256) y

theorem Left.b0 (R : Real_ m c X) (t : Fin cfg0.N) (h1 : 1 ≤ t.val % 17) (hp : t.val - 1 < cfg0.N) (L : Left m c X (t.val - 1) hp) :
    Blk X 0 (tb t) (t.val % 17) (iblk m c 3 t) (iblk m c 4 t) (iblk m c 14 t) (iblk m c 15 t) (iblk m c 1 t) (iblk m c 2 t)
      (outsAt0 m c (t.val - 1) hp).2.2.2 (outsAt0 m c (t.val - 1) hp).2.2.1 := by
  have e1 : (t.val - 1) / 17 = (tb t : ℕ) := by show _ = t.val / 17; omega
  have e2 : 256 * ((t.val - 1) % 17) + 256 = 256 * (t.val % 17) := by omega
  have hc := L.cc
  have hm := L.mm
  rw [e1, e2] at hc hm
  exact blk0 t R h1 _ _ (mT_at hm 0) (cT_at hc 0)
theorem Left.b1 (R : Real_ m c X) (t : Fin cfg0.N) (h1 : 1 ≤ t.val % 17) (hp : t.val - 1 < cfg0.N) (L : Left m c X (t.val - 1) hp) :
    Blk X 1 (tb t) (t.val % 17) (iblk m c 8 t) (iblk m c 9 t) (iblk m c 14 t) (iblk m c 15 t) (iblk m c 6 t) (iblk m c 7 t)
      (outsAt0 m c (t.val - 1) hp).2.2.2 (outsAt0 m c (t.val - 1) hp).2.2.1 := by
  have e1 : (t.val - 1) / 17 = (tb t : ℕ) := by show _ = t.val / 17; omega
  have e2 : 256 * ((t.val - 1) % 17) + 256 = 256 * (t.val % 17) := by omega
  have hc := L.cc
  have hm := L.mm
  rw [e1, e2] at hc hm
  exact blk1 t R h1 _ _ (mT_at hm 1) (cT_at hc 1)

theorem left (R : Real_ m c X) : ∀ (t : ℕ) (ht : t < cfg0.N), Left m c X t ht := by
  intro t
  induction t with
  | zero =>
    intro ht
    have hA := fun d hd => blkA (⟨0, ht⟩ : Fin cfg0.N) R d hd
    exact ⟨c_A m c ⟨0, ht⟩ (Nat.zero_mod _) (by simp) (hA 0 (by decide)) (hA 1 (by decide)),
      m_A m c ⟨0, ht⟩ (Nat.zero_mod _) (by simp) (hA 0 (by decide)) (hA 1 (by decide))⟩
  | succ n ih =>
    intro ht
    by_cases h0 : (n + 1) % 17 = 0
    · have h1 : ¬ 1 ≤ (n + 1) % 17 := by omega
      have hA := fun d hd => blkA (⟨n + 1, ht⟩ : Fin cfg0.N) R d hd
      have e : 256 * ((n + 1) % 17) + 256 = 256 := by omega
      refine ⟨?_, ?_⟩ <;> rw [e]
      · exact c_A m c ⟨n + 1, ht⟩ h0 h1 (hA 0 (by decide)) (hA 1 (by decide))
      · exact m_A m c ⟨n + 1, ht⟩ h0 h1 (hA 0 (by decide)) (hA 1 (by decide))
    · have h1 : 1 ≤ (n + 1) % 17 := by omega
      have hp : n < cfg0.N := by omega
      have L := ih hp
      have B0 := Left.b0 R ⟨n + 1, ht⟩ h1 hp L
      have B1 := Left.b1 R ⟨n + 1, ht⟩ h1 hp L
      exact ⟨c_B m c ⟨n + 1, ht⟩ h0 h1 hp B0 B1, m_B m c ⟨n + 1, ht⟩ h0 h1 hp B0 B1⟩

/-- The kernel's results: every head's output at every latent token, from either side. -/
def hfT (X : Ins) (y : S4x4096x2048.Idx) : EReal :=
  (((X.seq 0 (y 0) ((y 2 : ℕ) / 512)).H (256 + (y 1 : ℕ)) ⟨(y 2 : ℕ) % 512, Nat.mod_lt _ (by decide)⟩ : ℝ) : EReal)
def hbT (X : Ins) (y : S4x4096x2048.Idx) : EReal :=
  (((X.seq 1 (y 0) ((y 2 : ℕ) / 512)).H (4351 - (y 1 : ℕ)) ⟨(y 2 : ℕ) % 512, Nat.mod_lt _ (by decide)⟩ : ℝ) : EReal)

theorem fl16 : ∀ t : Fin cfg0.N, (cfg0.win 16).flush t = true → 1 ≤ t.val % 17 :=
  (by decide +kernel : ∀ t : Fin grid0.N, _)
theorem fl17 : ∀ t : Fin cfg0.N, (cfg0.win 17).flush t = true → 1 ≤ t.val % 17 :=
  (by decide +kernel : ∀ t : Fin grid0.N, _)

theorem hT_hf (b i : ℕ) (hi : 1 ≤ i) (y : S1x256x2048.Idx) (z : S4x4096x2048.Idx) (h0 : (z 0 : ℕ) = b) (h1 : (z 1 : ℕ) = 256 * (i - 1) + (y 1 : ℕ))
    (h2 : (z 2 : ℕ) = y 2) : hT X 0 b (256 * i) y = hfT X z := by
  have e1 : 256 * i + (ord 0 (y 1) : ℕ) = 256 + (z 1 : ℕ) := by
    have := ord0 (y 1)
    rw [h1]; omega
  unfold hT hfT
  congr 2
  · rw [h0, h2]
  · congr 1
    rw [h2]
theorem hT_hb (b i : ℕ) (hi : 1 ≤ i) (hi' : i < 17) (y : S1x256x2048.Idx) (z : S4x4096x2048.Idx) (h0 : (z 0 : ℕ) = b)
    (h1 : (z 1 : ℕ) = 256 * (16 - max i 1) + (y 1 : ℕ)) (h2 : (z 2 : ℕ) = y 2) : hT X 1 b (256 * i) y = hbT X z := by
  have hy : (y 1 : ℕ) < 256 := (y 1).isLt
  have e1 : 256 * i + (ord 1 (y 1) : ℕ) = 4351 - (z 1 : ℕ) := by
    have := ord1 (y 1)
    rw [h1]; omega
  unfold hT hbT
  congr 2
  · rw [h0, h2]
  · congr 1
    rw [h2]

theorem hf_arr (R : Real_ m c X) : (dats m 0 c).arrAt 16 cfg0.N = hfT X := by
  refine (dats m 0 c).arrAt_eq_of_covers 16 _ (by decide +kernel) fun t hf y => ?_
  have h1 := fl16 t hf
  have hp : t.val - 1 < cfg0.N := by have := t.isLt; omega
  have L := left R (t.val - 1) hp
  have B0 := Left.b0 R t h1 hp L
  have B1 := Left.b1 R t h1 hp L
  have hv := hf_B m c t (by omega) h1 hp B0 B1 (fun h p x y hy hh => by
    rw [r0, R.P]
    simp only [Ins.seq]
    rw [lpos0 t h1, if_neg (by omega), hy])
  blk_simp
  rw [after0_16]
  refine (hv y).trans (hT_hf _ _ h1 y _ ?_ ?_ ?_)
  all_goals (blk_simp [idx t, tb] <;> try omega)

theorem hb_arr (R : Real_ m c X) : (dats m 0 c).arrAt 17 cfg0.N = hbT X := by
  refine (dats m 0 c).arrAt_eq_of_covers 17 _ (by decide +kernel) fun t hf y => ?_
  have h1 := fl17 t hf
  have hp : t.val - 1 < cfg0.N := by have := t.isLt; omega
  have L := left R (t.val - 1) hp
  have B0 := Left.b0 R t h1 hp L
  have B1 := Left.b1 R t h1 hp L
  have hv := hb_B m c t (by omega) h1 hp B0 B1 (fun h p x y hy hh => by
    rw [r5, R.P]
    simp only [Ins.seq]
    rw [lpos1 t h1, if_neg (by omega), hy])
  blk_simp
  rw [after0_17]
  refine (hv y).trans (hT_hb _ _ h1 (Nat.mod_lt _ (by decide)) y _ ?_ ?_ ?_)
  all_goals (blk_simp [idx t, tb] <;> try omega)

end Cert.Mlstm
-- ==== Proof.MlRef.lean ====
/- One chunk of the reference's scan: what a trip of its loop makes of the carried memory. -/
module

public import proofs.«01_k».proof.Proof.MlIns
public import proofs.«01_k».proof.Proof.Gen.Reference5Ideal.Run
public import Idealize.ShloMosaic.Lib.Claim

@[expose] public section

set_option maxRecDepth 16384

noncomputable section

open Idealize.ShloMosaic Idealize.ShloMosaic.TcCoe Idealize.SL.Sem
open Cert.Reference5Ideal Cert.Reference5Ideal.Value

namespace Cert.Mlstm

/-- The line that a window's position reads, for the window that ends at line `j`: the lines after `j` where it lies before the array. -/
def shift (j : Fin 64) (w : (⟨3, ![1, 64, 1]⟩ : Shape).Idx) : Fin 64 := ⟨((w 1).val + j + 1) % 64, Nat.mod_lt _ (by decide)⟩

theorem shift_bij (j : Fin 64) : Function.Bijective (shift j) := by
  constructor
  · intro w w' hww
    have h1 : ((w 1).val + (j : ℕ) + 1) % 64 = ((w' 1).val + j + 1) % 64 := congrArg Fin.val hww
    have a0 : (w 0).val < 1 := (w 0).isLt
    have a1 : (w 1).val < 64 := (w 1).isLt
    have a2 : (w 2).val < 1 := (w 2).isLt
    have b0 : (w' 0).val < 1 := (w' 0).isLt
    have b1 : (w' 1).val < 64 := (w' 1).isLt
    have b2 : (w' 2).val < 1 := (w' 2).isLt
    funext a
    refine Fin.ext ?_
    match a with
    | ⟨0, _⟩ => show (w 0).val = (w' 0).val; omega
    | ⟨1, _⟩ => show (w 1).val = (w' 1).val; omega
    | ⟨2, _⟩ => show (w 2).val = (w' 2).val; omega
  · intro q
    refine ⟨(ix3 (0 : Fin 1) (⟨((q : ℕ) + 63 - j) % 64, Nat.mod_lt _ (by decide)⟩ : Fin 64) (0 : Fin 1)), Fin.ext ?_⟩
    show (((q : ℕ) + 63 - j) % 64 + (j : ℕ) + 1) % 64 = q
    omega

/-- A running sum along the middle axis, as the reference's window sum states it. -/
theorem cumsum_val (x : FVec Ideal S8x64x4 .f32) (init : FVec Ideal S_ .f32) (hi : ∀ i, init i = 0) (h) (hu) (b : Fin 8) (j : Fin 64) (c : Fin 4) :
    Host.reduceWindowAdd (F := Ideal) (φ := .f32) (s := S8x64x4) (t := S8x64x4) ![1, 64, 1] ![1, 1, 1] ![0, 63, 0] ![0, 0, 0] x init h hu (ix3 b j c)
      = ∑ q : Fin 64, if q ≤ j then x (ix3 b q c) else 0 := by
  show Ideal.hostReduceWindowAdd _ _ _ _ h x (init (Shape.Idx.first hu)) (ix3 b j c) = _
  rw [hi]
  unfold Ideal.hostReduceWindowAdd Host.reduceWindow
  dsimp only
  have fold : ∀ (n : ℕ) (g : Fin n → EReal), (List.finRange n).foldl (fun r i => r + g i) 0 = ∑ i, g i := fun n g => by
    have e := List.foldl_map (f := g) (g := fun r y : EReal => r + y) (l := List.finRange n) (init := 0)
    rw [← e, ← List.sum_eq_foldl, ← List.ofFn_eq_map, List.sum_ofFn]
  refine (fold (⟨3, ![1, 64, 1]⟩ : Shape).numel _).trans ?_
  refine Fintype.sum_bijective _ ((shift_bij j).comp (Shape.rowMajor (⟨3, ![1, 64, 1]⟩ : Shape)).symm.bijective) _ _ fun n => ?_
  set w := (Shape.rowMajor (⟨3, ![1, 64, 1]⟩ : Shape)).symm n
  rw [show ((shift j ∘ ⇑(Shape.rowMajor (⟨3, ![1, 64, 1]⟩ : Shape)).symm) n) = shift j w from rfl]
  have a0 : (w 0).val < 1 := (w 0).isLt
  have a1 : (w 1).val < 64 := (w 1).isLt
  have a2 : (w 2).val < 1 := (w 2).isLt
  unfold shift
  split
  · rename_i hin
    have h1 : 63 ≤ (j : ℕ) * 1 + (w 1).val ∧ (j : ℕ) * 1 + (w 1).val - 63 < 64 := hin 1
    rw [if_pos (by rw [Fin.le_def]; show ((w 1).val + (j : ℕ) + 1) % 64 ≤ j; omega)]
    congr 1
    funext a
    refine Fin.ext ?_
    match a with
    | ⟨0, _⟩ => show (b : ℕ) * 1 + (w 0).val - 0 = b; omega
    | ⟨1, _⟩ => show (j : ℕ) * 1 + (w 1).val - 63 = ((w 1).val + (j : ℕ) + 1) % 64; omega
    | ⟨2, _⟩ => show (c : ℕ) * 1 + (w 2).val - 0 = c; omega
  · rename_i hin
    rw [if_neg]
    intro hle
    rw [Fin.le_def] at hle
    have hle' : ((w 1).val + (j : ℕ) + 1) % 64 ≤ j := hle
    refine hin fun a => ?_
    match a with
    | ⟨0, _⟩ => show 0 ≤ (b : ℕ) * 1 + (w 0).val ∧ (b : ℕ) * 1 + (w 0).val - 0 < 8; omega
    | ⟨1, _⟩ => show 63 ≤ (j : ℕ) * 1 + (w 1).val ∧ (j : ℕ) * 1 + (w 1).val - 63 < 64; omega
    | ⟨2, _⟩ => show 0 ≤ (c : ℕ) * 1 + (w 2).val ∧ (c : ℕ) * 1 + (w 2).val - 0 < 4; omega

/-- The sequence of the reference's batch line `b`: the forward direction's four batches, then the backward's. -/
def Ins.sq (X : Ins) (b : Fin 8) (h : Fin 4) : Seq := X.seq ((b : ℕ) / 4) ((b : ℕ) % 4) h

/-- The reference's carried arrays before its chunk `k`. -/
structure At (X : Ins) (k : ℕ) (V : Valuation τ sig (Elt Ideal)) : Prop where
  r_ctr : ∀ i, V (Proc.devRef .tc main_v91_6) i = BitVec.ofNat 32 k
  r_k : ∀ (ch : Fin 68) (b : Fin 8) (j : Fin 64) (h : Fin 4) (x : Fin 256),
    V (Proc.devRef .tc main_v91_0) (ix5 ch b j h x) = (((X.sq b h).k (64 * ch + j) x : ℝ) : EReal)
  r_v : ∀ (ch : Fin 68) (b : Fin 8) (j : Fin 64) (h : Fin 4) (x : Fin 512),
    V (Proc.devRef .tc main_v91_1) (ix5 ch b j h x) = (((X.sq b h).v (64 * ch + j) x : ℝ) : EReal)
  r_ig : ∀ (ch : Fin 68) (b : Fin 8) (j : Fin 64) (h : Fin 4),
    V (Proc.devRef .tc main_v91_2) (ix4 ch b j h) = (((X.sq b h).ig (64 * ch + j) : ℝ) : EReal)
  r_lf : ∀ (ch : Fin 68) (b : Fin 8) (j : Fin 64) (h : Fin 4),
    V (Proc.devRef .tc main_v91_3) (ix4 ch b j h) = (((X.sq b h).lf (64 * ch + j) : ℝ) : EReal)
  r_q : ∀ (ch : Fin 68) (b : Fin 8) (j : Fin 64) (h : Fin 4) (x : Fin 256),
    V (Proc.devRef .tc main_v91_4) (ix5 ch b j h x) = (((X.sq b h).q (64 * ch + j) x : ℝ) : EReal)
  r_tri : ∀ i j : Fin 64, V (Proc.devRef .tc main_v91_5) (ix4 0 i j 0) = if j ≤ i then 1#1 else 0#1
  r_C : ∀ (b : Fin 8) (h : Fin 4) (e : Fin 512) (x : Fin 256),
    V (Proc.devRef .tc main_v91_7) (ix4 b h e x) = (((X.sq b h).acc (fun s => (X.sq b h).v s e) (64 * k) x : ℝ) : EReal)
  r_n : ∀ (b : Fin 8) (h : Fin 4) (x : Fin 256),
    V (Proc.devRef .tc main_v91_8) (ix3 b h x) = (((X.sq b h).acc (fun _ => 1) (64 * k) x : ℝ) : EReal)
  r_m : ∀ (b : Fin 8) (h : Fin 4), V (Proc.devRef .tc main_v91_9) (ix2 b h) = (((X.sq b h).M (64 * k) : ℝ) : EReal)
  r_out : ∀ (ch : Fin 68), (ch : ℕ) < k → ∀ (b : Fin 8) (j : Fin 64) (h : Fin 4) (e : Fin 512),
    V (Proc.devRef .tc main_v91_10) (ix5 ch b j h e) = (((X.sq b h).H (64 * ch + j) e : ℝ) : EReal)

variable {X : Ins} {k : ℕ} {V : Valuation τ sig (Elt Ideal)} (A : At X k V) (hk : k < 68)

theorem word68 (hk : k < 68) : (BitVec.ofNat 32 k).toInt = k := by
  rw [BitVec.toInt_eq_toNat_of_lt (by rw [BitVec.toNat_ofNat]; omega), BitVec.toNat_ofNat, Nat.mod_eq_of_lt (by omega)]

theorem ix5_eq {n0 n1 n2 n3 n4 : ℕ} {a a' : Fin n0} {b b' : Fin n1} {c c' : Fin n2} {d d' : Fin n3} {e e' : Fin n4}
    (h0 : (a : ℕ) = a') (h1 : (b : ℕ) = b') (h2 : (c : ℕ) = c') (h3 : (d : ℕ) = d') (h4 : (e : ℕ) = e') :
    ix5 a b c d e = ix5 a' b' c' d' e' := by
  rw [Fin.ext h0, Fin.ext h1, Fin.ext h2, Fin.ext h3, Fin.ext h4]
theorem ix4_eq {n0 n1 n2 n3 : ℕ} {a a' : Fin n0} {b b' : Fin n1} {c c' : Fin n2} {d d' : Fin n3}
    (h0 : (a : ℕ) = a') (h1 : (b : ℕ) = b') (h2 : (c : ℕ) = c') (h3 : (d : ℕ) = d') :
    ix4 a b c d = ix4 a' b' c' d' := by
  rw [Fin.ext h0, Fin.ext h1, Fin.ext h2, Fin.ext h3]

theorem cl_0 {s t : Shape} (ht : t.rank = s.rank) (st : Fin s.rank → Int) (a : Fin s.rank) (n : ℕ) (h : st a = 0) :
    Host.clampedStart s t ht st a + n = n := by
  unfold Host.clampedStart
  rw [h]
  omega

/-! One chunk read out of the chunked arrays. -/

theorem rd256 (x : FVec Ideal S68x8x64x4x256 .f32) (st : Fin 5 → Int) (hf) (hc) (hk : k < 68) (h0 : st 0 = k) (h1 : st 1 = 0) (h2 : st 2 = 0)
    (h3 : st 3 = 0) (h4 : st 4 = 0) (b : Fin 8) (j : Fin 64) (h : Fin 4) (y : Fin 256) :
    shapeCast S8x64x4x256 (Host.dynamicSlice S1x8x64x4x256 x st hf) hc (ix4 b j h y) = x (ix5 ⟨k, hk⟩ b j h y) := by
  pointwise
  refine congrArg x (ix5_eq ?_ (cl_0 _ _ _ _ h1) (cl_0 _ _ _ _ h2) (cl_0 _ _ _ _ h3) (cl_0 _ _ _ _ h4))
  refine Host.clampedStart_of_le (s := S68x8x64x4x256) (t := S1x8x64x4x256) rfl st (0 : Fin 5) k h0 ?_
  show k + 1 ≤ 68
  omega
theorem rd512 (x : FVec Ideal S68x8x64x4x512 .f32) (st : Fin 5 → Int) (hf) (hc) (hk : k < 68) (h0 : st 0 = k) (h1 : st 1 = 0) (h2 : st 2 = 0)
    (h3 : st 3 = 0) (h4 : st 4 = 0) (b : Fin 8) (j : Fin 64) (h : Fin 4) (y : Fin 512) :
    shapeCast S8x64x4x512 (Host.dynamicSlice S1x8x64x4x512 x st hf) hc (ix4 b j h y) = x (ix5 ⟨k, hk⟩ b j h y) := by
  pointwise
  refine congrArg x (ix5_eq ?_ (cl_0 _ _ _ _ h1) (cl_0 _ _ _ _ h2) (cl_0 _ _ _ _ h3) (cl_0 _ _ _ _ h4))
  refine Host.clampedStart_of_le (s := S68x8x64x4x512) (t := S1x8x64x4x512) rfl st (0 : Fin 5) k h0 ?_
  show k + 1 ≤ 68
  omega
theorem rd1 (x : FVec Ideal S68x8x64x4 .f32) (st : Fin 4 → Int) (hf) (hc) (hk : k < 68) (h0 : st 0 = k) (h1 : st 1 = 0) (h2 : st 2 = 0)
    (h3 : st 3 = 0) (b : Fin 8) (j : Fin 64) (h : Fin 4) :
    shapeCast S8x64x4 (Host.dynamicSlice S1x8x64x4 x st hf) hc (ix3 b j h) = x (ix4 ⟨k, hk⟩ b j h) := by
  pointwise
  refine congrArg x (ix4_eq ?_ (cl_0 _ _ _ _ h1) (cl_0 _ _ _ _ h2) (cl_0 _ _ _ _ h3))
  refine Host.clampedStart_of_le (s := S68x8x64x4) (t := S1x8x64x4) rfl st (0 : Fin 4) k h0 ?_
  show k + 1 ≤ 68
  omega

theorem put (x : FVec Ideal S68x8x64x4x512 .f32) (u : FVec Ideal S1x8x64x4x512 .f32) (st : Fin 5 → Int) (hf) (hk : k < 68) (h0 : st 0 = k) (h1 : st 1 = 0)
    (h2 : st 2 = 0) (h3 : st 3 = 0) (h4 : st 4 = 0) (ch : Fin 68) (b : Fin 8) (j : Fin 64) (h : Fin 4) (e : Fin 512) :
    Host.dynamicUpdateSlice x u st hf (ix5 ch b j h e) = if (ch : ℕ) = k then u (ix5 0 b j h e) else x (ix5 ch b j h e) := by
  pointwise
  have c0 : Host.clampedStart S68x8x64x4x512 S1x8x64x4x512 rfl st (0 : Fin 5) = k := by
    refine Host.clampedStart_of_le (s := S68x8x64x4x512) (t := S1x8x64x4x512) rfl st (0 : Fin 5) k h0 ?_
    show k + 1 ≤ 68
    omega
  have c1 := cl_0 (s := S68x8x64x4x512) (t := S1x8x64x4x512) rfl st (1 : Fin 5) 0 h1
  have c2 := cl_0 (s := S68x8x64x4x512) (t := S1x8x64x4x512) rfl st (2 : Fin 5) 0 h2
  have c3 := cl_0 (s := S68x8x64x4x512) (t := S1x8x64x4x512) rfl st (3 : Fin 5) 0 h3
  have c4 := cl_0 (s := S68x8x64x4x512) (t := S1x8x64x4x512) rfl st (4 : Fin 5) 0 h4
  have hb := b.isLt
  have hj := j.isLt
  have hh := h.isLt
  have he := e.isLt
  split
  · rename_i hin
    rw [if_pos (by omega)]
    refine congrArg u (ix5_eq ?_ ?_ ?_ ?_ ?_)
    · show (ch : ℕ) - _ = 0; omega
    · show (b : ℕ) - _ = b; omega
    · show (j : ℕ) - _ = j; omega
    · show (h : ℕ) - _ = h; omega
    · show (e : ℕ) - _ = e; omega
  · rename_i hin
    rw [if_neg]
    intro hc
    apply hin
    omega

section chunk
include A hk

theorem At.start (i : S_.Idx) : BitVec.toInt (V (Proc.devRef .tc main_v91_6) i) = (k : ℤ) := by
  rw [A.r_ctr, word68 hk]

theorem At.k_ (b : Fin 8) (j : Fin 64) (h : Fin 4) (x : Fin 256) :
    res_main_while0b_v100 V (ix4 b j h x) = (((X.sq b h).k (64 * k + j) x : ℝ) : EReal) :=
  (rd256 _ _ _ _ hk (A.start hk _) rfl rfl rfl rfl b j h x).trans (A.r_k ⟨k, hk⟩ b j h x)
theorem At.v_ (b : Fin 8) (j : Fin 64) (h : Fin 4) (x : Fin 512) :
    res_main_while0b_v101 V (ix4 b j h x) = (((X.sq b h).v (64 * k + j) x : ℝ) : EReal) :=
  (rd512 _ _ _ _ hk (A.start hk _) rfl rfl rfl rfl b j h x).trans (A.r_v ⟨k, hk⟩ b j h x)
theorem At.q_ (b : Fin 8) (j : Fin 64) (h : Fin 4) (x : Fin 256) :
    res_main_while0b_v104 V (ix4 b j h x) = (((X.sq b h).q (64 * k + j) x : ℝ) : EReal) :=
  (rd256 _ _ _ _ hk (A.start hk _) rfl rfl rfl rfl b j h x).trans (A.r_q ⟨k, hk⟩ b j h x)
theorem At.ig_ (b : Fin 8) (j : Fin 64) (h : Fin 4) :
    res_main_while0b_v102 V (ix3 b j h) = (((X.sq b h).ig (64 * k + j) : ℝ) : EReal) :=
  (rd1 _ _ _ _ hk (A.start hk _) rfl rfl rfl b j h).trans (A.r_ig ⟨k, hk⟩ b j h)

/-- The log forget gates summed up inside the chunk. -/
theorem At.b_ (b : Fin 8) (j : Fin 64) (h : Fin 4) :
    res_main_while0b_v105 V (ix3 b j h) = (((X.sq b h).b (64 * k) j : ℝ) : EReal) := by
  unfold res_main_while0b_v105
  refine (cumsum_val _ _ ?_ _ _ b j h).trans ?_
  · intro i
    pointwise
  · have e := (X.sq b h).b_eq (64 * k) (Equiv.refl (Fin 64)) j
    rw [show (((Equiv.refl (Fin 64)) j : Fin 64) : ℕ) = j from rfl] at e
    rw [← e, ← coe_sum]
    refine Finset.sum_congr rfl fun q _ => ?_
    show (if q ≤ j then _ else _) = (((if q ≤ j then (X.sq b h).lf (64 * k + q) else 0 : ℝ)) : EReal)
    split
    · exact (rd1 _ _ _ _ hk (A.start hk _) rfl rfl rfl b q h).trans (A.r_lf ⟨k, hk⟩ b q h)
    · rfl

theorem At.end_ (b : Fin 8) (h : Fin 4) :
    res_main_while0b_v107 V (ix2 b h) = (((X.sq b h).F (64 * k + 64) - (X.sq b h).F (64 * k) : ℝ) : EReal) := by
  pointwise [res_main_while0b_v107]
  exact A.b_ hk b 63 h

theorem At.toEnd (b : Fin 8) (j : Fin 64) (h : Fin 4) :
    res_main_while0b_v111 V (ix3 b j h) = (((X.sq b h).F (64 * k + 64) - (X.sq b h).F (64 * k) : ℝ) : EReal)
      - (((X.sq b h).b (64 * k) j : ℝ) : EReal) + (((X.sq b h).ig (64 * k + j) : ℝ) : EReal) := by
  pointwise [res_main_while0b_v111]
  rw [A.end_ hk, A.b_ hk, A.ig_ hk]

theorem At.M_ (b : Fin 8) (h : Fin 4) :
    res_main_while0b_v114 V (ix2 b h) = (((X.sq b h).M (64 * k + 64) : ℝ) : EReal) := by
  have e := (X.sq b h).mnew_E (64 * k) (Equiv.refl (Fin 64))
  pointwise [res_main_while0b_v114]
  rw [show Ideal.ofBits FTy.f32 4286578688#32 = ⊥ from neg_inf, A.end_ hk, A.r_m]
  refine (congrArg (max (_ : EReal)) (Shape.ReducesTo.fold_fiber_r3_a1 _ _ _ _ _)).trans (Eq.trans ?_ e)
  congr 1
  refine Finset.fold_congr fun p _ => ?_
  exact A.toEnd hk b p h

theorem At.dlog (b : Fin 8) (j p : Fin 64) (h : Fin 4) :
    res_main_while0b_v123 V (ix4 b j p h) = if p ≤ j then (((X.sq b h).b (64 * k) j : ℝ) : EReal)
      - (((X.sq b h).b (64 * k) p : ℝ) : EReal) + (((X.sq b h).ig (64 * k + p) : ℝ) : EReal) else ⊥ := by
  pointwise [res_main_while0b_v123]
  rw [A.r_tri, A.b_ hk, A.b_ hk, A.ig_ hk, select_mask]
  split
  · rfl
  · exact neg_inf

theorem At.inter (b : Fin 8) (j : Fin 64) (h : Fin 4) :
    res_main_while0b_v126 V (ix3 b j h) = (((X.sq b h).b (64 * k) j : ℝ) : EReal) + (((X.sq b h).M (64 * k) : ℝ) : EReal) := by
  pointwise [res_main_while0b_v126]
  rw [A.b_ hk, A.r_m]

theorem At.mj (b : Fin 8) (j : Fin 64) (h : Fin 4) :
    res_main_while0b_v128 V (ix3 b j h) = (((X.sq b h).M (64 * k + j + 1) : ℝ) : EReal) := by
  have e := (X.sq b h).mj_E (64 * k) (Equiv.refl (Fin 64)) j
  pointwise [res_main_while0b_v128]
  rw [show Ideal.ofBits FTy.f32 4286578688#32 = ⊥ from neg_inf, A.inter hk]
  refine (congrArg (max (_ : EReal)) (Shape.ReducesTo.fold_fiber_r4_a2 _ _ _ _ _)).trans (Eq.trans ?_ e)
  congr 1
  refine Finset.fold_congr fun p _ => ?_
  exact A.dlog hk b j p h

theorem At.wt (b : Fin 8) (j p : Fin 64) (h : Fin 4) :
    res_main_while0b_v135 V (ix4 b j p h) = ((if p ≤ j then (X.sq b h).qk (64 * k + j) (64 * k + p)
      * Real.exp ((X.sq b h).b (64 * k) j - (X.sq b h).b (64 * k) p + (X.sq b h).ig (64 * k + p) - (X.sq b h).M (64 * k + j + 1)) else 0 : ℝ) : EReal) := by
  refine Eq.trans ?_ ((X.sq b h).wt_E (64 * k) (Equiv.refl (Fin 64)) j p ((X.sq b h).qk (64 * k + j) (64 * k + p)))
  pointwise [res_main_while0b_v135]
  rw [A.dlog hk, A.mj hk]
  refine congrArg₂ _ ?_ rfl
  simp only [A.k_ hk, A.q_ hk, ← EReal.coe_mul, coe_sum]
  refine congrArg _ (Finset.sum_congr rfl fun x _ => mul_comm _ _)

theorem At.wInter (b : Fin 8) (j : Fin 64) (h : Fin 4) :
    res_main_while0b_v137 V (ix3 b j h)
      = ((Real.exp ((X.sq b h).b (64 * k) j + (X.sq b h).M (64 * k) - (X.sq b h).M (64 * k + j + 1)) : ℝ) : EReal) := by
  pointwise [res_main_while0b_v137]
  rw [A.inter hk, A.mj hk, ← EReal.coe_add, ← EReal.coe_sub, Ideal.exp_coe]

theorem At.wState (b : Fin 8) (j : Fin 64) (h : Fin 4) :
    res_main_while0b_v161 V (ix3 b j h) = ((Real.exp ((X.sq b h).F (64 * k + 64) - (X.sq b h).F (64 * k) - (X.sq b h).b (64 * k) j
      + (X.sq b h).ig (64 * k + j) - (X.sq b h).M (64 * k + 64)) : ℝ) : EReal) := by
  pointwise [res_main_while0b_v161]
  rw [A.toEnd hk, A.M_ hk, ← EReal.coe_sub, ← EReal.coe_add, ← EReal.coe_sub, Ideal.exp_coe]

theorem At.decay (b : Fin 8) (h : Fin 4) :
    res_main_while0b_v164 V (ix2 b h) = ((Real.exp ((X.sq b h).F (64 * k + 64) - (X.sq b h).F (64 * k) + (X.sq b h).M (64 * k)
      - (X.sq b h).M (64 * k + 64)) : ℝ) : EReal) := by
  pointwise [res_main_while0b_v164]
  rw [A.end_ hk, A.r_m, A.M_ hk, ← EReal.coe_add, ← EReal.coe_sub, Ideal.exp_coe]

theorem At.C_next (b : Fin 8) (h : Fin 4) (e : Fin 512) (x : Fin 256) :
    step_main_v91_7 V (ix4 b h e x) = (((X.sq b h).acc (fun s => (X.sq b h).v s e) (64 * k + 64) x : ℝ) : EReal) := by
  unfold step_main_v91_7
  rw [id_eq]
  pointwise
  simp only [A.decay hk, A.r_C, A.v_ hk, A.wState hk, A.k_ hk, ← EReal.coe_mul, coe_sum, ← EReal.coe_add]
  rw [← (X.sq b h).acc_step (64 * k) (Equiv.refl (Fin 64)) (fun s => (X.sq b h).v s e) x]
  refine congrArg _ (congrArg _ (Finset.sum_congr rfl fun p _ => mul_comm _ _))

theorem At.n_next (b : Fin 8) (h : Fin 4) (x : Fin 256) :
    step_main_v91_8 V (ix3 b h x) = (((X.sq b h).acc (fun _ => 1) (64 * k + 64) x : ℝ) : EReal) := by
  unfold step_main_v91_8
  rw [id_eq]
  pointwise
  simp only [A.decay hk, A.r_n, A.wState hk, A.k_ hk, ← EReal.coe_mul, coe_sum, ← EReal.coe_add]
  rw [← (X.sq b h).acc_step (64 * k) (Equiv.refl (Fin 64)) (fun _ => 1) x]
  refine congrArg _ (congrArg _ (Finset.sum_congr rfl fun p _ => ?_))
  rw [one_mul]
  exact mul_comm _ _

theorem At.m_next (b : Fin 8) (h : Fin 4) :
    step_main_v91_9 V (ix2 b h) = (((X.sq b h).M (64 * k + 64) : ℝ) : EReal) := by
  unfold step_main_v91_9
  rw [id_eq]
  exact A.M_ hk b h

/-- A quotient's numerator inside the chunk, against the values or the ones. -/
theorem At.num (b : Fin 8) (j : Fin 64) (h : Fin 4) (w : ℕ → ℝ) :
    (((∑ p : Fin 64, (if p ≤ j then (X.sq b h).qk (64 * k + j) (64 * k + p)
      * Real.exp ((X.sq b h).b (64 * k) j - (X.sq b h).b (64 * k) p + (X.sq b h).ig (64 * k + p) - (X.sq b h).M (64 * k + j + 1)) else 0) * w (64 * k + p))
      + Real.exp ((X.sq b h).b (64 * k) j + (X.sq b h).M (64 * k) - (X.sq b h).M (64 * k + j + 1))
        * (∑ x : Fin 256, (X.sq b h).q (64 * k + j) x * (X.sq b h).acc w (64 * k) x) : ℝ) : EReal)
      = (((X.sq b h).rd w (64 * k + j) : ℝ) : EReal) :=
  congrArg _ ((X.sq b h).rd_step (64 * k) (Equiv.refl (Fin 64)) w j)

/-- The outputs of the chunk, as the step writes them. -/
theorem At.out_val (u : FVec Ideal S1x8x64x4x512 .f32)
    (hu : u = broadcastInDim S1x8x64x4x512 ![1, 2, 3, 4] Gen.bcast_S8x64x4x512_S1x8x64x4x512_1_2_3_4
          (Host.divf
            (addf
              (transpose S8x64x4x512 [0, 3, 1, 2]
                (Host.dotGeneral (F := Ideal) (φ₁ := .f32) (φ₂ := .f32) dot_S8x64x4x512_S8x64x64x4_S8x4x512x64_1_2_3_1_02_03 none (res_main_while0b_v101 V)
                  (res_main_while0b_v135 V))
                Gen.transposes_S8x4x512x64_S8x64x4x512_0_3_1_2)
              (mulf
                (broadcastInDim S8x64x4x512 ![0, 1, 2, 3] Gen.bcast_S8x64x4x1_S8x64x4x512_0_1_2_3
                  (broadcastInDim S8x64x4x1 ![0, 1, 2] Gen.bcast_S8x64x4_S8x64x4x1_0_1_2 (res_main_while0b_v137 V)))
                (transpose S8x64x4x512 [0, 2, 1, 3]
                  (Host.dotGeneral (F := Ideal) (φ₁ := .f32) (φ₂ := .f32) dot_S8x64x4x256_S8x4x512x256_S8x4x64x512_3_3_1_2_02_01 none (res_main_while0b_v104 V)
                    (V (Proc.tc.devRef main_v91_7)))
                  Gen.transposes_S8x4x64x512_S8x64x4x512_0_2_1_3)))
            (broadcastInDim S8x64x4x512 ![0, 1, 2, 3] Gen.bcast_S8x64x4x1_S8x64x4x512_0_1_2_3
              (broadcastInDim S8x64x4x1 ![0, 1, 2] Gen.bcast_S8x64x4_S8x64x4x1_0_1_2
                (maximumf
                  (Host.absf
                    (addf
                      (Host.reduceAdd (res_main_while0b_v135 V) (constant S_ FTy.f32 0#32)
                        Gen.reducesTo_S8x64x64x4_S8x64x4_d2 Gen.h_S_)
                      (mulf (res_main_while0b_v137 V)
                        (transpose S8x64x4 [0, 2, 1]
                          (Host.dotGeneral (F := Ideal) (φ₁ := .f32) (φ₂ := .f32) dot_S8x64x4x256_S8x4x256_S8x4x64_3_2_1_n_02_01 none (res_main_while0b_v104 V)
                            (V (Proc.tc.devRef main_v91_8)))
                          Gen.transposes_S8x4x64_S8x64x4_0_2_1))))
                  (Host.exp (Host.negf (res_main_while0b_v128 V))))))))
    (b : Fin 8) (j : Fin 64) (h : Fin 4) (e : Fin 512) :
    u (ix5 0 b j h e) = (((X.sq b h).H (64 * k + j) e : ℝ) : EReal) := by
  rw [hu]
  pointwise
  simp only [A.wt hk, A.wInter hk, A.mj hk, A.v_ hk, A.q_ hk, A.r_C, A.r_n, ← EReal.coe_mul, coe_sum, ← EReal.coe_add, absf_E]
  have e1 := A.num hk b j h (fun s => (X.sq b h).v s e)
  have e2 := A.num hk b j h (fun _ => 1)
  simp only [mul_one] at e2
  simp only [mul_comm ((X.sq b h).v _ e)]
  rw [e2, e1, ← EReal.coe_neg, coe_max, ← abs_eq_max_neg]
  exact (X.sq b h).H_E (64 * k + j) e

theorem At.out_next (ch : Fin 68) (hc : (ch : ℕ) < k + 1) (b : Fin 8) (j : Fin 64) (h : Fin 4) (e : Fin 512) :
    step_main_v91_10 V (ix5 ch b j h e) = (((X.sq b h).H (64 * ch + j) e : ℝ) : EReal) := by
  unfold step_main_v91_10
  rw [id_eq]
  refine (put _ _ _ _ hk (A.start hk _) rfl rfl rfl rfl ch b j h e).trans ?_
  split
  · rename_i hch
    rw [hch]
    exact A.out_val hk _ rfl b j h e
  · rename_i hch
    exact A.r_out ch (by omega) b j h e

theorem At.ctr_next (i : S_.Idx) : step_main_v91_6 V i = BitVec.ofNat 32 (k + 1) := by
  unfold step_main_v91_6
  rw [id_eq]
  exact (congrArg (fun z : BitVec 32 => z + 1#32) (A.r_ctr i)).trans (BitVec.ofNat_add k 1).symm

/-- One chunk's step. -/
theorem At.step : At X (k + 1) (STEP V) where
  r_ctr i := by rw [STEP_main_v91_6]; exact A.ctr_next hk i
  r_k := by rw [STEP_main_v91_0]; exact A.r_k
  r_v := by rw [STEP_main_v91_1]; exact A.r_v
  r_ig := by rw [STEP_main_v91_2]; exact A.r_ig
  r_lf := by rw [STEP_main_v91_3]; exact A.r_lf
  r_q := by rw [STEP_main_v91_4]; exact A.r_q
  r_tri := by rw [STEP_main_v91_5]; exact A.r_tri
  r_C := by rw [STEP_main_v91_7]; exact A.C_next hk
  r_n := by rw [STEP_main_v91_8]; exact A.n_next hk
  r_m := by rw [STEP_main_v91_9]; exact A.m_next hk
  r_out := by rw [STEP_main_v91_10]; exact A.out_next hk

end chunk

/-- All the chunks. -/
theorem At.iter {X : Ins} {V : Valuation τ sig (Elt Ideal)} (A : At X 0 V) : ∀ k, k ≤ 68 → At X k (STEP^[k] V)
  | 0, _ => A
  | k + 1, h => by
    rw [Function.iterate_succ_apply']
    exact (A.iter k (by omega)).step (by omega)

end Cert.Mlstm

end
-- ==== Proof.MlStack.lean ====
/- The reference's stacked sequences: context, then latent tokens, for each direction, cut into chunks. -/
module

public import proofs.«01_k».proof.Proof.MlRef

@[expose] public section

set_option maxRecDepth 16384

noncomputable section

open Idealize.ShloMosaic Cert.Reference5Ideal Cert.Reference5Ideal.Value

namespace Cert.Mlstm

/-- The chunks of a stacked sequence are read at indices with the same numbers. -/
theorem ix3_eq {n0 n1 n2 : ℕ} {a a' : Fin n0} {b b' : Fin n1} {c c' : Fin n2} (h0 : (a : ℕ) = a') (h1 : (b : ℕ) = b') (h2 : (c : ℕ) = c') :
    ix3 a b c = ix3 a' b' c' := by
  rw [Fin.ext h0, Fin.ext h1, Fin.ext h2]

/-- The chunks of a stacked sequence with rows of width 256. -/
theorem cut256 (y : FVec Ideal S8x4352x4x256 .f32) (ch : Fin 68) (b : Fin 8) (j : Fin 64) (h : Fin 4) (x : Fin 256) :
    transpose S68x8x64x4x256 [1, 0, 2, 3, 4] (shapeCast S8x68x64x4x256 y Gen.shapeCasts_S8x4352x4x256_S8x68x64x4x256) Gen.transposes_S8x68x64x4x256_S68x8x64x4x256_1_0_2_3_4
      (ix5 ch b j h x) = y (ix4 b ⟨64 * ch + j, by omega⟩ h x) := by
  pointwise
  exact congrArg y (ix4_eq rfl (by show (ch : ℕ) * 64 + j = 64 * ch + j; omega) rfl rfl)

theorem two256 (y z : FVec Ideal S4x4352x4x256 .f32) (b : Fin 8) (n : Fin 4352) (h : Fin 4) (x : Fin 256) :
    concatenate S8x4352x4x256 0 [⟨S4x4352x4x256, y⟩, ⟨S4x4352x4x256, z⟩] Gen.concatenates_S4x4352x4x256_S4x4352x4x256_S8x4352x4x256_d0 (ix4 b n h x)
      = if hb : (b : ℕ) < 4 then y (ix4 ⟨b, hb⟩ n h x) else z (ix4 ⟨b - 4, by omega⟩ n h x) := by
  pointwise

theorem behind256 (y : FVec Ideal S4x256x4x256 .f32) (z : FVec Ideal S4x4096x4x256 .f32) (b : Fin 4) (n : Fin 4352) (h : Fin 4) (x : Fin 256) :
    concatenate S4x4352x4x256 1 [⟨S4x256x4x256, y⟩, ⟨S4x4096x4x256, z⟩] Gen.concatenates_S4x256x4x256_S4x4096x4x256_S4x4352x4x256_d1 (ix4 b n h x)
      = if hb : (n : ℕ) < 256 then y (ix4 b ⟨n, hb⟩ h x) else z (ix4 b ⟨n - 256, by omega⟩ h x) := by
  pointwise

theorem flipC256 (y : FVec Ideal S4x256x4x256 .f32) (b : Fin 4) (n : Fin 256) (h : Fin 4) (x : Fin 256) :
    Host.reverse [1] y (ix4 b n h x) = y (ix4 b n.rev h x) := by
  pointwise
  rfl

theorem flipL256 (y : FVec Ideal S4x4096x4x256 .f32) (b : Fin 4) (n : Fin 4096) (h : Fin 4) (x : Fin 256) :
    Host.reverse [1] y (ix4 b n h x) = y (ix4 b n.rev h x) := by
  pointwise
  rfl

def stack256 (cf cb : FVec Ideal S4x256x4x256 .f32) (lf lb : FVec Ideal S4x4096x4x256 .f32) : FVec Ideal S68x8x64x4x256 .f32 :=
  transpose S68x8x64x4x256 [1, 0, 2, 3, 4] (shapeCast S8x68x64x4x256
    (concatenate S8x4352x4x256 0 [⟨S4x4352x4x256, concatenate S4x4352x4x256 1 [⟨S4x256x4x256, cf⟩, ⟨S4x4096x4x256, lf⟩] Gen.concatenates_S4x256x4x256_S4x4096x4x256_S4x4352x4x256_d1⟩,
      ⟨S4x4352x4x256, concatenate S4x4352x4x256 1 [⟨S4x256x4x256, Host.reverse [1] cb⟩, ⟨S4x4096x4x256, Host.reverse [1] lb⟩] Gen.concatenates_S4x256x4x256_S4x4096x4x256_S4x4352x4x256_d1⟩]
      Gen.concatenates_S4x4352x4x256_S4x4352x4x256_S8x4352x4x256_d0) Gen.shapeCasts_S8x4352x4x256_S8x68x64x4x256) Gen.transposes_S8x68x64x4x256_S68x8x64x4x256_1_0_2_3_4

theorem stack256_val (cf cb : FVec Ideal S4x256x4x256 .f32) (lf lb : FVec Ideal S4x4096x4x256 .f32) (f : ℕ → ℕ → Fin 4 → Fin 256 → EReal)
    (h1 : ∀ (b : Fin 4) (n : Fin 256) h x, cf (ix4 b n h x) = f b n h x) (h2 : ∀ (b : Fin 4) (n : Fin 4096) h x, lf (ix4 b n h x) = f b (n + 256) h x)
    (h3 : ∀ (b : Fin 4) (n : Fin 256) h x, cb (ix4 b n h x) = f (b + 4) (255 - n) h x) (h4 : ∀ (b : Fin 4) (n : Fin 4096) h x, lb (ix4 b n h x) = f (b + 4) (4351 - n) h x)
    (ch : Fin 68) (b : Fin 8) (j : Fin 64) (h : Fin 4) (x : Fin 256) : stack256 cf cb lf lb (ix5 ch b j h x) = f b (64 * ch + j) h x := by
  unfold stack256
  rw [cut256, two256]
  split
  · rw [behind256]
    split
    · exact h1 _ _ _ _
    · rename_i hn
      rw [h2]
      have hn' : ¬ 64 * (ch : ℕ) + j < 256 := hn
      refine congrFun (congrFun (congrArg (f _) ?_) _) _
      show 64 * (ch : ℕ) + j - 256 + 256 = 64 * ch + j
      omega
  · rename_i hb
    rw [behind256]
    have e : ((⟨(b : ℕ) - 4, by omega⟩ : Fin 4) : ℕ) + 4 = b := by show (b : ℕ) - 4 + 4 = b; omega
    split
    · rename_i hn
      have hn' : 64 * (ch : ℕ) + j < 256 := hn
      rw [flipC256, h3, e]
      refine congrFun (congrFun (congrArg (f _) ?_) _) _
      rw [Fin.val_rev]
      show 255 - (256 - (64 * (ch : ℕ) + j + 1)) = 64 * ch + j
      omega
    · rename_i hn
      have hn' : ¬ 64 * (ch : ℕ) + j < 256 := hn
      rw [flipL256, h4, e]
      refine congrFun (congrFun (congrArg (f _) ?_) _) _
      rw [Fin.val_rev]
      show 4351 - (4096 - (64 * (ch : ℕ) + j - 256 + 1)) = 64 * ch + j
      omega

/-- The chunks of a stacked sequence with rows of width 512. -/
theorem cut512 (y : FVec Ideal S8x4352x4x512 .f32) (ch : Fin 68) (b : Fin 8) (j : Fin 64) (h : Fin 4) (x : Fin 512) :
    transpose S68x8x64x4x512 [1, 0, 2, 3, 4] (shapeCast S8x68x64x4x512 y Gen.shapeCasts_S8x4352x4x512_S8x68x64x4x512) Gen.transposes_S8x68x64x4x512_S68x8x64x4x512_1_0_2_3_4
      (ix5 ch b j h x) = y (ix4 b ⟨64 * ch + j, by omega⟩ h x) := by
  pointwise
  exact congrArg y (ix4_eq rfl (by show (ch : ℕ) * 64 + j = 64 * ch + j; omega) rfl rfl)

theorem two512 (y z : FVec Ideal S4x4352x4x512 .f32) (b : Fin 8) (n : Fin 4352) (h : Fin 4) (x : Fin 512) :
    concatenate S8x4352x4x512 0 [⟨S4x4352x4x512, y⟩, ⟨S4x4352x4x512, z⟩] Gen.concatenates_S4x4352x4x512_S4x4352x4x512_S8x4352x4x512_d0 (ix4 b n h x)
      = if hb : (b : ℕ) < 4 then y (ix4 ⟨b, hb⟩ n h x) else z (ix4 ⟨b - 4, by omega⟩ n h x) := by
  pointwise

theorem behind512 (y : FVec Ideal S4x256x4x512 .f32) (z : FVec Ideal S4x4096x4x512 .f32) (b : Fin 4) (n : Fin 4352) (h : Fin 4) (x : Fin 512) :
    concatenate S4x4352x4x512 1 [⟨S4x256x4x512, y⟩, ⟨S4x4096x4x512, z⟩] Gen.concatenates_S4x256x4x512_S4x4096x4x512_S4x4352x4x512_d1 (ix4 b n h x)
      = if hb : (n : ℕ) < 256 then y (ix4 b ⟨n, hb⟩ h x) else z (ix4 b ⟨n - 256, by omega⟩ h x) := by
  pointwise

theorem flipC512 (y : FVec Ideal S4x256x4x512 .f32) (b : Fin 4) (n : Fin 256) (h : Fin 4) (x : Fin 512) :
    Host.reverse [1] y (ix4 b n h x) = y (ix4 b n.rev h x) := by
  pointwise
  rfl

theorem flipL512 (y : FVec Ideal S4x4096x4x512 .f32) (b : Fin 4) (n : Fin 4096) (h : Fin 4) (x : Fin 512) :
    Host.reverse [1] y (ix4 b n h x) = y (ix4 b n.rev h x) := by
  pointwise
  rfl

def stack512 (cf cb : FVec Ideal S4x256x4x512 .f32) (lf lb : FVec Ideal S4x4096x4x512 .f32) : FVec Ideal S68x8x64x4x512 .f32 :=
  transpose S68x8x64x4x512 [1, 0, 2, 3, 4] (shapeCast S8x68x64x4x512
    (concatenate S8x4352x4x512 0 [⟨S4x4352x4x512, concatenate S4x4352x4x512 1 [⟨S4x256x4x512, cf⟩, ⟨S4x4096x4x512, lf⟩] Gen.concatenates_S4x256x4x512_S4x4096x4x512_S4x4352x4x512_d1⟩,
      ⟨S4x4352x4x512, concatenate S4x4352x4x512 1 [⟨S4x256x4x512, Host.reverse [1] cb⟩, ⟨S4x4096x4x512, Host.reverse [1] lb⟩] Gen.concatenates_S4x256x4x512_S4x4096x4x512_S4x4352x4x512_d1⟩]
      Gen.concatenates_S4x4352x4x512_S4x4352x4x512_S8x4352x4x512_d0) Gen.shapeCasts_S8x4352x4x512_S8x68x64x4x512) Gen.transposes_S8x68x64x4x512_S68x8x64x4x512_1_0_2_3_4

theorem stack512_val (cf cb : FVec Ideal S4x256x4x512 .f32) (lf lb : FVec Ideal S4x4096x4x512 .f32) (f : ℕ → ℕ → Fin 4 → Fin 512 → EReal)
    (h1 : ∀ (b : Fin 4) (n : Fin 256) h x, cf (ix4 b n h x) = f b n h x) (h2 : ∀ (b : Fin 4) (n : Fin 4096) h x, lf (ix4 b n h x) = f b (n + 256) h x)
    (h3 : ∀ (b : Fin 4) (n : Fin 256) h x, cb (ix4 b n h x) = f (b + 4) (255 - n) h x) (h4 : ∀ (b : Fin 4) (n : Fin 4096) h x, lb (ix4 b n h x) = f (b + 4) (4351 - n) h x)
    (ch : Fin 68) (b : Fin 8) (j : Fin 64) (h : Fin 4) (x : Fin 512) : stack512 cf cb lf lb (ix5 ch b j h x) = f b (64 * ch + j) h x := by
  unfold stack512
  rw [cut512, two512]
  split
  · rw [behind512]
    split
    · exact h1 _ _ _ _
    · rename_i hn
      rw [h2]
      have hn' : ¬ 64 * (ch : ℕ) + j < 256 := hn
      refine congrFun (congrFun (congrArg (f _) ?_) _) _
      show 64 * (ch : ℕ) + j - 256 + 256 = 64 * ch + j
      omega
  · rename_i hb
    rw [behind512]
    have e : ((⟨(b : ℕ) - 4, by omega⟩ : Fin 4) : ℕ) + 4 = b := by show (b : ℕ) - 4 + 4 = b; omega
    split
    · rename_i hn
      have hn' : 64 * (ch : ℕ) + j < 256 := hn
      rw [flipC512, h3, e]
      refine congrFun (congrFun (congrArg (f _) ?_) _) _
      rw [Fin.val_rev]
      show 255 - (256 - (64 * (ch : ℕ) + j + 1)) = 64 * ch + j
      omega
    · rename_i hn
      have hn' : ¬ 64 * (ch : ℕ) + j < 256 := hn
      rw [flipL512, h4, e]
      refine congrFun (congrFun (congrArg (f _) ?_) _) _
      rw [Fin.val_rev]
      show 4351 - (4096 - (64 * (ch : ℕ) + j - 256 + 1)) = 64 * ch + j
      omega

/-- The chunks of a stacked sequence with rows of width 1. -/
theorem cut1 (y : FVec Ideal S8x4352x4 .f32) (ch : Fin 68) (b : Fin 8) (j : Fin 64) (h : Fin 4) :
    transpose S68x8x64x4 [1, 0, 2, 3] (shapeCast S8x68x64x4 y Gen.shapeCasts_S8x4352x4_S8x68x64x4) Gen.transposes_S8x68x64x4_S68x8x64x4_1_0_2_3
      (ix4 ch b j h) = y (ix3 b ⟨64 * ch + j, by omega⟩ h) := by
  pointwise
  exact congrArg y (ix3_eq rfl (by show (ch : ℕ) * 64 + j = 64 * ch + j; omega) rfl)

theorem two1 (y z : FVec Ideal S4x4352x4 .f32) (b : Fin 8) (n : Fin 4352) (h : Fin 4) :
    concatenate S8x4352x4 0 [⟨S4x4352x4, y⟩, ⟨S4x4352x4, z⟩] Gen.concatenates_S4x4352x4_S4x4352x4_S8x4352x4_d0 (ix3 b n h)
      = if hb : (b : ℕ) < 4 then y (ix3 ⟨b, hb⟩ n h) else z (ix3 ⟨b - 4, by omega⟩ n h) := by
  pointwise

theorem behind1 (y : FVec Ideal S4x256x4 .f32) (z : FVec Ideal S4x4096x4 .f32) (b : Fin 4) (n : Fin 4352) (h : Fin 4) :
    concatenate S4x4352x4 1 [⟨S4x256x4, y⟩, ⟨S4x4096x4, z⟩] Gen.concatenates_S4x256x4_S4x4096x4_S4x4352x4_d1 (ix3 b n h)
      = if hb : (n : ℕ) < 256 then y (ix3 b ⟨n, hb⟩ h) else z (ix3 b ⟨n - 256, by omega⟩ h) := by
  pointwise

theorem flipC1 (y : FVec Ideal S4x256x4 .f32) (b : Fin 4) (n : Fin 256) (h : Fin 4) :
    Host.reverse [1] y (ix3 b n h) = y (ix3 b n.rev h) := by
  pointwise
  rfl

theorem flipL1 (y : FVec Ideal S4x4096x4 .f32) (b : Fin 4) (n : Fin 4096) (h : Fin 4) :
    Host.reverse [1] y (ix3 b n h) = y (ix3 b n.rev h) := by
  pointwise
  rfl

def stack1 (cf cb : FVec Ideal S4x256x4 .f32) (lf lb : FVec Ideal S4x4096x4 .f32) : FVec Ideal S68x8x64x4 .f32 :=
  transpose S68x8x64x4 [1, 0, 2, 3] (shapeCast S8x68x64x4
    (concatenate S8x4352x4 0 [⟨S4x4352x4, concatenate S4x4352x4 1 [⟨S4x256x4, cf⟩, ⟨S4x4096x4, lf⟩] Gen.concatenates_S4x256x4_S4x4096x4_S4x4352x4_d1⟩,
      ⟨S4x4352x4, concatenate S4x4352x4 1 [⟨S4x256x4, Host.reverse [1] cb⟩, ⟨S4x4096x4, Host.reverse [1] lb⟩] Gen.concatenates_S4x256x4_S4x4096x4_S4x4352x4_d1⟩]
      Gen.concatenates_S4x4352x4_S4x4352x4_S8x4352x4_d0) Gen.shapeCasts_S8x4352x4_S8x68x64x4) Gen.transposes_S8x68x64x4_S68x8x64x4_1_0_2_3

theorem stack1_val (cf cb : FVec Ideal S4x256x4 .f32) (lf lb : FVec Ideal S4x4096x4 .f32) (f : ℕ → ℕ → Fin 4 → EReal)
    (h1 : ∀ (b : Fin 4) (n : Fin 256) h, cf (ix3 b n h) = f b n h) (h2 : ∀ (b : Fin 4) (n : Fin 4096) h, lf (ix3 b n h) = f b (n + 256) h)
    (h3 : ∀ (b : Fin 4) (n : Fin 256) h, cb (ix3 b n h) = f (b + 4) (255 - n) h) (h4 : ∀ (b : Fin 4) (n : Fin 4096) h, lb (ix3 b n h) = f (b + 4) (4351 - n) h)
    (ch : Fin 68) (b : Fin 8) (j : Fin 64) (h : Fin 4) : stack1 cf cb lf lb (ix4 ch b j h) = f b (64 * ch + j) h := by
  unfold stack1
  rw [cut1, two1]
  split
  · rw [behind1]
    split
    · exact h1 _ _ _
    · rename_i hn
      rw [h2]
      have hn' : ¬ 64 * (ch : ℕ) + j < 256 := hn
      refine congrFun (congrArg (f _) ?_) _
      show 64 * (ch : ℕ) + j - 256 + 256 = 64 * ch + j
      omega
  · rename_i hb
    rw [behind1]
    have e : ((⟨(b : ℕ) - 4, by omega⟩ : Fin 4) : ℕ) + 4 = b := by show (b : ℕ) - 4 + 4 = b; omega
    split
    · rename_i hn
      have hn' : 64 * (ch : ℕ) + j < 256 := hn
      rw [flipC1, h3, e]
      refine congrFun (congrArg (f _) ?_) _
      rw [Fin.val_rev]
      show 255 - (256 - (64 * (ch : ℕ) + j + 1)) = 64 * ch + j
      omega
    · rename_i hn
      have hn' : ¬ 64 * (ch : ℕ) + j < 256 := hn
      rw [flipL1, h4, e]
      refine congrFun (congrArg (f _) ?_) _
      rw [Fin.val_rev]
      show 4351 - (4096 - (64 * (ch : ℕ) + j - 256 + 1)) = 64 * ch + j
      omega

end Cert.Mlstm

end
-- ==== Proof.MlEntry.lean ====
/- The memory the reference's scan starts from. -/
module

public import proofs.«01_k».proof.Proof.MlStack

@[expose] public section

set_option maxRecDepth 16384

noncomputable section

open Idealize.ShloMosaic Idealize.ShloMosaic.TcCoe Idealize.ShloMosaic.StableHlo Idealize.SL.Sem
open Cert.Reference5Ideal Cert.Reference5Ideal.Gen Cert.Reference5Ideal.Value

namespace Cert.Mlstm

/-- Columns of a latent or context projection, as heads. -/
def headsL256 (o : ℕ) (hs : S4x4096x12288.Slices ![0, 0, o] S4x4096x1024) (x : FVec Ideal S4x4096x12288 .f32) : FVec Ideal S4x4096x4x256 .f32 :=
  shapeCast S4x4096x4x256 (extractStridedSlice S4x4096x1024 ![0, 0, o] x hs) Gen.shapeCasts_S4x4096x1024_S4x4096x4x256
def headsL512 (x : FVec Ideal S4x4096x12288 .f32) : FVec Ideal S4x4096x4x512 .f32 :=
  shapeCast S4x4096x4x512 (extractStridedSlice S4x4096x2048 ![0, 0, 10240] x Gen.slices_S4x4096x12288_S4x4096x2048_0_0_10240) Gen.shapeCasts_S4x4096x2048_S4x4096x4x512
def headsC256 (x : FVec Ideal S4x256x3072 .f32) : FVec Ideal S4x256x4x256 .f32 :=
  shapeCast S4x256x4x256 (extractStridedSlice S4x256x1024 ![0, 0, 2048] x Gen.slices_S4x256x3072_S4x256x1024_0_0_2048) Gen.shapeCasts_S4x256x1024_S4x256x4x256
def headsC512 (x : FVec Ideal S4x256x3072 .f32) : FVec Ideal S4x256x4x512 .f32 :=
  shapeCast S4x256x4x512 (extractStridedSlice S4x256x2048 ![0, 0, 0] x Gen.slices_S4x256x3072_S4x256x2048_0_0_0) Gen.shapeCasts_S4x256x2048_S4x256x4x512
/-- The context's queries: none. -/
def none256 : FVec Ideal S4x256x4x256 .f32 := broadcastInDim S4x256x4x256 ![] Gen.bcast_S_S4x256x4x256 (constant S_ .f32 0x00000000#32)
/-- Gates with their bias, split by direction and kind, and a kind's gates of one direction. -/
def gatesL (g : FVec Ideal S4x4096x128 .f32) (bi : FVec Ideal S1x16 .f32) : FVec Ideal S4x4096x2x2x4 .f32 :=
  shapeCast S4x4096x2x2x4 (addf (extractStridedSlice S4x4096x16 ![0, 0, 0] g Gen.slices_S4x4096x128_S4x4096x16_0_0_0) (broadcastInDim S4x4096x16 ![0, 1, 2] Gen.bcast_S1x1x16_S4x4096x16_0_1_2
    (broadcastInDim S1x1x16 ![2] Gen.bcast_S16_S1x1x16_2 (shapeCast S16 bi Gen.shapeCasts_S1x16_S16)))) Gen.shapeCasts_S4x4096x16_S4x4096x2x2x4
def kindL (o : ℕ) (hs : S4x4096x2x2x4.Slices ![0, 0, 0, o, 0] S4x4096x2x1x4) (g : FVec Ideal S4x4096x2x2x4 .f32) : FVec Ideal S4x4096x2x4 .f32 :=
  shapeCast S4x4096x2x4 (extractStridedSlice S4x4096x2x1x4 ![0, 0, 0, o, 0] g hs) Gen.shapeCasts_S4x4096x2x1x4_S4x4096x2x4
def dirL (o : ℕ) (hs : S4x4096x2x4.Slices ![0, 0, o, 0] S4x4096x1x4) (g : FVec Ideal S4x4096x2x4 .f32) : FVec Ideal S4x4096x4 .f32 :=
  shapeCast S4x4096x4 (extractStridedSlice S4x4096x1x4 ![0, 0, o, 0] g hs) Gen.shapeCasts_S4x4096x1x4_S4x4096x4
def logL (g : FVec Ideal S4x4096x2x4 .f32) : FVec Ideal S4x4096x2x4 .f32 :=
  Host.negf (select (cmpf .une (subf (Host.negf g) (broadcastInDim S4x4096x2x4 ![] Gen.bcast_S_S4x4096x2x4 (constant S_ .f32 0x00000000#32)))
      (subf (Host.negf g) (broadcastInDim S4x4096x2x4 ![] Gen.bcast_S_S4x4096x2x4 (constant S_ .f32 0x00000000#32))))
    (addf (Host.negf g) (broadcastInDim S4x4096x2x4 ![] Gen.bcast_S_S4x4096x2x4 (constant S_ .f32 0x00000000#32)))
    (addf (maximumf (Host.negf g) (broadcastInDim S4x4096x2x4 ![] Gen.bcast_S_S4x4096x2x4 (constant S_ .f32 0x00000000#32)))
      (Host.log1p (Host.exp (Host.negf (Host.absf (subf (Host.negf g) (broadcastInDim S4x4096x2x4 ![] Gen.bcast_S_S4x4096x2x4 (constant S_ .f32 0x00000000#32)))))))))
/-- Gates with their bias, split by direction and kind, and a kind's gates of one direction. -/
def gatesC (g : FVec Ideal S4x256x128 .f32) (bi : FVec Ideal S1x16 .f32) : FVec Ideal S4x256x2x2x4 .f32 :=
  shapeCast S4x256x2x2x4 (addf (extractStridedSlice S4x256x16 ![0, 0, 0] g Gen.slices_S4x256x128_S4x256x16_0_0_0) (broadcastInDim S4x256x16 ![0, 1, 2] Gen.bcast_S1x1x16_S4x256x16_0_1_2
    (broadcastInDim S1x1x16 ![2] Gen.bcast_S16_S1x1x16_2 (shapeCast S16 bi Gen.shapeCasts_S1x16_S16)))) Gen.shapeCasts_S4x256x16_S4x256x2x2x4
def kindC (o : ℕ) (hs : S4x256x2x2x4.Slices ![0, 0, 0, o, 0] S4x256x2x1x4) (g : FVec Ideal S4x256x2x2x4 .f32) : FVec Ideal S4x256x2x4 .f32 :=
  shapeCast S4x256x2x4 (extractStridedSlice S4x256x2x1x4 ![0, 0, 0, o, 0] g hs) Gen.shapeCasts_S4x256x2x1x4_S4x256x2x4
def dirC (o : ℕ) (hs : S4x256x2x4.Slices ![0, 0, o, 0] S4x256x1x4) (g : FVec Ideal S4x256x2x4 .f32) : FVec Ideal S4x256x4 .f32 :=
  shapeCast S4x256x4 (extractStridedSlice S4x256x1x4 ![0, 0, o, 0] g hs) Gen.shapeCasts_S4x256x1x4_S4x256x4
def logC (g : FVec Ideal S4x256x2x4 .f32) : FVec Ideal S4x256x2x4 .f32 :=
  Host.negf (select (cmpf .une (subf (Host.negf g) (broadcastInDim S4x256x2x4 ![] Gen.bcast_S_S4x256x2x4 (constant S_ .f32 0x00000000#32)))
      (subf (Host.negf g) (broadcastInDim S4x256x2x4 ![] Gen.bcast_S_S4x256x2x4 (constant S_ .f32 0x00000000#32))))
    (addf (Host.negf g) (broadcastInDim S4x256x2x4 ![] Gen.bcast_S_S4x256x2x4 (constant S_ .f32 0x00000000#32)))
    (addf (maximumf (Host.negf g) (broadcastInDim S4x256x2x4 ![] Gen.bcast_S_S4x256x2x4 (constant S_ .f32 0x00000000#32)))
      (Host.log1p (Host.exp (Host.negf (Host.absf (subf (Host.negf g) (broadcastInDim S4x256x2x4 ![] Gen.bcast_S_S4x256x2x4 (constant S_ .f32 0x00000000#32)))))))))

variable (m : (ℓ : Loc nD τ sig) → Buf (Elt Ideal) ℓ) (c : Dev nD)

theorem entry_k : entryContents preI m c (Proc.devRef .tc main_v91_0)
    = stack256 (headsC256 (m ((c : Thread nD τ).loc main_arg2))) (headsC256 (m ((c : Thread nD τ).loc main_arg2))) (headsL256 9216 Gen.slices_S4x4096x12288_S4x4096x1024_0_0_9216 (m ((c : Thread nD τ).loc main_arg0))) (headsL256 9216 Gen.slices_S4x4096x12288_S4x4096x1024_0_0_9216 (m ((c : Thread nD τ).loc main_arg0))) := by
  unfold stack256 headsC256 headsL256
  simp only [entryContents, afterL_cons, afterL_nil]
  after_results_entrywise []

theorem entry_v : entryContents preI m c (Proc.devRef .tc main_v91_1)
    = stack512 (headsC512 (m ((c : Thread nD τ).loc main_arg2))) (headsC512 (m ((c : Thread nD τ).loc main_arg2))) (headsL512 (m ((c : Thread nD τ).loc main_arg0))) (headsL512 (m ((c : Thread nD τ).loc main_arg0))) := by
  unfold stack512 headsC512 headsL512
  simp only [entryContents, afterL_cons, afterL_nil]
  after_results_entrywise []

theorem entry_q : entryContents preI m c (Proc.devRef .tc main_v91_4)
    = stack256 none256 none256 (headsL256 6144 Gen.slices_S4x4096x12288_S4x4096x1024_0_0_6144 (m ((c : Thread nD τ).loc main_arg0))) (headsL256 6144 Gen.slices_S4x4096x12288_S4x4096x1024_0_0_6144 (m ((c : Thread nD τ).loc main_arg0))) := by
  unfold stack256 none256 headsL256
  simp only [entryContents, afterL_cons, afterL_nil]
  after_results_entrywise []

theorem entry_ig : entryContents preI m c (Proc.devRef .tc main_v91_2)
    = stack1 (dirC 0 Gen.slices_S4x256x2x4_S4x256x1x4_0_0_0_0 (kindC 0 Gen.slices_S4x256x2x2x4_S4x256x2x1x4_0_0_0_0_0 (gatesC (m ((c : Thread nD τ).loc main_arg3)) (m ((c : Thread nD τ).loc main_arg4))))) (dirC 1 Gen.slices_S4x256x2x4_S4x256x1x4_0_0_1_0 (kindC 0 Gen.slices_S4x256x2x2x4_S4x256x2x1x4_0_0_0_0_0 (gatesC (m ((c : Thread nD τ).loc main_arg3)) (m ((c : Thread nD τ).loc main_arg4)))))
      (dirL 0 Gen.slices_S4x4096x2x4_S4x4096x1x4_0_0_0_0 (kindL 0 Gen.slices_S4x4096x2x2x4_S4x4096x2x1x4_0_0_0_0_0 (gatesL (m ((c : Thread nD τ).loc main_arg1)) (m ((c : Thread nD τ).loc main_arg4))))) (dirL 1 Gen.slices_S4x4096x2x4_S4x4096x1x4_0_0_1_0 (kindL 0 Gen.slices_S4x4096x2x2x4_S4x4096x2x1x4_0_0_0_0_0 (gatesL (m ((c : Thread nD τ).loc main_arg1)) (m ((c : Thread nD τ).loc main_arg4))))) := by
  unfold stack1 dirC dirL kindC kindL gatesC gatesL
  simp only [entryContents, afterL_cons, afterL_nil]
  after_results_entrywise []

/-! The log forget gates, read a stretch of operations at a time. -/

theorem late_lf (W : Valuation τ sig (Elt Ideal)) :
    afterL [hostOps0_4, hostOps0_5, hostOps0_6, hostOps0_7, hostOps0_8, hostOps0_9, hostOps0_10, hostOps0_11, hostOps0_12, hostOps0_13, hostOps0_14,
        hostOps0_15, hostOps0_16, hostOps0_17, hostOps0_18, hostOps0_19, hostOps0_20, hostOps0_21] W (Proc.devRef .tc main_v91_3)
      = stack1 (dirC 0 Gen.slices_S4x256x2x4_S4x256x1x4_0_0_0_0 (W (Proc.devRef .tc main_v31))) (dirC 1 Gen.slices_S4x256x2x4_S4x256x1x4_0_0_1_0 (W (Proc.devRef .tc main_v31)))
        (dirL 0 Gen.slices_S4x4096x2x4_S4x4096x1x4_0_0_0_0 (W (Proc.devRef .tc main_v20))) (dirL 1 Gen.slices_S4x4096x2x4_S4x4096x1x4_0_0_1_0 (W (Proc.devRef .tc main_v20))) := by
  unfold stack1 dirC dirL
  simp only [afterL_cons, afterL_nil]
  after_results_entrywise []

theorem log_29 (W : Valuation τ sig (Elt Ideal)) : after hostOps0_3 W (Proc.devRef .tc main_v31) = logC (W (Proc.devRef .tc main_v30)) := by
  unfold logC
  after_results_entrywise []
theorem log_19 (W : Valuation τ sig (Elt Ideal)) : after hostOps0_1 W (Proc.devRef .tc main_v20) = logL (W (Proc.devRef .tc main_v19)) := by
  unfold logL
  after_results_entrywise []
theorem keep_19 (W : Valuation τ sig (Elt Ideal)) : after hostOps0_3 (after hostOps0_2 W) (Proc.devRef .tc main_v20) = W (Proc.devRef .tc main_v20) := by
  after_results_entrywise []
theorem keep_3 (W : Valuation τ sig (Elt Ideal)) : after hostOps0_1 (after hostOps0 W) (Proc.devRef .tc main_arg3) = W (Proc.devRef .tc main_arg3) := by
  after_results_entrywise []
theorem keep_4 (W : Valuation τ sig (Elt Ideal)) : after hostOps0_1 (after hostOps0 W) (Proc.devRef .tc main_arg4) = W (Proc.devRef .tc main_arg4) := by
  after_results_entrywise []
theorem kind_18 (W : Valuation τ sig (Elt Ideal)) : after hostOps0 W (Proc.devRef .tc main_v19)
    = kindL 1 Gen.slices_S4x4096x2x2x4_S4x4096x2x1x4_0_0_0_1_0 (gatesL (W (Proc.devRef .tc main_arg1)) (W (Proc.devRef .tc main_arg4))) := by
  unfold kindL gatesL
  after_results_entrywise []
theorem kind_28 (W : Valuation τ sig (Elt Ideal)) : after hostOps0_2 W (Proc.devRef .tc main_v30)
    = kindC 1 Gen.slices_S4x256x2x2x4_S4x256x2x1x4_0_0_0_1_0 (gatesC (W (Proc.devRef .tc main_arg3)) (W (Proc.devRef .tc main_arg4))) := by
  unfold kindC gatesC
  after_results_entrywise []

theorem entry_lf : entryContents preI m c (Proc.devRef .tc main_v91_3)
    = stack1 (dirC 0 Gen.slices_S4x256x2x4_S4x256x1x4_0_0_0_0 (logC (kindC 1 Gen.slices_S4x256x2x2x4_S4x256x2x1x4_0_0_0_1_0 (gatesC (m ((c : Thread nD τ).loc main_arg3)) (m ((c : Thread nD τ).loc main_arg4)))))) (dirC 1 Gen.slices_S4x256x2x4_S4x256x1x4_0_0_1_0 (logC (kindC 1 Gen.slices_S4x256x2x2x4_S4x256x2x1x4_0_0_0_1_0 (gatesC (m ((c : Thread nD τ).loc main_arg3)) (m ((c : Thread nD τ).loc main_arg4))))))
      (dirL 0 Gen.slices_S4x4096x2x4_S4x4096x1x4_0_0_0_0 (logL (kindL 1 Gen.slices_S4x4096x2x2x4_S4x4096x2x1x4_0_0_0_1_0 (gatesL (m ((c : Thread nD τ).loc main_arg1)) (m ((c : Thread nD τ).loc main_arg4)))))) (dirL 1 Gen.slices_S4x4096x2x4_S4x4096x1x4_0_0_1_0 (logL (kindL 1 Gen.slices_S4x4096x2x2x4_S4x4096x2x1x4_0_0_0_1_0 (gatesL (m ((c : Thread nD τ).loc main_arg1)) (m ((c : Thread nD τ).loc main_arg4)))))) := by
  refine (late_lf (after hostOps0_3 (after hostOps0_2 (after hostOps0_1 (after hostOps0 fun b => m (c, b)))))).trans ?_
  rw [log_29, kind_28, keep_3, keep_4, keep_19, log_19, kind_18]

theorem entry_C (b : Fin 8) (h : Fin 4) (e : Fin 512) (x : Fin 256) :
    entryContents preI m c (Proc.devRef .tc main_v91_7) (ix4 b h e x) = ((0 : ℝ) : EReal) := by
  have e : entryContents preI m c (Proc.devRef .tc main_v91_7)
      = broadcastInDim S8x4x512x256 ![] Gen.bcast_S_S8x4x512x256 (constant (F := Ideal) S_ .f32 0x00000000#32) := by
    simp only [entryContents, afterL_cons, afterL_nil]
    after_results_entrywise []
  rw [e]
  pointwise
  rfl

theorem entry_n (b : Fin 8) (h : Fin 4) (x : Fin 256) : entryContents preI m c (Proc.devRef .tc main_v91_8) (ix3 b h x) = ((0 : ℝ) : EReal) := by
  have e : entryContents preI m c (Proc.devRef .tc main_v91_8) = broadcastInDim S8x4x256 ![] Gen.bcast_S_S8x4x256 (constant (F := Ideal) S_ .f32 0x00000000#32) := by
    simp only [entryContents, afterL_cons, afterL_nil]
    after_results_entrywise []
  rw [e]
  pointwise
  rfl

theorem entry_m (b : Fin 8) (h : Fin 4) : entryContents preI m c (Proc.devRef .tc main_v91_9) (ix2 b h) = ((0 : ℝ) : EReal) := by
  have e : entryContents preI m c (Proc.devRef .tc main_v91_9) = broadcastInDim S8x4 ![] Gen.bcast_S_S8x4 (constant (F := Ideal) S_ .f32 0x00000000#32) := by
    simp only [entryContents, afterL_cons, afterL_nil]
    after_results_entrywise []
  rw [e]
  pointwise
  rfl

theorem word64 (d : Fin 64) : (BitVec.ofNat 32 (d : ℕ)).toInt = (d : ℕ) := word68 (by omega)

theorem entry_tri (i j : Fin 64) : entryContents preI m c (Proc.devRef .tc main_v91_5) (ix4 0 i j 0) = if j ≤ i then 1#1 else 0#1 := by
  have e : entryContents preI m c (Proc.devRef .tc main_v91_5) = broadcastInDim S1x64x64x1 ![1, 2] Gen.bcast_S64x64_S1x64x64x1_1_2
      (select (cmpi .sge (addi (iotaInDim S64x64 32 0) (broadcastInDim S64x64 ![] Gen.bcast_S_S64x64 (constantI S_ 32 0#32))) (iotaInDim S64x64 32 1))
        (broadcastInDim S64x64 ![] Gen.bcast_S_S64x64 (constantI S_ 1 1#1)) (broadcastInDim S64x64 ![] Gen.bcast_S_S64x64 (constantI S_ 1 0#1))) := by
    simp only [entryContents, afterL_cons, afterL_nil]
    after_results_entrywise []
  rw [e]
  pointwise
  rw [show IntOp.addi (BitVec.ofNat 32 (i : ℕ)) 0#32 = BitVec.ofNat 32 (i : ℕ) from BitVec.add_zero _,
    mask_of (c := IntOp.cmpi .sge (BitVec.ofNat 32 (i : ℕ)) (BitVec.ofNat 32 (j : ℕ))) (p := j ≤ i) (by rw [IntOp.cmpi_sge, word64, word64, Fin.le_def]; omega), select_mask]

end Cert.Mlstm

end
-- ==== Proof.MlStart.lean ====
/- The reference's results on real arguments. -/
module

public import proofs.«01_k».proof.Proof.MlEntry
public import proofs.«01_k».proof.Proof.MlHead

@[expose] public section

set_option maxRecDepth 16384

noncomputable section

open Idealize.ShloMosaic Idealize.ShloMosaic.TcCoe Idealize.ShloMosaic.StableHlo Idealize.SL.Sem
open Cert.Reference5Ideal Cert.Reference5Ideal.Gen Cert.Reference5Ideal.Value

namespace Cert.Mlstm

variable (m : (ℓ : Loc nD τ sig) → Buf (Elt Ideal) ℓ) (c : Dev nD)

/-- The reference's arguments are the real numbers `X`. -/
structure RealR (X : Ins) : Prop where
  P : ∀ (b : Fin 4) (l : Fin 4096) (x : Fin 12288), m ((c : Thread nD τ).loc main_arg0) (ix3 b l x) = ((X.P b l x : ℝ) : EReal)
  G : ∀ (b : Fin 4) (l : Fin 4096) (x : Fin 128), m ((c : Thread nD τ).loc main_arg1) (ix3 b l x) = ((X.G b l x : ℝ) : EReal)
  PC : ∀ (b : Fin 4) (l : Fin 256) (x : Fin 3072), m ((c : Thread nD τ).loc main_arg2) (ix3 b l x) = ((X.PC b l x : ℝ) : EReal)
  GC : ∀ (b : Fin 4) (l : Fin 256) (x : Fin 128), m ((c : Thread nD τ).loc main_arg3) (ix3 b l x) = ((X.GC b l x : ℝ) : EReal)
  B : ∀ x : Fin 16, m ((c : Thread nD τ).loc main_arg4) (ix2 0 x) = ((X.B x : ℝ) : EReal)

/-! The arrays that are stacked, at an index. -/

theorem headsL256_val (o : ℕ) (hs) (x : FVec Ideal S4x4096x12288 .f32) (b : Fin 4) (n : Fin 4096) (h : Fin 4) (d : Fin 256) (ho : o + 1024 ≤ 12288) :
    headsL256 o hs x (ix4 b n h d) = x (ix3 b n ⟨o + (256 * h + d), by omega⟩) := by
  pointwise [headsL256]
  exact congrArg x (ix3_eq rfl rfl (by show o + ((h : ℕ) * 256 + d) = o + (256 * h + d); omega))

theorem headsL512_val (x : FVec Ideal S4x4096x12288 .f32) (b : Fin 4) (n : Fin 4096) (h : Fin 4) (d : Fin 512) :
    headsL512 x (ix4 b n h d) = x (ix3 b n ⟨10240 + (512 * h + d), by omega⟩) := by
  pointwise [headsL512]
  exact congrArg x (ix3_eq rfl rfl (by show 10240 + ((h : ℕ) * 512 + d) = 10240 + (512 * h + d); omega))

theorem headsC256_val (x : FVec Ideal S4x256x3072 .f32) (b : Fin 4) (n : Fin 256) (h : Fin 4) (d : Fin 256) :
    headsC256 x (ix4 b n h d) = x (ix3 b n ⟨2048 + (256 * h + d), by omega⟩) := by
  pointwise [headsC256]
  exact congrArg x (ix3_eq rfl rfl (by show 2048 + ((h : ℕ) * 256 + d) = 2048 + (256 * h + d); omega))

theorem headsC512_val (x : FVec Ideal S4x256x3072 .f32) (b : Fin 4) (n : Fin 256) (h : Fin 4) (d : Fin 512) :
    headsC512 x (ix4 b n h d) = x (ix3 b n ⟨512 * h + d, by omega⟩) := by
  pointwise [headsC512]
  exact congrArg x (ix3_eq rfl rfl (by show (h : ℕ) * 512 + d = 512 * h + d; omega))

theorem none256_val (i : S4x256x4x256.Idx) : none256 i = ((0 : ℝ) : EReal) := by
  pointwise [none256]
  rfl

theorem gatesL_val (g : FVec Ideal S4x4096x128 .f32) (bi : FVec Ideal S1x16 .f32) (b : Fin 4) (n : Fin 4096) (d ki : Fin 2) (h : Fin 4) :
    gatesL g bi (ix5 b n d ki h) = (g (ix3 b n ⟨8 * d + 4 * ki + h, by omega⟩) + bi (ix2 0 ⟨8 * d + 4 * ki + h, by omega⟩) : EReal) := by
  pointwise [gatesL]
  have e : (d : ℕ) * 8 + ki * 4 + h = 8 * d + 4 * ki + h := by omega
  exact congrArg₂ (fun z w => g (ix3 b n z) + bi (ix2 0 w)) (Fin.ext e) (Fin.ext e)

theorem kindL_val (o : ℕ) (ho : o < 2) (hs) (g : FVec Ideal S4x4096x2x2x4 .f32) (b : Fin 4) (n : Fin 4096) (d : Fin 2) (h : Fin 4) :
    kindL o hs g (ix4 b n d h) = g (ix5 b n d ⟨o, ho⟩ h) := by
  pointwise [kindL]

theorem dirL_val (o : ℕ) (ho : o < 2) (hs) (g : FVec Ideal S4x4096x2x4 .f32) (b : Fin 4) (n : Fin 4096) (h : Fin 4) :
    dirL o hs g (ix3 b n h) = g (ix4 b n ⟨o, ho⟩ h) := by
  pointwise [dirL]

theorem logL_val (g : FVec Ideal S4x4096x2x4 .f32) (b : Fin 4) (n : Fin 4096) (d : Fin 2) (h : Fin 4) (x : ℝ) (hx : g (ix4 b n d h) = (x : EReal)) :
    logL g (ix4 b n d h) = ((lsg x : ℝ) : EReal) := by
  pointwise [logL]
  simp only [absf_E, hx]
  have e := lsg_E x
  simp only [zero_sub] at e
  exact e

theorem gatesC_val (g : FVec Ideal S4x256x128 .f32) (bi : FVec Ideal S1x16 .f32) (b : Fin 4) (n : Fin 256) (d ki : Fin 2) (h : Fin 4) :
    gatesC g bi (ix5 b n d ki h) = (g (ix3 b n ⟨8 * d + 4 * ki + h, by omega⟩) + bi (ix2 0 ⟨8 * d + 4 * ki + h, by omega⟩) : EReal) := by
  pointwise [gatesC]
  have e : (d : ℕ) * 8 + ki * 4 + h = 8 * d + 4 * ki + h := by omega
  exact congrArg₂ (fun z w => g (ix3 b n z) + bi (ix2 0 w)) (Fin.ext e) (Fin.ext e)

theorem kindC_val (o : ℕ) (ho : o < 2) (hs) (g : FVec Ideal S4x256x2x2x4 .f32) (b : Fin 4) (n : Fin 256) (d : Fin 2) (h : Fin 4) :
    kindC o hs g (ix4 b n d h) = g (ix5 b n d ⟨o, ho⟩ h) := by
  pointwise [kindC]

theorem dirC_val (o : ℕ) (ho : o < 2) (hs) (g : FVec Ideal S4x256x2x4 .f32) (b : Fin 4) (n : Fin 256) (h : Fin 4) :
    dirC o hs g (ix3 b n h) = g (ix4 b n ⟨o, ho⟩ h) := by
  pointwise [dirC]

theorem logC_val (g : FVec Ideal S4x256x2x4 .f32) (b : Fin 4) (n : Fin 256) (d : Fin 2) (h : Fin 4) (x : ℝ) (hx : g (ix4 b n d h) = (x : EReal)) :
    logC g (ix4 b n d h) = ((lsg x : ℝ) : EReal) := by
  pointwise [logC]
  simp only [absf_E, hx]
  have e := lsg_E x
  simp only [zero_sub] at e
  exact e

/-! The sequences' values at a stacked line. -/

variable {m c} {X : Ins} (R : RealR m c X)

theorem line_f (b : Fin 4) : (b : ℕ) / 4 = 0 ∧ (b : ℕ) % 4 = b := by omega
theorem line_b (b : Fin 4) : ((b : ℕ) + 4) / 4 = 1 ∧ ((b : ℕ) + 4) % 4 = b := by omega

include R in
theorem at_k (ch : Fin 68) (b : Fin 8) (j : Fin 64) (h : Fin 4) (x : Fin 256) :
    entryContents preI m c (Proc.devRef .tc main_v91_0) (ix5 ch b j h x) = (((X.sq b h).k (64 * ch + j) x : ℝ) : EReal) := by
  rw [entry_k]
  refine stack256_val _ _ _ _ (fun b n h x => (((X.seq (b / 4) (b % 4) h).k n x : ℝ) : EReal)) ?_ ?_ ?_ ?_ ch b j h x <;> intro b n h x
  · rw [headsC256_val, R.PC, (line_f b).1, (line_f b).2]
    simp only [Ins.seq, Ins.cpos, n.isLt, if_true]
  · rw [headsL256_val _ _ _ _ _ _ _ (by omega), R.P, (line_f b).1, (line_f b).2]
    simp only [Ins.seq, Ins.lpos, if_true]
    rw [if_neg (by omega), Nat.add_sub_cancel]
  · rw [headsC256_val, R.PC, (line_b b).1, (line_b b).2]
    simp only [Ins.seq, Ins.cpos, one_ne_zero, if_false]
    rw [if_pos (by omega), show 255 - (255 - (n : ℕ)) = n from by omega]
  · rw [headsL256_val _ _ _ _ _ _ _ (by omega), R.P, (line_b b).1, (line_b b).2]
    simp only [Ins.seq, Ins.lpos, one_ne_zero, if_false]
    rw [if_neg (by omega), show 4351 - (4351 - (n : ℕ)) = n from by omega]

include R in
theorem at_v (ch : Fin 68) (b : Fin 8) (j : Fin 64) (h : Fin 4) (x : Fin 512) :
    entryContents preI m c (Proc.devRef .tc main_v91_1) (ix5 ch b j h x) = (((X.sq b h).v (64 * ch + j) x : ℝ) : EReal) := by
  rw [entry_v]
  refine stack512_val _ _ _ _ (fun b n h x => (((X.seq (b / 4) (b % 4) h).v n x : ℝ) : EReal)) ?_ ?_ ?_ ?_ ch b j h x <;> intro b n h x
  · rw [headsC512_val, R.PC, (line_f b).1, (line_f b).2]
    simp only [Ins.seq, Ins.cpos, n.isLt, if_true]
  · rw [headsL512_val, R.P, (line_f b).1, (line_f b).2]
    simp only [Ins.seq, Ins.lpos, if_true]
    rw [if_neg (by omega), Nat.add_sub_cancel]
  · rw [headsC512_val, R.PC, (line_b b).1, (line_b b).2]
    simp only [Ins.seq, Ins.cpos, one_ne_zero, if_false]
    rw [if_pos (by omega), show 255 - (255 - (n : ℕ)) = n from by omega]
  · rw [headsL512_val, R.P, (line_b b).1, (line_b b).2]
    simp only [Ins.seq, Ins.lpos, one_ne_zero, if_false]
    rw [if_neg (by omega), show 4351 - (4351 - (n : ℕ)) = n from by omega]

include R in
theorem at_q (ch : Fin 68) (b : Fin 8) (j : Fin 64) (h : Fin 4) (x : Fin 256) :
    entryContents preI m c (Proc.devRef .tc main_v91_4) (ix5 ch b j h x) = (((X.sq b h).q (64 * ch + j) x : ℝ) : EReal) := by
  rw [entry_q]
  refine stack256_val _ _ _ _ (fun b n h x => (((X.seq (b / 4) (b % 4) h).q n x : ℝ) : EReal)) ?_ ?_ ?_ ?_ ch b j h x <;> intro b n h x
  · rw [none256_val]
    simp only [Ins.seq, n.isLt, if_true]
  · rw [headsL256_val _ _ _ _ _ _ _ (by omega), R.P, (line_f b).1, (line_f b).2]
    simp only [Ins.seq, Ins.lpos, if_true]
    rw [if_neg (by omega), Nat.add_sub_cancel]
  · rw [none256_val]
    simp only [Ins.seq]
    rw [if_pos (by omega)]
  · rw [headsL256_val _ _ _ _ _ _ _ (by omega), R.P, (line_b b).1, (line_b b).2]
    simp only [Ins.seq, Ins.lpos, one_ne_zero, if_false]
    rw [if_neg (by omega), show 4351 - (4351 - (n : ℕ)) = n from by omega]

include R in
theorem gL (b : Fin 4) (n : Fin 4096) (d ki : Fin 2) (h : Fin 4) :
    gatesL (m ((c : Thread nD τ).loc main_arg1)) (m ((c : Thread nD τ).loc main_arg4)) (ix5 b n d ki h)
      = ((X.G b n (8 * d + 4 * ki + h) + X.B (8 * d + 4 * ki + h) : ℝ) : EReal) := by
  rw [gatesL_val, R.G, R.B, ← EReal.coe_add]

include R in
theorem gC (b : Fin 4) (n : Fin 256) (d ki : Fin 2) (h : Fin 4) :
    gatesC (m ((c : Thread nD τ).loc main_arg3)) (m ((c : Thread nD τ).loc main_arg4)) (ix5 b n d ki h)
      = ((X.GC b n (8 * d + 4 * ki + h) + X.B (8 * d + 4 * ki + h) : ℝ) : EReal) := by
  rw [gatesC_val, R.GC, R.B, ← EReal.coe_add]

include R in
theorem at_ig (ch : Fin 68) (b : Fin 8) (j : Fin 64) (h : Fin 4) :
    entryContents preI m c (Proc.devRef .tc main_v91_2) (ix4 ch b j h) = (((X.sq b h).ig (64 * ch + j) : ℝ) : EReal) := by
  rw [entry_ig]
  refine stack1_val _ _ _ _ (fun b n h => (((X.seq (b / 4) (b % 4) h).ig n : ℝ) : EReal)) ?_ ?_ ?_ ?_ ch b j h <;> intro b n h
  · rw [dirC_val 0 (by decide), kindC_val 0 (by decide), gC R, (line_f b).1, (line_f b).2]
    simp only [Ins.seq, Ins.gate, Ins.cpos, n.isLt, if_true]
  · rw [dirL_val 0 (by decide), kindL_val 0 (by decide), gL R, (line_f b).1, (line_f b).2]
    simp only [Ins.seq, Ins.gate, Ins.lpos, if_true]
    rw [if_neg (by omega), Nat.add_sub_cancel]
  · rw [dirC_val 1 (by decide), kindC_val 0 (by decide), gC R, (line_b b).1, (line_b b).2]
    simp only [Ins.seq, Ins.gate, Ins.cpos, one_ne_zero, if_false]
    rw [if_pos (by omega), show 255 - (255 - (n : ℕ)) = n from by omega]
  · rw [dirL_val 1 (by decide), kindL_val 0 (by decide), gL R, (line_b b).1, (line_b b).2]
    simp only [Ins.seq, Ins.gate, Ins.lpos, one_ne_zero, if_false]
    rw [if_neg (by omega), show 4351 - (4351 - (n : ℕ)) = n from by omega]

include R in
theorem at_lf (ch : Fin 68) (b : Fin 8) (j : Fin 64) (h : Fin 4) :
    entryContents preI m c (Proc.devRef .tc main_v91_3) (ix4 ch b j h) = (((X.sq b h).lf (64 * ch + j) : ℝ) : EReal) := by
  rw [entry_lf]
  refine stack1_val _ _ _ _ (fun b n h => (((X.seq (b / 4) (b % 4) h).lf n : ℝ) : EReal)) ?_ ?_ ?_ ?_ ch b j h <;> intro b n h
  · rw [dirC_val 0 (by decide), logC_val _ b n ⟨0, by decide⟩ h _ ((kindC_val 1 (by decide) _ _ b n _ h).trans (gC R b n _ _ h)), (line_f b).1, (line_f b).2]
    simp only [Ins.seq, Ins.gate, Ins.cpos, n.isLt, if_true]
  · rw [dirL_val 0 (by decide), logL_val _ b n ⟨0, by decide⟩ h _ ((kindL_val 1 (by decide) _ _ b n _ h).trans (gL R b n _ _ h)), (line_f b).1, (line_f b).2]
    simp only [Ins.seq, Ins.gate, Ins.lpos, if_true]
    rw [if_neg (by omega), Nat.add_sub_cancel]
  · rw [dirC_val 1 (by decide), logC_val _ b n ⟨1, by decide⟩ h _ ((kindC_val 1 (by decide) _ _ b n _ h).trans (gC R b n _ _ h)), (line_b b).1, (line_b b).2]
    simp only [Ins.seq, Ins.gate, Ins.cpos, one_ne_zero, if_false]
    rw [if_pos (by omega), show 255 - (255 - (n : ℕ)) = n from by omega]
  · rw [dirL_val 1 (by decide), logL_val _ b n ⟨1, by decide⟩ h _ ((kindL_val 1 (by decide) _ _ b n _ h).trans (gL R b n _ _ h)), (line_b b).1, (line_b b).2]
    simp only [Ins.seq, Ins.gate, Ins.lpos, one_ne_zero, if_false]
    rw [if_neg (by omega), show 4351 - (4351 - (n : ℕ)) = n from by omega]

include R in
/-- The scan's start. -/
theorem at_entry : At X 0 (entryContents preI m c) where
  r_ctr i := by rw [ctr_entry]
  r_k := at_k R
  r_v := at_v R
  r_ig := at_ig R
  r_lf := at_lf R
  r_q := at_q R
  r_tri := entry_tri m c
  r_C b h e x := by rw [entry_C]; simp [Seq.acc]
  r_n b h x := by rw [entry_n]; simp [Seq.acc]
  r_m b h := by rw [entry_m]; simp [Seq.M, Seq.F, Seq.A]
  r_out ch hch := absurd hch (Nat.not_lt_zero _)

/-! The two results. -/

/-- Direction 0's outputs at the latent tokens. -/
def outF (X : Ins) (y : S4x4096x2048.Idx) : EReal :=
  (((X.seq 0 (y 0).val ((y 2).val / 512)).H (256 + (y 1).val) ⟨(y 2).val % 512, Nat.mod_lt _ (by decide)⟩ : ℝ) : EReal)
/-- Direction 1's. -/
def outB (X : Ins) (y : S4x4096x2048.Idx) : EReal :=
  (((X.seq 1 (y 0).val ((y 2).val / 512)).H (4351 - (y 1).val) ⟨(y 2).val % 512, Nat.mod_lt _ (by decide)⟩ : ℝ) : EReal)

theorem uncut (z : FVec Ideal S68x8x64x4x512 .f32) (b : Fin 8) (n : Fin 4352) (h : Fin 4) (e : Fin 512) :
    shapeCast S8x4352x4x512 (transpose S8x68x64x4x512 [1, 0, 2, 3, 4] z Gen.transposes_S68x8x64x4x512_S8x68x64x4x512_1_0_2_3_4) Gen.shapeCasts_S8x68x64x4x512_S8x4352x4x512
      (ix4 b n h e) = z (ix5 ⟨n / 64, by omega⟩ b ⟨n % 64, Nat.mod_lt _ (by decide)⟩ h e) := by
  pointwise

theorem lat_f (z : FVec Ideal S8x4352x4x512 .f32) (b : Fin 4) (l : Fin 4096) (x : Fin 2048) :
    shapeCast S4x4096x2048 (extractStridedSlice S4x4096x4x512 ![0, 0, 0, 0] (extractStridedSlice S8x4096x4x512 ![0, 256, 0, 0] z slices_S8x4352x4x512_S8x4096x4x512_0_256_0_0)
      slices_S8x4096x4x512_S4x4096x4x512_0_0_0_0) shapeCasts_S4x4096x4x512_S4x4096x2048 (ix3 b l x)
      = z (ix4 ⟨b, by omega⟩ ⟨256 + l, by omega⟩ ⟨x / 512, by omega⟩ ⟨x % 512, Nat.mod_lt _ (by decide)⟩) := by
  pointwise

theorem lat_b (z : FVec Ideal S8x4352x4x512 .f32) (b : Fin 4) (l : Fin 4096) (x : Fin 2048) :
    shapeCast S4x4096x2048 (Host.reverse [1] (extractStridedSlice S4x4096x4x512 ![4, 0, 0, 0] (extractStridedSlice S8x4096x4x512 ![0, 256, 0, 0] z slices_S8x4352x4x512_S8x4096x4x512_0_256_0_0)
      slices_S8x4096x4x512_S4x4096x4x512_4_0_0_0)) shapeCasts_S4x4096x4x512_S4x4096x2048 (ix3 b l x)
      = z (ix4 ⟨b + 4, by omega⟩ ⟨4351 - l, by omega⟩ ⟨x / 512, by omega⟩ ⟨x % 512, Nat.mod_lt _ (by decide)⟩) := by
  pointwise
  have e0 : (⟨4 + (b : ℕ), by omega⟩ : Fin 8) = ⟨b + 4, by omega⟩ := Fin.ext (Nat.add_comm _ _)
  have e1 : (⟨256 + (l.rev : ℕ), by omega⟩ : Fin 4352) = ⟨4351 - l, by omega⟩ :=
    Fin.ext (by show 256 + (l.rev : ℕ) = 4351 - l; rw [Fin.val_rev]; omega)
  exact congrArg₂ (fun p q => z (ix4 p q _ _)) e0 e1

theorem at_out {V : Valuation τ sig (Elt Ideal)} (A : At X 68 V) (b : Fin 8) (n : Fin 4352) (h : Fin 4) (e : Fin 512) :
    V (Proc.devRef .tc main_v91_10) (ix5 ⟨n / 64, by omega⟩ b ⟨n % 64, Nat.mod_lt _ (by decide)⟩ h e) = (((X.sq b h).H n e : ℝ) : EReal) := by
  rw [A.r_out _ (by show (n : ℕ) / 64 < 68; omega)]
  rw [show 64 * (n / 64 : ℕ) + (n % 64 : ℕ) = n from Nat.div_add_mod _ _]

theorem idx3 (y : S4x4096x2048.Idx) : y = ix3 (y 0) (y 1) (y 2) := by
  funext a
  fin_cases a <;> rfl

theorem sq_lo (b : Fin 4) (h : ℕ) (hh : h < 4) : X.sq ⟨b, by omega⟩ ⟨h, hh⟩ = X.seq 0 b h := by
  show X.seq ((b : ℕ) / 4) ((b : ℕ) % 4) h = X.seq 0 b h
  rw [Nat.div_eq_of_lt b.isLt, Nat.mod_eq_of_lt b.isLt]

theorem sq_hi (b : Fin 4) (h : ℕ) (hh : h < 4) : X.sq ⟨b + 4, by omega⟩ ⟨h, hh⟩ = X.seq 1 b h := by
  show X.seq (((b : ℕ) + 4) / 4) (((b : ℕ) + 4) % 4) h = X.seq 1 b h
  rw [Nat.add_div_right _ (by decide), Nat.add_mod_right, Nat.div_eq_of_lt b.isLt, Nat.mod_eq_of_lt b.isLt]

include R in
/-- The reference's first result. -/
theorem out96 : out_main_v96 (STEP^[68] (entryContents preI m c)) = outF X := by
  have A := (at_entry R).iter 68 le_rfl
  funext y
  obtain ⟨b, l, x, rfl⟩ : ∃ b l x, y = ix3 b l x := ⟨y 0, y 1, y 2, idx3 y⟩
  refine (lat_f _ b l x).trans ((uncut _ _ _ _ _).trans ((at_out A _ _ _ _).trans ?_))
  exact congrArg (fun q : Seq => ((q.H (256 + (l : ℕ)) ⟨(x : ℕ) % 512, Nat.mod_lt _ (by decide)⟩ : ℝ) : EReal)) (sq_lo b _ (by omega))

include R in
/-- The reference's second result. -/
theorem out99 : out_main_v99 (STEP^[68] (entryContents preI m c)) = outB X := by
  have A := (at_entry R).iter 68 le_rfl
  funext y
  obtain ⟨b, l, x, rfl⟩ : ∃ b l x, y = ix3 b l x := ⟨y 0, y 1, y 2, idx3 y⟩
  refine (lat_b _ b l x).trans ((uncut _ _ _ _ _).trans ((at_out A _ _ _ _).trans ?_))
  exact congrArg (fun q : Seq => ((q.H (4351 - (l : ℕ)) ⟨(x : ℕ) % 512, Nat.mod_lt _ (by decide)⟩ : ℝ) : EReal)) (sq_hi b _ (by omega))

end Cert.Mlstm
-- ==== Proof.MlGiven.lean ====
/- What the precondition says: every argument is an array of real numbers. -/
module

public import proofs.«01_k».proof.Defs
public import proofs.«01_k».proof.Proof.MlFold
public import proofs.«01_k».proof.Proof.MlStart
public import Idealize.ShloMosaic.Lib.ReduceAll

@[expose] public section

noncomputable section

open Idealize.ShloMosaic Idealize.ShloMosaic.TcCoe Idealize.SL.Sem

namespace Cert.Mlstm

open Cert.Pre_finite_inputs in
/-- The side conditions of the precondition's operations. -/
theorem pre_facts : Cert.Pre_finite_inputs.Facts where
  bcast_S_S4x4096x12288 := by decide
  reducesTo_S4x4096x12288_S_d0_1_2 := by decide
  h_S_ := by decide
  bcast_S_S4x4096x128 := by decide
  reducesTo_S4x4096x128_S_d0_1_2 := by decide
  bcast_S_S4x256x3072 := by decide
  reducesTo_S4x256x3072_S_d0_1_2 := by decide
  bcast_S_S4x256x128 := by decide
  reducesTo_S4x256x128_S_d0_1_2 := by decide
  bcast_S_S1x16 := by decide
  reducesTo_S1x16_S_d0_1 := by decide

instance : Subsingleton Cert.Pre_finite_inputs.S_.Idx := ⟨fun a b => funext fun k => k.elim0⟩

theorem real_of_lt (x : EReal) (h : FloatOps.cmpf (F := Ideal) (φ := .f32) .olt (FloatOps.hostAbsf x) (FloatOps.ofBits (F := Ideal) .f32 0x7F800000#32) = 1#1) :
    x = ((x.toReal : ℝ) : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have hlt : max x (-x) < ⊤ := by
    by_contra hn
    simp [Ideal.cmp, hn] at h'
  refine (EReal.coe_toReal ?_ ?_).symm
  · rintro rfl
    simp at hlt
  · rintro rfl
    simp at hlt

/-- The precondition on five arrays: each of their elements is a real number. -/
theorem real_all [Cert.Pre_finite_inputs.Facts] (a0 : FVec Ideal Cert.Pre_finite_inputs.S4x4096x12288 .f32) (a1 : FVec Ideal Cert.Pre_finite_inputs.S4x4096x128 .f32)
    (a2 : FVec Ideal Cert.Pre_finite_inputs.S4x256x3072 .f32) (a3 : FVec Ideal Cert.Pre_finite_inputs.S4x256x128 .f32) (a4 : FVec Ideal Cert.Pre_finite_inputs.S1x16 .f32)
    (h : Cert.Pre_finite_inputs.fn (F := Ideal) a0 a1 a2 a3 a4 = fun _ => 1#1) :
    (∀ i, a0 i = ((EReal.toReal (a0 i) : ℝ) : EReal)) ∧ (∀ i, a1 i = ((EReal.toReal (a1 i) : ℝ) : EReal)) ∧ (∀ i, a2 i = ((EReal.toReal (a2 i) : ℝ) : EReal))
      ∧ (∀ i, a3 i = ((EReal.toReal (a3 i) : ℝ) : EReal)) ∧ (∀ i, a4 i = ((EReal.toReal (a4 i) : ℝ) : EReal)) := by
  have e := congrFun h (fun k => k.elim0)
  dsimp only [Cert.Pre_finite_inputs.fn, Cert.Pre_finite_inputs.fn_part1] at e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨fun i => real_of_lt _ (Host.reduce_andi_all _ _ _ _ _ e0 i), fun i => real_of_lt _ (Host.reduce_andi_all _ _ _ _ _ e1 i),
    fun i => real_of_lt _ (Host.reduce_andi_all _ _ _ _ _ e2 i), fun i => real_of_lt _ (Host.reduce_andi_all _ _ _ _ _ e3 i),
    fun i => real_of_lt _ (Host.reduce_andi_all _ _ _ _ _ e4 i)⟩

/-- A three-axis array's real numbers, by the numbers of its indices. -/
def tab3 {s0 s1 s2 : ℕ} (a : FVec Ideal ⟨3, ![s0, s1, s2]⟩ .f32) (b l x : ℕ) : ℝ :=
  if h : b < s0 ∧ l < s1 ∧ x < s2 then EReal.toReal (a (ix3 ⟨b, h.1⟩ ⟨l, h.2.1⟩ ⟨x, h.2.2⟩)) else 0

theorem tab3_val {s0 s1 s2 : ℕ} (a : FVec Ideal ⟨3, ![s0, s1, s2]⟩ .f32) (h : ∀ i, a i = ((EReal.toReal (a i) : ℝ) : EReal)) (b : Fin s0) (l : Fin s1) (x : Fin s2) :
    a (ix3 b l x) = ((tab3 a b l x : ℝ) : EReal) := by
  rw [tab3, dif_pos ⟨b.isLt, l.isLt, x.isLt⟩]
  exact h _

/-- A row's real numbers. -/
def tab2 {s1 : ℕ} (a : FVec Ideal ⟨2, ![1, s1]⟩ .f32) (x : ℕ) : ℝ :=
  if h : x < s1 then EReal.toReal (a (ix2 0 ⟨x, h⟩)) else 0

theorem tab2_val {s1 : ℕ} (a : FVec Ideal ⟨2, ![1, s1]⟩ .f32) (h : ∀ i, a i = ((EReal.toReal (a i) : ℝ) : EReal)) (x : Fin s1) :
    a (ix2 0 x) = ((tab2 a x : ℝ) : EReal) := by
  rw [tab2, dif_pos x.isLt]
  exact h _

/-- The two programs' arguments are the same real numbers. -/
theorem both_real [Cert.Pre_finite_inputs.Facts]
    (m : (ℓ : Loc Cert.Kernel5Ideal.nD Cert.Kernel5Ideal.τ Cert.Kernel5Ideal.sig) → Buf (Elt Ideal) ℓ) (c : Dev Cert.Kernel5Ideal.nD)
    (m' : (ℓ : Loc Cert.Reference5Ideal.nD Cert.Reference5Ideal.τ Cert.Reference5Ideal.sig) → Buf (Elt Ideal) ℓ) (c' : Dev Cert.Reference5Ideal.nD)
    (h : Cert.Pre_finite_inputs.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) = fun _ => 1#1)
    (a0 : m' ((c'.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0))
    (a1 : m' ((c'.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1))
    (a2 : m' ((c'.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2))
    (a3 : m' ((c'.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3))
    (a4 : m' ((c'.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) :
    ∃ X : Ins, Real_ m c X ∧ RealR m' c' X := by
  obtain ⟨h0, h1, h2, h3, h4⟩ := real_all _ _ _ _ _ h
  refine ⟨⟨tab3 _, tab3 _, tab3 _, tab3 _, tab2 _⟩, ⟨tab3_val _ h0, tab3_val _ h1, tab3_val _ h2, tab3_val _ h3, tab2_val _ h4⟩, ?_⟩
  refine ⟨fun b l x => ?_, fun b l x => ?_, fun b l x => ?_, fun b l x => ?_, fun x => ?_⟩
  · exact (congrFun a0 _).trans (tab3_val _ h0 b l x)
  · exact (congrFun a1 _).trans (tab3_val _ h1 b l x)
  · exact (congrFun a2 _).trans (tab3_val _ h2 b l x)
  · exact (congrFun a3 _).trans (tab3_val _ h3 b l x)
  · exact (congrFun a4 _).trans (tab2_val _ h4 x)

end Cert.Mlstm

end
-- ==== Proof.lean ====
/- The claims about the layer's kernels, put together from the modules under Proof/. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Loops
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.FfnArr
public import proofs.«01_k».proof.Proof.FfnRef
public import proofs.«01_k».proof.Proof.Ffn1Arr
public import proofs.«01_k».proof.Proof.Ffn1Ref
public import proofs.«01_k».proof.Proof.FfncArr
public import proofs.«01_k».proof.Proof.FfncRef
public import proofs.«01_k».proof.Proof.OutpArr
public import proofs.«01_k».proof.Proof.OutpRef
public import proofs.«01_k».proof.Proof.MlFold
public import proofs.«01_k».proof.Proof.MlStart
public import proofs.«01_k».proof.Proof.MlGiven
public import Idealize.ShloMosaic.Lib.Claim
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts
attribute [local instance] Cert.Kernel2.Gen.facts Cert.Kernel2Ideal.Gen.facts Cert.Reference2Ideal.Gen.facts
attribute [local instance] Cert.Kernel3.Gen.facts Cert.Kernel3Ideal.Gen.facts Cert.Reference3Ideal.Gen.facts
attribute [local instance] Cert.Mlstm.pre_facts Cert.Kernel5.Gen.facts Cert.Kernel5Ideal.Gen.facts Cert.Reference5Ideal.Gen.facts
attribute [local instance] Cert.Kernel4.Gen.facts Cert.Kernel4Ideal.Gen.facts Cert.Reference4Ideal.Gen.facts

/-- Its reference has no semaphores. -/
theorem no_sems (f : GSem Cert.ReferenceIdeal.nD Cert.ReferenceIdeal.τ Cert.ReferenceIdeal.sig → Int) : f = fun _ => 0 := by
  funext s
  rcases s with ⟨_, s | s⟩
  · exact Fin.elim0 (show Fin 0 from s)
  · exact Fin.elim0 (show Fin 0 from s)

theorem frame_R : Cert.quiescent_ReferenceIdeal := fun m g _ =>
  (θ_run _ _ _).mono (fun r h => ⟨fun c => (h c).2, no_sems _⟩) (Cert.ReferenceIdeal.Value.run m g)

/-- The second half-step's kernel and its reference end with the same numbers. -/
theorem values : Cert.algebraic_KernelIdeal_ReferenceIdeal := by
  intro m g m' g' _ hagree
  refine ⟨_, Cert.KernelIdeal.Value.run_blocks m g, ?_⟩
  refine (θ_run _ _ _).mono (fun r h c => ⟨(h c).1.trans ?_, (h c).2⟩) (Cert.ReferenceIdeal.Value.run m' g')
  obtain ⟨h0, h1, h2, h3, h4, h5⟩ := hagree c
  exact (Cert.Ffn.ref h0 h1 h2 h3 h4 h5).trans (Cert.Ffn.arr m c).symm

/-- Its reference has no semaphores. -/
theorem no_sems2 (f : GSem Cert.Reference2Ideal.nD Cert.Reference2Ideal.τ Cert.Reference2Ideal.sig → Int) : f = fun _ => 0 := by
  funext s
  rcases s with ⟨_, s | s⟩
  · exact Fin.elim0 (show Fin 0 from s)
  · exact Fin.elim0 (show Fin 0 from s)

theorem frame_R2 : Cert.quiescent_Reference2Ideal := fun m g _ =>
  (θ_run _ _ _).mono (fun r h => ⟨fun c => (h c).2, no_sems2 _⟩) (Cert.Reference2Ideal.Value.run m g)

/-- The first half-step's kernel on the latent tokens and its reference end with the same numbers. -/
theorem values2 : Cert.algebraic_Kernel2Ideal_Reference2Ideal := by
  intro m g m' g' _ hagree
  refine ⟨_, Cert.Kernel2Ideal.Value.run_blocks m g, ?_⟩
  refine (θ_run _ _ _).mono (fun r h c => ⟨(h c).1.trans ?_, (h c).2⟩) (Cert.Reference2Ideal.Value.run m' g')
  obtain ⟨h0, h1, h2, h3, h4, h5⟩ := hagree c
  exact (Cert.Ffn1.ref h0 h1 h2 h3 h4 h5).trans (Cert.Ffn1.arr m c).symm

/-- Its reference has no semaphores. -/
theorem no_sems3 (f : GSem Cert.Reference3Ideal.nD Cert.Reference3Ideal.τ Cert.Reference3Ideal.sig → Int) : f = fun _ => 0 := by
  funext s
  rcases s with ⟨_, s | s⟩
  · exact Fin.elim0 (show Fin 0 from s)
  · exact Fin.elim0 (show Fin 0 from s)

theorem frame_R3 : Cert.quiescent_Reference3Ideal := fun m g _ =>
  (θ_run _ _ _).mono (fun r h => ⟨fun c => (h c).2, no_sems3 _⟩) (Cert.Reference3Ideal.Value.run m g)

/-- The first half-step's kernel on the context and its reference end with the same numbers. -/
theorem values3 : Cert.algebraic_Kernel3Ideal_Reference3Ideal := by
  intro m g m' g' _ hagree
  refine ⟨_, Cert.Kernel3Ideal.Value.run_blocks m g, ?_⟩
  refine (θ_run _ _ _).mono (fun r h c => ⟨(h c).1.trans ?_, (h c).2⟩) (Cert.Reference3Ideal.Value.run m' g')
  obtain ⟨h0, h1, h2, h3, h4, h5⟩ := hagree c
  exact (Cert.Ffnc.ref h0 h1 h2 h3 h4 h5).trans (Cert.Ffnc.arr m c).symm

/-- Its reference has no semaphores. -/
theorem no_sems4 (f : GSem Cert.Reference4Ideal.nD Cert.Reference4Ideal.τ Cert.Reference4Ideal.sig → Int) : f = fun _ => 0 := by
  funext s
  rcases s with ⟨_, s | s⟩
  · exact Fin.elim0 (show Fin 0 from s)
  · exact Fin.elim0 (show Fin 0 from s)

theorem frame_R4 : Cert.quiescent_Reference4Ideal := fun m g _ =>
  (θ_run _ _ _).mono (fun r h => ⟨fun c => (h c).2, no_sems4 _⟩) (Cert.Reference4Ideal.Value.run m g)

/-- The output projection's kernel and its reference end with the same numbers. -/
theorem values4 : Cert.algebraic_Kernel4Ideal_Reference4Ideal := by
  intro m g m' g' _ hagree
  refine ⟨_, Cert.Kernel4Ideal.Value.run_blocks m g, ?_⟩
  refine (θ_run _ _ _).mono (fun r h c => ⟨(h c).1.trans ?_, (h c).2⟩) (Cert.Reference4Ideal.Value.run m' g')
  obtain ⟨h0, h1, h2, h3, h4⟩ := hagree c
  exact (Cert.Outp.ref h0 h1 h2 h3 h4).trans (Cert.Outp.arr m c).symm

/-- Nor has the mLSTM's reference. -/
theorem no_sems5 (f : GSem Cert.Reference5Ideal.nD Cert.Reference5Ideal.τ Cert.Reference5Ideal.sig → Int) : f = fun _ => 0 := by
  funext s
  rcases s with ⟨_, s | s⟩
  · exact Fin.elim0 (show Fin 0 from s)
  · exact Fin.elim0 (show Fin 0 from s)

theorem frame_R5 : Cert.quiescent_Reference5Ideal := fun m g _ =>
  (θ_run _ _ _).mono (fun r h => ⟨fun c => (h c).2.2, no_sems5 _⟩) (Cert.Reference5Ideal.Value.run m g)

open Cert.Mlstm in
/-- From the same finite arguments the mLSTM's two arrays and its reference's hold the same numbers. -/
theorem values5 : Cert.algebraic_Kernel5Ideal_Reference5Ideal_pre_finite_inputs := by
  intro m g m' g' hpre hagree
  refine ⟨_, _, Cert.Kernel5Ideal.Value.run_blocks m g, ?_⟩
  refine (θ_run _ _ _).mono (fun r h c => ?_) (Cert.Reference5Ideal.Value.run m' g')
  obtain ⟨X, RK, RR⟩ := both_real m c m' c (hpre c) (hagree c).1 (hagree c).2.1 (hagree c).2.2.1 (hagree c).2.2.2.1 (hagree c).2.2.2.2
  exact ⟨(h c).1.trans ((out96 RR).trans (hf_arr RK).symm), (h c).2.1.trans ((out99 RR).trans (hb_arr RK).symm), (h c).2.2⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Mlstm.pre_facts,
  fun m g _ => Cert.Kernel.Gen.frame m g, fun m g _ => Cert.KernelIdeal.Gen.frame m g, frame_R,
  fun m g _ => Cert.Kernel2.Gen.frame m g, fun m g _ => Cert.Kernel2Ideal.Gen.frame m g, frame_R2,
  fun m g _ => Cert.Kernel3.Gen.frame m g, fun m g _ => Cert.Kernel3Ideal.Gen.frame m g, frame_R3,
  fun m g _ => Cert.Kernel4.Gen.frame m g, fun m g _ => Cert.Kernel4Ideal.Gen.frame m g, frame_R4,
  fun m g _ => Cert.Kernel5.Gen.frame m g, fun m g _ => Cert.Kernel5Ideal.Gen.frame m g, fun m g _ => Cert.Kernel5Ideal.Gen.frame m g,
  frame_R5, fun m g _ => frame_R5 m g trivial,
  trivial, values, trivial, values2, trivial, values3, trivial, values4, trivial, values5⟩

end Cert.Proof

end
